-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12)
      ∧ r.2.mem ((c.tc : Thread Cert.Mlp.nD Cert.Mlp.τ).loc Cert.Mlp.main_arg13) = m ((c.tc : Thread Cert.Mlp.nD Cert.Mlp.τ).loc Cert.Mlp.main_arg13)
      ∧ r.2.mem ((c.tc : Thread Cert.Mlp.nD Cert.Mlp.τ).loc Cert.Mlp.main_arg14) = m ((c.tc : Thread Cert.Mlp.nD Cert.Mlp.τ).loc Cert.Mlp.main_arg14)
      ∧ r.2.mem ((c.tc : Thread Cert.Mlp.nD Cert.Mlp.τ).loc Cert.Mlp.main_arg15) = m ((c.tc : Thread Cert.Mlp.nD Cert.Mlp.τ).loc Cert.Mlp.main_arg15)
      ∧ r.2.mem ((c.tc : Thread Cert.Mlp.nD Cert.Mlp.τ).loc Cert.Mlp.main_arg16) = m ((c.tc : Thread Cert.Mlp.nD Cert.Mlp.τ).loc Cert.Mlp.main_arg16)
      ∧ r.2.mem ((c.tc : Thread Cert.Mlp.nD Cert.Mlp.τ).loc Cert.Mlp.main_arg17) = m ((c.tc : Thread Cert.Mlp.nD Cert.Mlp.τ).loc Cert.Mlp.main_arg17)
      ∧ r.2.mem ((c.tc : Thread Cert.Mlp.nD Cert.Mlp.τ).loc Cert.Mlp.main_arg18) = m ((c.tc : Thread Cert.Mlp.nD Cert.Mlp.τ).loc Cert.Mlp.main_arg18)
      ∧ r.2.mem ((c.tc : Thread Cert.Mlp.nD Cert.Mlp.τ).loc Cert.Mlp.main_arg19) = m ((c.tc : Thread Cert.Mlp.nD Cert.Mlp.τ).loc Cert.Mlp.main_arg19)
      ∧ r.2.mem ((c.tc : Thread Cert.Mlp.nD Cert.Mlp.τ).loc Cert.Mlp.main_arg20) = m ((c.tc : Thread Cert.Mlp.nD Cert.Mlp.τ).loc Cert.Mlp.main_arg20)
      ∧ r.2.mem ((c.tc : Thread Cert.Mlp.nD Cert.Mlp.τ).loc Cert.Mlp.main_arg21) = m ((c.tc : Thread Cert.Mlp.nD Cert.Mlp.τ).loc Cert.Mlp.main_arg21))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
      ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
      ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
      ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15)
      ∧ r.2.mem ((c.tc : Thread Cert.MlpIdeal.nD Cert.MlpIdeal.τ).loc Cert.MlpIdeal.main_arg16) = m ((c.tc : Thread Cert.MlpIdeal.nD Cert.MlpIdeal.τ).loc Cert.MlpIdeal.main_arg16)
      ∧ r.2.mem ((c.tc : Thread Cert.MlpIdeal.nD Cert.MlpIdeal.τ).loc Cert.MlpIdeal.main_arg17) = m ((c.tc : Thread Cert.MlpIdeal.nD Cert.MlpIdeal.τ).loc Cert.MlpIdeal.main_arg17)
      ∧ r.2.mem ((c.tc : Thread Cert.MlpIdeal.nD Cert.MlpIdeal.τ).loc Cert.MlpIdeal.main_arg18) = m ((c.tc : Thread Cert.MlpIdeal.nD Cert.MlpIdeal.τ).loc Cert.MlpIdeal.main_arg18)
      ∧ r.2.mem ((c.tc : Thread Cert.MlpIdeal.nD Cert.MlpIdeal.τ).loc Cert.MlpIdeal.main_arg19) = m ((c.tc : Thread Cert.MlpIdeal.nD Cert.MlpIdeal.τ).loc Cert.MlpIdeal.main_arg19)
      ∧ r.2.mem ((c.tc : Thread Cert.MlpIdeal.nD Cert.MlpIdeal.τ).loc Cert.MlpIdeal.main_arg20) = m ((c.tc : Thread Cert.MlpIdeal.nD Cert.MlpIdeal.τ).loc Cert.MlpIdeal.main_arg20)
      ∧ r.2.mem ((c.tc : Thread Cert.MlpIdeal.nD Cert.MlpIdeal.τ).loc Cert.MlpIdeal.main_arg21) = m ((c.tc : Thread Cert.MlpIdeal.nD Cert.MlpIdeal.τ).loc Cert.MlpIdeal.main_arg21))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12)
      ∧ r.2.mem ((c.tc : Thread Cert.MlpRefIdeal.nD Cert.MlpRefIdeal.τ).loc Cert.MlpRefIdeal.main_arg13) = m ((c.tc : Thread Cert.MlpRefIdeal.nD Cert.MlpRefIdeal.τ).loc Cert.MlpRefIdeal.main_arg13)
      ∧ r.2.mem ((c.tc : Thread Cert.MlpRefIdeal.nD Cert.MlpRefIdeal.τ).loc Cert.MlpRefIdeal.main_arg14) = m ((c.tc : Thread Cert.MlpRefIdeal.nD Cert.MlpRefIdeal.τ).loc Cert.MlpRefIdeal.main_arg14)
      ∧ r.2.mem ((c.tc : Thread Cert.MlpRefIdeal.nD Cert.MlpRefIdeal.τ).loc Cert.MlpRefIdeal.main_arg15) = m ((c.tc : Thread Cert.MlpRefIdeal.nD Cert.MlpRefIdeal.τ).loc Cert.MlpRefIdeal.main_arg15)
      ∧ r.2.mem ((c.tc : Thread Cert.MlpRefIdeal.nD Cert.MlpRefIdeal.τ).loc Cert.MlpRefIdeal.main_arg16) = m ((c.tc : Thread Cert.MlpRefIdeal.nD Cert.MlpRefIdeal.τ).loc Cert.MlpRefIdeal.main_arg16)
      ∧ r.2.mem ((c.tc : Thread Cert.MlpRefIdeal.nD Cert.MlpRefIdeal.τ).loc Cert.MlpRefIdeal.main_arg17) = m ((c.tc : Thread Cert.MlpRefIdeal.nD Cert.MlpRefIdeal.τ).loc Cert.MlpRefIdeal.main_arg17)
      ∧ r.2.mem ((c.tc : Thread Cert.MlpRefIdeal.nD Cert.MlpRefIdeal.τ).loc Cert.MlpRefIdeal.main_arg18) = m ((c.tc : Thread Cert.MlpRefIdeal.nD Cert.MlpRefIdeal.τ).loc Cert.MlpRefIdeal.main_arg18)
      ∧ r.2.mem ((c.tc : Thread Cert.MlpRefIdeal.nD Cert.MlpRefIdeal.τ).loc Cert.MlpRefIdeal.main_arg19) = m ((c.tc : Thread Cert.MlpRefIdeal.nD Cert.MlpRefIdeal.τ).loc Cert.MlpRefIdeal.main_arg19)
      ∧ r.2.mem ((c.tc : Thread Cert.MlpRefIdeal.nD Cert.MlpRefIdeal.τ).loc Cert.MlpRefIdeal.main_arg20) = m ((c.tc : Thread Cert.MlpRefIdeal.nD Cert.MlpRefIdeal.τ).loc Cert.MlpRefIdeal.main_arg20)
      ∧ r.2.mem ((c.tc : Thread Cert.MlpRefIdeal.nD Cert.MlpRefIdeal.τ).loc Cert.MlpRefIdeal.main_arg21) = m ((c.tc : Thread Cert.MlpRefIdeal.nD Cert.MlpRefIdeal.τ).loc Cert.MlpRefIdeal.main_arg21))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)
      ∧ m' ((c.tc : Thread Cert.MlpRefIdeal.nD Cert.MlpRefIdeal.τ).loc Cert.MlpRefIdeal.main_arg13) = m ((c.tc : Thread Cert.MlpIdeal.nD Cert.MlpIdeal.τ).loc Cert.MlpIdeal.main_arg13)
      ∧ m' ((c.tc : Thread Cert.MlpRefIdeal.nD Cert.MlpRefIdeal.τ).loc Cert.MlpRefIdeal.main_arg14) = m ((c.tc : Thread Cert.MlpIdeal.nD Cert.MlpIdeal.τ).loc Cert.MlpIdeal.main_arg14)
      ∧ m' ((c.tc : Thread Cert.MlpRefIdeal.nD Cert.MlpRefIdeal.τ).loc Cert.MlpRefIdeal.main_arg15) = m ((c.tc : Thread Cert.MlpIdeal.nD Cert.MlpIdeal.τ).loc Cert.MlpIdeal.main_arg15)
      ∧ m' ((c.tc : Thread Cert.MlpRefIdeal.nD Cert.MlpRefIdeal.τ).loc Cert.MlpRefIdeal.main_arg16) = m ((c.tc : Thread Cert.MlpIdeal.nD Cert.MlpIdeal.τ).loc Cert.MlpIdeal.main_arg16)
      ∧ m' ((c.tc : Thread Cert.MlpRefIdeal.nD Cert.MlpRefIdeal.τ).loc Cert.MlpRefIdeal.main_arg17) = m ((c.tc : Thread Cert.MlpIdeal.nD Cert.MlpIdeal.τ).loc Cert.MlpIdeal.main_arg17)
      ∧ m' ((c.tc : Thread Cert.MlpRefIdeal.nD Cert.MlpRefIdeal.τ).loc Cert.MlpRefIdeal.main_arg18) = m ((c.tc : Thread Cert.MlpIdeal.nD Cert.MlpIdeal.τ).loc Cert.MlpIdeal.main_arg18)
      ∧ m' ((c.tc : Thread Cert.MlpRefIdeal.nD Cert.MlpRefIdeal.τ).loc Cert.MlpRefIdeal.main_arg19) = m ((c.tc : Thread Cert.MlpIdeal.nD Cert.MlpIdeal.τ).loc Cert.MlpIdeal.main_arg19)
      ∧ m' ((c.tc : Thread Cert.MlpRefIdeal.nD Cert.MlpRefIdeal.τ).loc Cert.MlpRefIdeal.main_arg20) = m ((c.tc : Thread Cert.MlpIdeal.nD Cert.MlpIdeal.τ).loc Cert.MlpIdeal.main_arg20)
      ∧ m' ((c.tc : Thread Cert.MlpRefIdeal.nD Cert.MlpRefIdeal.τ).loc Cert.MlpRefIdeal.main_arg21) = m ((c.tc : Thread Cert.MlpIdeal.nD Cert.MlpIdeal.τ).loc Cert.MlpIdeal.main_arg21)) →
    ∃ (v0 : (c : Dev Cert.MlpIdeal.nD) → Buf (Elt Ideal) ((c.tc : Thread Cert.MlpIdeal.nD Cert.MlpIdeal.τ).loc Cert.MlpIdeal.main_v57)) (v1 : (c : Dev Cert.MlpIdeal.nD) → Buf (Elt Ideal) ((c.tc : Thread Cert.MlpIdeal.nD Cert.MlpIdeal.τ).loc Cert.MlpIdeal.main_v58_0)) (v2 : (c : Dev Cert.MlpIdeal.nD) → Buf (Elt Ideal) ((c.tc : Thread Cert.MlpIdeal.nD Cert.MlpIdeal.τ).loc Cert.MlpIdeal.main_v95)) (v3 : (c : Dev Cert.MlpIdeal.nD) → Buf (Elt Ideal) ((c.tc : Thread Cert.MlpIdeal.nD Cert.MlpIdeal.τ).loc Cert.MlpIdeal.main_v56_0)) (v4 : (c : Dev Cert.MlpIdeal.nD) → Buf (Elt Ideal) ((c.tc : Thread Cert.MlpIdeal.nD Cert.MlpIdeal.τ).loc Cert.MlpIdeal.main_v55_0)) (v5 : (c : Dev Cert.MlpIdeal.nD) → Buf (Elt Ideal) ((c.tc : Thread Cert.MlpIdeal.nD Cert.MlpIdeal.τ).loc Cert.MlpIdeal.main_v55_3)) (v6 : (c : Dev Cert.MlpIdeal.nD) → Buf (Elt Ideal) ((c.tc : Thread Cert.MlpIdeal.nD Cert.MlpIdeal.τ).loc Cert.MlpIdeal.main_v91_0)) (v7 : (c : Dev Cert.MlpIdeal.nD) → Buf (Elt Ideal) ((c.tc : Thread Cert.MlpIdeal.nD Cert.MlpIdeal.τ).loc Cert.MlpIdeal.main_v91_1)) (v8 : (c : Dev Cert.MlpIdeal.nD) → Buf (Elt Ideal) ((c.tc : Thread Cert.MlpIdeal.nD Cert.MlpIdeal.τ).loc Cert.MlpIdeal.main_v55_2)) (v9 : (c : Dev Cert.MlpIdeal.nD) → Buf (Elt Ideal) ((c.tc : Thread Cert.MlpIdeal.nD Cert.MlpIdeal.τ).loc Cert.MlpIdeal.main_v55_4)) (v10 : (c : Dev Cert.MlpIdeal.nD) → Buf (Elt Ideal) ((c.tc : Thread Cert.MlpIdeal.nD Cert.MlpIdeal.τ).loc Cert.MlpIdeal.main_v88_0)) (v11 : (c : Dev Cert.MlpIdeal.nD) → Buf (Elt Ideal) ((c.tc : Thread Cert.MlpIdeal.nD Cert.MlpIdeal.τ).loc Cert.MlpIdeal.main_v88_1)) (v12 : (c : Dev Cert.MlpIdeal.nD) → Buf (Elt Ideal) ((c.tc : Thread Cert.MlpIdeal.nD Cert.MlpIdeal.τ).loc Cert.MlpIdeal.main_v89_0)) (v13 : (c : Dev Cert.MlpIdeal.nD) → Buf (Elt Ideal) ((c.tc : Thread Cert.MlpIdeal.nD Cert.MlpIdeal.τ).loc Cert.MlpIdeal.main_v89_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v57) = v0 c
          ∧ r.2.mem ((c.tc : Thread Cert.MlpIdeal.nD Cert.MlpIdeal.τ).loc Cert.MlpIdeal.main_v58_0) = v1 c
          ∧ r.2.mem ((c.tc : Thread Cert.MlpIdeal.nD Cert.MlpIdeal.τ).loc Cert.MlpIdeal.main_v95) = v2 c
          ∧ r.2.mem ((c.tc : Thread Cert.MlpIdeal.nD Cert.MlpIdeal.τ).loc Cert.MlpIdeal.main_v56_0) = v3 c
          ∧ r.2.mem ((c.tc : Thread Cert.MlpIdeal.nD Cert.MlpIdeal.τ).loc Cert.MlpIdeal.main_v55_0) = v4 c
          ∧ r.2.mem ((c.tc : Thread Cert.MlpIdeal.nD Cert.MlpIdeal.τ).loc Cert.MlpIdeal.main_v55_3) = v5 c
          ∧ r.2.mem ((c.tc : Thread Cert.MlpIdeal.nD Cert.MlpIdeal.τ).loc Cert.MlpIdeal.main_v91_0) = v6 c
          ∧ r.2.mem ((c.tc : Thread Cert.MlpIdeal.nD Cert.MlpIdeal.τ).loc Cert.MlpIdeal.main_v91_1) = v7 c
          ∧ r.2.mem ((c.tc : Thread Cert.MlpIdeal.nD Cert.MlpIdeal.τ).loc Cert.MlpIdeal.main_v55_2) = v8 c
          ∧ r.2.mem ((c.tc : Thread Cert.MlpIdeal.nD Cert.MlpIdeal.τ).loc Cert.MlpIdeal.main_v55_4) = v9 c
          ∧ r.2.mem ((c.tc : Thread Cert.MlpIdeal.nD Cert.MlpIdeal.τ).loc Cert.MlpIdeal.main_v88_0) = v10 c
          ∧ r.2.mem ((c.tc : Thread Cert.MlpIdeal.nD Cert.MlpIdeal.τ).loc Cert.MlpIdeal.main_v88_1) = v11 c
          ∧ r.2.mem ((c.tc : Thread Cert.MlpIdeal.nD Cert.MlpIdeal.τ).loc Cert.MlpIdeal.main_v89_0) = v12 c
          ∧ r.2.mem ((c.tc : Thread Cert.MlpIdeal.nD Cert.MlpIdeal.τ).loc Cert.MlpIdeal.main_v89_1) = v13 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12)
          ∧ r.2.mem ((c.tc : Thread Cert.MlpIdeal.nD Cert.MlpIdeal.τ).loc Cert.MlpIdeal.main_arg13) = m ((c.tc : Thread Cert.MlpIdeal.nD Cert.MlpIdeal.τ).loc Cert.MlpIdeal.main_arg13)
          ∧ r.2.mem ((c.tc : Thread Cert.MlpIdeal.nD Cert.MlpIdeal.τ).loc Cert.MlpIdeal.main_arg14) = m ((c.tc : Thread Cert.MlpIdeal.nD Cert.MlpIdeal.τ).loc Cert.MlpIdeal.main_arg14)
          ∧ r.2.mem ((c.tc : Thread Cert.MlpIdeal.nD Cert.MlpIdeal.τ).loc Cert.MlpIdeal.main_arg15) = m ((c.tc : Thread Cert.MlpIdeal.nD Cert.MlpIdeal.τ).loc Cert.MlpIdeal.main_arg15)
          ∧ r.2.mem ((c.tc : Thread Cert.MlpIdeal.nD Cert.MlpIdeal.τ).loc Cert.MlpIdeal.main_arg16) = m ((c.tc : Thread Cert.MlpIdeal.nD Cert.MlpIdeal.τ).loc Cert.MlpIdeal.main_arg16)
          ∧ r.2.mem ((c.tc : Thread Cert.MlpIdeal.nD Cert.MlpIdeal.τ).loc Cert.MlpIdeal.main_arg17) = m ((c.tc : Thread Cert.MlpIdeal.nD Cert.MlpIdeal.τ).loc Cert.MlpIdeal.main_arg17)
          ∧ r.2.mem ((c.tc : Thread Cert.MlpIdeal.nD Cert.MlpIdeal.τ).loc Cert.MlpIdeal.main_arg18) = m ((c.tc : Thread Cert.MlpIdeal.nD Cert.MlpIdeal.τ).loc Cert.MlpIdeal.main_arg18)
          ∧ r.2.mem ((c.tc : Thread Cert.MlpIdeal.nD Cert.MlpIdeal.τ).loc Cert.MlpIdeal.main_arg19) = m ((c.tc : Thread Cert.MlpIdeal.nD Cert.MlpIdeal.τ).loc Cert.MlpIdeal.main_arg19)
          ∧ r.2.mem ((c.tc : Thread Cert.MlpIdeal.nD Cert.MlpIdeal.τ).loc Cert.MlpIdeal.main_arg20) = m ((c.tc : Thread Cert.MlpIdeal.nD Cert.MlpIdeal.τ).loc Cert.MlpIdeal.main_arg20)
          ∧ r.2.mem ((c.tc : Thread Cert.MlpIdeal.nD Cert.MlpIdeal.τ).loc Cert.MlpIdeal.main_arg21) = m ((c.tc : Thread Cert.MlpIdeal.nD Cert.MlpIdeal.τ).loc Cert.MlpIdeal.main_arg21))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v134) = v0 c
          ∧ r.2.mem ((c.tc : Thread Cert.MlpRefIdeal.nD Cert.MlpRefIdeal.τ).loc Cert.MlpRefIdeal.main_v175) = v1 c
          ∧ r.2.mem ((c.tc : Thread Cert.MlpRefIdeal.nD Cert.MlpRefIdeal.τ).loc Cert.MlpRefIdeal.main_v176) = v2 c
          ∧ r.2.mem ((c.tc : Thread Cert.MlpRefIdeal.nD Cert.MlpRefIdeal.τ).loc Cert.MlpRefIdeal.main_v131) = v3 c
          ∧ r.2.mem ((c.tc : Thread Cert.MlpRefIdeal.nD Cert.MlpRefIdeal.τ).loc Cert.MlpRefIdeal.main_v178_0) = v4 c
          ∧ r.2.mem ((c.tc : Thread Cert.MlpRefIdeal.nD Cert.MlpRefIdeal.τ).loc Cert.MlpRefIdeal.main_v178_1) = v5 c
          ∧ r.2.mem ((c.tc : Thread Cert.MlpRefIdeal.nD Cert.MlpRefIdeal.τ).loc Cert.MlpRefIdeal.main_v178_2) = v6 c
          ∧ r.2.mem ((c.tc : Thread Cert.MlpRefIdeal.nD Cert.MlpRefIdeal.τ).loc Cert.MlpRefIdeal.main_v178_3) = v7 c
          ∧ r.2.mem ((c.tc : Thread Cert.MlpRefIdeal.nD Cert.MlpRefIdeal.τ).loc Cert.MlpRefIdeal.main_v178_4) = v8 c
          ∧ r.2.mem ((c.tc : Thread Cert.MlpRefIdeal.nD Cert.MlpRefIdeal.τ).loc Cert.MlpRefIdeal.main_v178_5) = v9 c
          ∧ r.2.mem ((c.tc : Thread Cert.MlpRefIdeal.nD Cert.MlpRefIdeal.τ).loc Cert.MlpRefIdeal.main_v178_6) = v10 c
          ∧ r.2.mem ((c.tc : Thread Cert.MlpRefIdeal.nD Cert.MlpRefIdeal.τ).loc Cert.MlpRefIdeal.main_v178_7) = v11 c
          ∧ r.2.mem ((c.tc : Thread Cert.MlpRefIdeal.nD Cert.MlpRefIdeal.τ).loc Cert.MlpRefIdeal.main_v178_8) = v12 c
          ∧ r.2.mem ((c.tc : Thread Cert.MlpRefIdeal.nD Cert.MlpRefIdeal.τ).loc Cert.MlpRefIdeal.main_v178_9) = v13 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12)
          ∧ r.2.mem ((c.tc : Thread Cert.MlpRefIdeal.nD Cert.MlpRefIdeal.τ).loc Cert.MlpRefIdeal.main_arg13) = m' ((c.tc : Thread Cert.MlpRefIdeal.nD Cert.MlpRefIdeal.τ).loc Cert.MlpRefIdeal.main_arg13)
          ∧ r.2.mem ((c.tc : Thread Cert.MlpRefIdeal.nD Cert.MlpRefIdeal.τ).loc Cert.MlpRefIdeal.main_arg14) = m' ((c.tc : Thread Cert.MlpRefIdeal.nD Cert.MlpRefIdeal.τ).loc Cert.MlpRefIdeal.main_arg14)
          ∧ r.2.mem ((c.tc : Thread Cert.MlpRefIdeal.nD Cert.MlpRefIdeal.τ).loc Cert.MlpRefIdeal.main_arg15) = m' ((c.tc : Thread Cert.MlpRefIdeal.nD Cert.MlpRefIdeal.τ).loc Cert.MlpRefIdeal.main_arg15)
          ∧ r.2.mem ((c.tc : Thread Cert.MlpRefIdeal.nD Cert.MlpRefIdeal.τ).loc Cert.MlpRefIdeal.main_arg16) = m' ((c.tc : Thread Cert.MlpRefIdeal.nD Cert.MlpRefIdeal.τ).loc Cert.MlpRefIdeal.main_arg16)
          ∧ r.2.mem ((c.tc : Thread Cert.MlpRefIdeal.nD Cert.MlpRefIdeal.τ).loc Cert.MlpRefIdeal.main_arg17) = m' ((c.tc : Thread Cert.MlpRefIdeal.nD Cert.MlpRefIdeal.τ).loc Cert.MlpRefIdeal.main_arg17)
          ∧ r.2.mem ((c.tc : Thread Cert.MlpRefIdeal.nD Cert.MlpRefIdeal.τ).loc Cert.MlpRefIdeal.main_arg18) = m' ((c.tc : Thread Cert.MlpRefIdeal.nD Cert.MlpRefIdeal.τ).loc Cert.MlpRefIdeal.main_arg18)
          ∧ r.2.mem ((c.tc : Thread Cert.MlpRefIdeal.nD Cert.MlpRefIdeal.τ).loc Cert.MlpRefIdeal.main_arg19) = m' ((c.tc : Thread Cert.MlpRefIdeal.nD Cert.MlpRefIdeal.τ).loc Cert.MlpRefIdeal.main_arg19)
          ∧ r.2.mem ((c.tc : Thread Cert.MlpRefIdeal.nD Cert.MlpRefIdeal.τ).loc Cert.MlpRefIdeal.main_arg20) = m' ((c.tc : Thread Cert.MlpRefIdeal.nD Cert.MlpRefIdeal.τ).loc Cert.MlpRefIdeal.main_arg20)
          ∧ r.2.mem ((c.tc : Thread Cert.MlpRefIdeal.nD Cert.MlpRefIdeal.τ).loc Cert.MlpRefIdeal.main_arg21) = m' ((c.tc : Thread Cert.MlpRefIdeal.nD Cert.MlpRefIdeal.τ).loc Cert.MlpRefIdeal.main_arg21))

def Claim : Prop :=
  ∃ (hMlp : Cert.Mlp.Facts) (hMlpIdeal : Cert.MlpIdeal.Facts) (hMlpRefIdeal : Cert.MlpRefIdeal.Facts),
    quiescent_Mlp (hMlp := hMlp)
    ∧ quiescent_MlpIdeal (hMlpIdeal := hMlpIdeal)
    ∧ quiescent_MlpRefIdeal (hMlpRefIdeal := hMlpRefIdeal)
    ∧ preserves_Mlp_MlpIdeal
    ∧ algebraic_MlpIdeal_MlpRefIdeal (hMlpIdeal := hMlpIdeal) (hMlpRefIdeal := hMlpRefIdeal)
-- ==== Mlp.lean ====
abbrev S3x2048x4096 : Shape := ⟨3, ![3, 2048, 4096]⟩
abbrev S4096 : Shape := ⟨1, ![4096]⟩
abbrev S11008x256 : Shape := ⟨2, ![11008, 256]⟩
abbrev S11008x16 : Shape := ⟨2, ![11008, 16]⟩
abbrev S11008x64 : Shape := ⟨2, ![11008, 64]⟩
abbrev S4096x688 : Shape := ⟨2, ![4096, 688]⟩
abbrev S4096x43 : Shape := ⟨2, ![4096, 43]⟩
abbrev S4096x172 : Shape := ⟨2, ![4096, 172]⟩
abbrev S3 : Shape := ⟨1, ![3]⟩
abbrev S_ : Shape := ⟨0, ![]⟩
abbrev S6144x4096 : Shape := ⟨2, ![6144, 4096]⟩
abbrev S1x4096 : Shape := ⟨2, ![1, 4096]⟩
abbrev S256x11008 : Shape := ⟨2, ![256, 11008]⟩
abbrev S688x4096 : Shape := ⟨2, ![688, 4096]⟩
abbrev S11008x16x1 : Shape := ⟨3, ![11008, 16, 1]⟩
abbrev S4 : Shape := ⟨1, ![4]⟩
abbrev S1x1x4 : Shape := ⟨3, ![1, 1, 4]⟩
abbrev S11008x16x4 : Shape := ⟨3, ![11008, 16, 4]⟩
abbrev S64x11008 : Shape := ⟨2, ![64, 11008]⟩
abbrev S4096x43x1 : Shape := ⟨3, ![4096, 43, 1]⟩
abbrev S4096x43x4 : Shape := ⟨3, ![4096, 43, 4]⟩
abbrev S172x4096 : Shape := ⟨2, ![172, 4096]⟩
abbrev S4096x11008 : Shape := ⟨2, ![4096, 11008]⟩
abbrev S256x256 : Shape := ⟨2, ![256, 256]⟩
abbrev S64x256 : Shape := ⟨2, ![64, 256]⟩
abbrev S4096x256 : Shape := ⟨2, ![4096, 256]⟩
abbrev S16x256 : Shape := ⟨2, ![16, 256]⟩
abbrev S1x256 : Shape := ⟨2, ![1, 256]⟩
abbrev S11008x4096 : Shape := ⟨2, ![11008, 4096]⟩
abbrev S688x256 : Shape := ⟨2, ![688, 256]⟩
abbrev S172x256 : Shape := ⟨2, ![172, 256]⟩
abbrev S6144x128 : Shape := ⟨2, ![6144, 128]⟩
abbrev S8x4096 : Shape := ⟨2, ![8, 4096]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S32x8x4096 : Shape := ⟨3, ![32, 8, 4096]⟩
abbrev S4096x6144 : Shape := ⟨2, ![4096, 6144]⟩
abbrev S6144x11008 : Shape := ⟨2, ![6144, 11008]⟩
abbrev S6x8x11008 : Shape := ⟨3, ![6, 8, 11008]⟩
abbrev S1024x4096 : Shape := ⟨2, ![1024, 4096]⟩
abbrev S1024x256 : Shape := ⟨2, ![1024, 256]⟩
abbrev S1x8x256 : Shape := ⟨3, ![1, 8, 256]⟩
abbrev S512x4096 : Shape := ⟨2, ![512, 4096]⟩
abbrev S512x256 : Shape := ⟨2, ![512, 256]⟩
abbrev S64x8x256 : Shape := ⟨3, ![64, 8, 256]⟩
abbrev S8x256 : Shape := ⟨2, ![8, 256]⟩
abbrev S768x11008 : Shape := ⟨2, ![768, 11008]⟩
abbrev S11008x512 : Shape := ⟨2, ![11008, 512]⟩
abbrev S768x512 : Shape := ⟨2, ![768, 512]⟩
abbrev S1 : Shape := ⟨1, ![1]⟩
abbrev S4096x1 : Shape := ⟨2, ![4096, 1]⟩
abbrev S4096x128 : Shape := ⟨2, ![4096, 128]⟩
abbrev S1x11008 : Shape := ⟨2, ![1, 11008]⟩
abbrev S6144x256 : Shape := ⟨2, ![6144, 256]⟩
abbrev S6x8x256 : Shape := ⟨3, ![6, 8, 256]⟩
abbrev S256x64 : Shape := ⟨2, ![256, 64]⟩
abbrev S48x256 : Shape := ⟨2, ![48, 256]⟩
abbrev S512x6144 : Shape := ⟨2, ![512, 6144]⟩
abbrev S512x1 : Shape := ⟨2, ![512, 1]⟩
abbrev S43x4x4096 : Shape := ⟨3, ![43, 4, 4096]⟩
abbrev S16x4096 : Shape := ⟨2, ![16, 4096]⟩
abbrev S1x4x4096 : Shape := ⟨3, ![1, 4, 4096]⟩
abbrev S128x256 : Shape := ⟨2, ![128, 256]⟩
abbrev S16x512 : Shape := ⟨2, ![16, 512]⟩
abbrev S6144x512 : Shape := ⟨2, ![6144, 512]⟩
abbrev S256x512 : Shape := ⟨2, ![256, 512]⟩
abbrev S1x4x512 : Shape := ⟨3, ![1, 4, 512]⟩
abbrev S4x512 : Shape := ⟨2, ![4, 512]⟩
abbrev S1x512 : Shape := ⟨2, ![1, 512]⟩
abbrev S8x512 : Shape := ⟨2, ![8, 512]⟩
abbrev S512 : Shape := ⟨1, ![512]⟩
abbrev S172x512 : Shape := ⟨2, ![172, 512]⟩
abbrev S512x172 : Shape := ⟨2, ![512, 172]⟩
abbrev S6144x1 : Shape := ⟨2, ![6144, 1]⟩
abbrev S6144 : Shape := ⟨1, ![6144]⟩

abbrev nBuf : Space → Nat
  | .hbm => 157
  | .vmem => 199
  | .smem => 3
  | _ => 0

abbrev hbmTy0_0 (i : Nat) : BufTy := match i % 128 with
  | 0 => ⟨S3x2048x4096, .bf16⟩
  | 1 => ⟨S3x2048x4096, .bf16⟩
  | 2 => ⟨S4096, .f32⟩
  | 3 => ⟨S11008x256, .i32⟩
  | 4 => ⟨S11008x16, .i8⟩
  | 5 => ⟨S11008x64, .f32⟩
  | 6 => ⟨S11008x64, .f32⟩
  | 7 => ⟨S11008x64, .f32⟩
  | 8 => ⟨S11008x256, .i32⟩
  | 9 => ⟨S11008x16, .i8⟩
  | 10 => ⟨S11008x64, .f32⟩
  | 11 => ⟨S11008x64, .f32⟩
  | 12 => ⟨S11008x64, .f32⟩
  | 13 => ⟨S4096x688, .i32⟩
  | 14 => ⟨S4096x43, .i8⟩
  | 15 => ⟨S4096x172, .f32⟩
  | 16 => ⟨S4096x172, .f32⟩
  | 17 => ⟨S4096x172, .f32⟩
  | 18 => ⟨S3, .f32⟩
  | 19 => ⟨S3, .f32⟩
  | 20 => ⟨S_, .f32⟩
  | 21 => ⟨S_, .f32⟩
  | 22 => ⟨S6144x4096, .bf16⟩
  | 23 => ⟨S6144x4096, .bf16⟩
  | 24 => ⟨S1x4096, .f32⟩
  | 25 => ⟨S256x11008, .i32⟩
  | 26 => ⟨S256x11008, .i32⟩
  | 27 => ⟨S688x4096, .i32⟩
  | 28 => ⟨S11008x16x1, .i8⟩
  | 29 => ⟨S11008x16x1, .i32⟩
  | 30 => ⟨S4, .i32⟩
  | 31 => ⟨S_, .i32⟩
  | 32 => ⟨S4, .i32⟩
  | 33 => ⟨S4, .i32⟩
  | 34 => ⟨S1x1x4, .i32⟩
  | 35 => ⟨S11008x16x4, .i32⟩
  | 36 => ⟨S11008x16x4, .i32⟩
  | 37 => ⟨S11008x16x4, .i32⟩
  | 38 => ⟨S_, .i32⟩
  | 39 => ⟨S11008x16x4, .i32⟩
  | 40 => ⟨S11008x16x4, .i32⟩
  | 41 => ⟨S11008x64, .i32⟩
  | 42 => ⟨S11008x64, .f32⟩
  | 43 => ⟨S64x11008, .f32⟩
  | 44 => ⟨S11008x16x1, .i8⟩
  | 45 => ⟨S11008x16x1, .i32⟩
  | 46 => ⟨S4, .i32⟩
  | 47 => ⟨S_, .i32⟩
  | 48 => ⟨S4, .i32⟩
  | 49 => ⟨S4, .i32⟩
  | 50 => ⟨S1x1x4, .i32⟩
  | 51 => ⟨S11008x16x4, .i32⟩
  | 52 => ⟨S11008x16x4, .i32⟩
  | 53 => ⟨S11008x16x4, .i32⟩
  | 54 => ⟨S_, .i32⟩
  | 55 => ⟨S11008x16x4, .i32⟩
  | 56 => ⟨S11008x16x4, .i32⟩
  | 57 => ⟨S11008x64, .i32⟩
  | 58 => ⟨S11008x64, .f32⟩
  | 59 => ⟨S64x11008, .f32⟩
  | 60 => ⟨S4096x43x1, .i8⟩
  | 61 => ⟨S4096x43x1, .i32⟩
  | 62 => ⟨S4, .i32⟩
  | 63 => ⟨S_, .i32⟩
  | 64 => ⟨S4, .i32⟩
  | 65 => ⟨S4, .i32⟩
  | 66 => ⟨S1x1x4, .i32⟩
  | 67 => ⟨S4096x43x4, .i32⟩
  | 68 => ⟨S4096x43x4, .i32⟩
  | 69 => ⟨S4096x43x4, .i32⟩
  | 70 => ⟨S_, .i32⟩
  | 71 => ⟨S4096x43x4, .i32⟩
  | 72 => ⟨S4096x43x4, .i32⟩
  | 73 => ⟨S4096x172, .i32⟩
  | 74 => ⟨S4096x172, .f32⟩
  | 75 => ⟨S172x4096, .f32⟩
  | 76 => ⟨S64x11008, .f32⟩
  | 77 => ⟨S4096x11008, .bf16⟩
  | 78 => ⟨S64x11008, .f32⟩
  | 79 => ⟨S4096x11008, .bf16⟩
  | 80 => ⟨S172x4096, .f32⟩
  | 81 => ⟨S11008x4096, .bf16⟩
  | 82 => ⟨S6144x4096, .bf16⟩
  | 83 => ⟨S6144x128, .f32⟩
  | 84 => ⟨S8x4096, .f32⟩
  | 85 => ⟨S8x4096, .f32⟩
  | 86 => ⟨S6144x4096, .fp8e4m3⟩
  | 87 => ⟨S4096x6144, .fp8e4m3⟩
  | 88 => ⟨S6144x4096, .fp8e4m3⟩
  | 89 => ⟨S1x4096, .f32⟩
  | 90 => ⟨S1x4096, .f32⟩
  | 91 => ⟨S6144x11008, .bf16⟩
  | 92 => ⟨S6144x11008, .f32⟩
  | 93 => ⟨S6144x11008, .f32⟩
  | 94 => ⟨S6144x11008, .f32⟩
  | 95 => ⟨S6x8x11008, .f32⟩
  | 96 => ⟨S6x8x11008, .f32⟩
  | 97 => ⟨S6x8x11008, .f32⟩
  | 98 => ⟨S6144x4096, .bf16⟩
  | 99 => ⟨S6144x4096, .bf16⟩
  | 100 => ⟨S6144x128, .f32⟩
  | 101 => ⟨S6144x4096, .f32⟩
  | 102 => ⟨S1, .f32⟩
  | 103 => ⟨S_, .f32⟩
  | 104 => ⟨S1, .f32⟩
  | 105 => ⟨S_, .f32⟩
  | 106 => ⟨S1, .f32⟩
  | 107 => ⟨S1, .f32⟩
  | 108 => ⟨S1, .f32⟩
  | 109 => ⟨S1, .f32⟩
  | 110 => ⟨S4, .f32⟩
  | 111 => ⟨S1, .f32⟩
  | 112 => ⟨S_, .f32⟩
  | 113 => ⟨S1, .f32⟩
  | 114 => ⟨S_, .f32⟩
  | 115 => ⟨S1, .f32⟩
  | 116 => ⟨S1, .f32⟩
  | 117 => ⟨S1, .f32⟩
  | 118 => ⟨S1, .f32⟩
  | 119 => ⟨S4, .f32⟩
  | 120 => ⟨S1, .f32⟩
  | 121 => ⟨S_, .f32⟩
  | 122 => ⟨S1, .f32⟩
  | 123 => ⟨S_, .f32⟩
  | 124 => ⟨S1, .f32⟩
  | 125 => ⟨S1, .f32⟩
  | 126 => ⟨S1, .f32⟩
  | 127 => ⟨S1, .f32⟩
  | _ => ⟨S3x2048x4096, .bf16⟩

abbrev hbmTy0_1 (i : Nat) : BufTy := match i % 128 with
  | 0 => ⟨S4, .f32⟩
  | 1 => ⟨S4096x1, .f32⟩
  | 2 => ⟨S4096x128, .f32⟩
  | 3 => ⟨S6144x11008, .fp8e4m3⟩
  | 4 => ⟨S1x11008, .f32⟩
  | 5 => ⟨S11008x64, .f32⟩
  | 6 => ⟨S11008x64, .f32⟩
  | 7 => ⟨S11008x64, .f32⟩
  | 8 => ⟨S11008x64, .f32⟩
  | 9 => ⟨S11008x64, .f32⟩
  | 10 => ⟨S6144x11008, .fp8e4m3⟩
  | 11 => ⟨S1x11008, .f32⟩
  | 12 => ⟨S11008x64, .f32⟩
  | 13 => ⟨S11008x64, .f32⟩
  | 14 => ⟨S11008x64, .f32⟩
  | 15 => ⟨S11008x64, .f32⟩
  | 16 => ⟨S11008x64, .f32⟩
  | 17 => ⟨S43x4x4096, .f32⟩
  | 18 => ⟨S6144x11008, .fp8e4m3⟩
  | 19 => ⟨S1x11008, .f32⟩
  | 20 => ⟨S43x4x4096, .f32⟩
  | 21 => ⟨S172x4096, .f32⟩
  | 22 => ⟨S4096x172, .f32⟩
  | 23 => ⟨S4096x172, .f32⟩
  | 24 => ⟨S4096x172, .f32⟩
  | 25 => ⟨S4096x172, .f32⟩
  | 26 => ⟨S4096x172, .f32⟩
  | 27 => ⟨S6144x1, .f32⟩
  | 28 => ⟨S6144, .f32⟩
  | _ => ⟨S3x2048x4096, .bf16⟩

abbrev hbmTy (i : Nat) : BufTy := match i / 128 with
  | 0 => hbmTy0_0 i
  | 1 => hbmTy0_1 i
  | _ => ⟨S3x2048x4096, .bf16⟩

abbrev vmemTy0_0 (i : Nat) : BufTy := match i % 128 with
  | 0 => ⟨S256x256, .i32⟩
  | 1 => ⟨S256x256, .i32⟩
  | 2 => ⟨S64x256, .f32⟩
  | 3 => ⟨S64x256, .f32⟩
  | 4 => ⟨S64x256, .f32⟩
  | 5 => ⟨S64x256, .f32⟩
  | 6 => ⟨S4096x256, .bf16⟩
  | 7 => ⟨S4096x256, .bf16⟩
  | 8 => ⟨S256x256, .i32⟩
  | 9 => ⟨S256x256, .i32⟩
  | 10 => ⟨S64x256, .f32⟩
  | 11 => ⟨S64x256, .f32⟩
  | 12 => ⟨S64x256, .f32⟩
  | 13 => ⟨S64x256, .f32⟩
  | 14 => ⟨S4096x256, .bf16⟩
  | 15 => ⟨S4096x256, .bf16⟩
  | 16 => ⟨S688x256, .i32⟩
  | 17 => ⟨S688x256, .i32⟩
  | 18 => ⟨S172x256, .f32⟩
  | 19 => ⟨S172x256, .f32⟩
  | 20 => ⟨S172x256, .f32⟩
  | 21 => ⟨S172x256, .f32⟩
  | 22 => ⟨S11008x256, .bf16⟩
  | 23 => ⟨S11008x256, .bf16⟩
  | 24 => ⟨S256x4096, .bf16⟩
  | 25 => ⟨S256x4096, .bf16⟩
  | 26 => ⟨S256x4096, .bf16⟩
  | 27 => ⟨S256x4096, .bf16⟩
  | 28 => ⟨S1x4096, .f32⟩
  | 29 => ⟨S256x4096, .bf16⟩
  | 30 => ⟨S256x4096, .bf16⟩
  | 31 => ⟨S256x128, .f32⟩
  | 32 => ⟨S256x128, .f32⟩
  | 33 => ⟨S8x4096, .f32⟩
  | 34 => ⟨S8x4096, .f32⟩
  | 35 => ⟨S256x4096, .bf16⟩
  | 36 => ⟨S256x4096, .bf16⟩
  | 37 => ⟨S256x4096, .bf16⟩
  | 38 => ⟨S256x4096, .bf16⟩
  | 39 => ⟨S1x4096, .f32⟩
  | 40 => ⟨S256x128, .f32⟩
  | 41 => ⟨S256x128, .f32⟩
  | 42 => ⟨S8x4096, .f32⟩
  | 43 => ⟨S8x4096, .f32⟩
  | 44 => ⟨S256x4096, .fp8e4m3⟩
  | 45 => ⟨S256x4096, .fp8e4m3⟩
  | 46 => ⟨S4096x256, .fp8e4m3⟩
  | 47 => ⟨S4096x256, .fp8e4m3⟩
  | 48 => ⟨S256x4096, .fp8e4m3⟩
  | 49 => ⟨S256x4096, .fp8e4m3⟩
  | 50 => ⟨S1x4096, .f32⟩
  | 51 => ⟨S1x4096, .f32⟩
  | 52 => ⟨S1024x4096, .bf16⟩
  | 53 => ⟨S1024x4096, .bf16⟩
  | 54 => ⟨S1024x4096, .bf16⟩
  | 55 => ⟨S1024x4096, .bf16⟩
  | 56 => ⟨S4096x256, .bf16⟩
  | 57 => ⟨S4096x256, .bf16⟩
  | 58 => ⟨S4096x256, .bf16⟩
  | 59 => ⟨S4096x256, .bf16⟩
  | 60 => ⟨S256x4096, .bf16⟩
  | 61 => ⟨S256x4096, .bf16⟩
  | 62 => ⟨S1024x256, .bf16⟩
  | 63 => ⟨S1024x256, .bf16⟩
  | 64 => ⟨S1024x256, .f32⟩
  | 65 => ⟨S1024x256, .f32⟩
  | 66 => ⟨S1024x256, .f32⟩
  | 67 => ⟨S1024x256, .f32⟩
  | 68 => ⟨S1024x256, .f32⟩
  | 69 => ⟨S1024x256, .f32⟩
  | 70 => ⟨S1x8x256, .f32⟩
  | 71 => ⟨S1x8x256, .f32⟩
  | 72 => ⟨S1x8x256, .f32⟩
  | 73 => ⟨S1x8x256, .f32⟩
  | 74 => ⟨S1x8x256, .f32⟩
  | 75 => ⟨S1x8x256, .f32⟩
  | 76 => ⟨S768x11008, .bf16⟩
  | 77 => ⟨S768x11008, .bf16⟩
  | 78 => ⟨S11008x512, .bf16⟩
  | 79 => ⟨S11008x512, .bf16⟩
  | 80 => ⟨S768x512, .bf16⟩
  | 81 => ⟨S768x512, .bf16⟩
  | 82 => ⟨S768x512, .bf16⟩
  | 83 => ⟨S768x512, .bf16⟩
  | 84 => ⟨S1024x256, .f32⟩
  | 85 => ⟨S1024x256, .f32⟩
  | 86 => ⟨S1024x256, .f32⟩
  | 87 => ⟨S1024x256, .f32⟩
  | 88 => ⟨S4096x256, .bf16⟩
  | 89 => ⟨S4096x256, .bf16⟩
  | 90 => ⟨S4096x256, .bf16⟩
  | 91 => ⟨S4096x256, .bf16⟩
  | 92 => ⟨S1x4096, .f32⟩
  | 93 => ⟨S256x4096, .bf16⟩
  | 94 => ⟨S256x4096, .bf16⟩
  | 95 => ⟨S256x4096, .bf16⟩
  | 96 => ⟨S256x4096, .bf16⟩
  | 97 => ⟨S256x128, .f32⟩
  | 98 => ⟨S256x128, .f32⟩
  | 99 => ⟨S256x4096, .bf16⟩
  | 100 => ⟨S256x4096, .bf16⟩
  | 101 => ⟨S256x128, .f32⟩
  | 102 => ⟨S256x128, .f32⟩
  | 103 => ⟨S1024x4096, .f32⟩
  | 104 => ⟨S1024x4096, .f32⟩
  | 105 => ⟨S4096x6144, .fp8e4m3⟩
  | 106 => ⟨S4096x128, .f32⟩
  | 107 => ⟨S6144x256, .f32⟩
  | 108 => ⟨S6144x256, .f32⟩
  | 109 => ⟨S6x8x256, .f32⟩
  | 110 => ⟨S6x8x256, .f32⟩
  | 111 => ⟨S256x256, .i32⟩
  | 112 => ⟨S256x256, .i32⟩
  | 113 => ⟨S64x256, .f32⟩
  | 114 => ⟨S64x256, .f32⟩
  | 115 => ⟨S256x64, .f32⟩
  | 116 => ⟨S256x64, .f32⟩
  | 117 => ⟨S256x64, .f32⟩
  | 118 => ⟨S256x64, .f32⟩
  | 119 => ⟨S256x64, .f32⟩
  | 120 => ⟨S256x64, .f32⟩
  | 121 => ⟨S6144x256, .fp8e4m3⟩
  | 122 => ⟨S6144x256, .fp8e4m3⟩
  | 123 => ⟨S1x256, .f32⟩
  | 124 => ⟨S1x256, .f32⟩
  | 125 => ⟨S256x64, .f32⟩
  | 126 => ⟨S256x64, .f32⟩
  | 127 => ⟨S256x64, .f32⟩
  | _ => ⟨S3x2048x4096, .bf16⟩

abbrev vmemTy0_1 (i : Nat) : BufTy := match i % 128 with
  | 0 => ⟨S256x64, .f32⟩
  | 1 => ⟨S256x64, .f32⟩
  | 2 => ⟨S256x64, .f32⟩
  | 3 => ⟨S256x64, .f32⟩
  | 4 => ⟨S256x64, .f32⟩
  | 5 => ⟨S256x64, .f32⟩
  | 6 => ⟨S256x64, .f32⟩
  | 7 => ⟨S4096x6144, .fp8e4m3⟩
  | 8 => ⟨S4096x128, .f32⟩
  | 9 => ⟨S6144x256, .f32⟩
  | 10 => ⟨S6144x256, .f32⟩
  | 11 => ⟨S6x8x256, .f32⟩
  | 12 => ⟨S6x8x256, .f32⟩
  | 13 => ⟨S256x256, .i32⟩
  | 14 => ⟨S256x256, .i32⟩
  | 15 => ⟨S64x256, .f32⟩
  | 16 => ⟨S64x256, .f32⟩
  | 17 => ⟨S256x64, .f32⟩
  | 18 => ⟨S256x64, .f32⟩
  | 19 => ⟨S256x64, .f32⟩
  | 20 => ⟨S256x64, .f32⟩
  | 21 => ⟨S256x64, .f32⟩
  | 22 => ⟨S256x64, .f32⟩
  | 23 => ⟨S6144x256, .fp8e4m3⟩
  | 24 => ⟨S6144x256, .fp8e4m3⟩
  | 25 => ⟨S1x256, .f32⟩
  | 26 => ⟨S1x256, .f32⟩
  | 27 => ⟨S256x64, .f32⟩
  | 28 => ⟨S256x64, .f32⟩
  | 29 => ⟨S256x64, .f32⟩
  | 30 => ⟨S256x64, .f32⟩
  | 31 => ⟨S256x64, .f32⟩
  | 32 => ⟨S256x64, .f32⟩
  | 33 => ⟨S256x64, .f32⟩
  | 34 => ⟨S256x64, .f32⟩
  | 35 => ⟨S256x64, .f32⟩
  | 36 => ⟨S256x64, .f32⟩
  | 37 => ⟨S6144x4096, .fp8e4m3⟩
  | 38 => ⟨S1x4096, .f32⟩
  | 39 => ⟨S6144x256, .f32⟩
  | 40 => ⟨S6144x256, .f32⟩
  | 41 => ⟨S6x8x256, .f32⟩
  | 42 => ⟨S6x8x256, .f32⟩
  | 43 => ⟨S16x4096, .i32⟩
  | 44 => ⟨S16x4096, .i32⟩
  | 45 => ⟨S1x4x4096, .f32⟩
  | 46 => ⟨S1x4x4096, .f32⟩
  | 47 => ⟨S6144x256, .fp8e4m3⟩
  | 48 => ⟨S6144x256, .fp8e4m3⟩
  | 49 => ⟨S1x256, .f32⟩
  | 50 => ⟨S1x256, .f32⟩
  | 51 => ⟨S1x4x4096, .f32⟩
  | 52 => ⟨S1x4x4096, .f32⟩
  | 53 => ⟨S172x512, .f32⟩
  | 54 => ⟨S172x512, .f32⟩
  | 55 => ⟨S512x172, .f32⟩
  | 56 => ⟨S512x172, .f32⟩
  | 57 => ⟨S512x172, .f32⟩
  | 58 => ⟨S512x172, .f32⟩
  | 59 => ⟨S512x172, .f32⟩
  | 60 => ⟨S512x172, .f32⟩
  | 61 => ⟨S512x172, .f32⟩
  | 62 => ⟨S512x172, .f32⟩
  | 63 => ⟨S512x172, .f32⟩
  | 64 => ⟨S512x172, .f32⟩
  | 65 => ⟨S512x172, .f32⟩
  | 66 => ⟨S512x172, .f32⟩
  | 67 => ⟨S512x172, .f32⟩
  | 68 => ⟨S512x172, .f32⟩
  | 69 => ⟨S512x172, .f32⟩
  | 70 => ⟨S512x172, .f32⟩
  | _ => ⟨S3x2048x4096, .bf16⟩

abbrev vmemTy (i : Nat) : BufTy := match i / 128 with
  | 0 => vmemTy0_0 i
  | 1 => vmemTy0_1 i
  | _ => ⟨S3x2048x4096, .bf16⟩

abbrev bufTy : (tb : Table) → Fin (tcTables nBuf tb) → BufTy
  | .hbm, ⟨i, _⟩ => hbmTy i
  | .local _ .vmem, ⟨i, _⟩ => vmemTy i
  | .local _ .smem, ⟨0, _⟩ => ⟨S4, .f32⟩
  | .local _ .smem, ⟨1, _⟩ => ⟨S4, .f32⟩
  | .local _ .smem, ⟨2, _⟩ => ⟨S4, .f32⟩
  | _, _ => ⟨S3x2048x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 202 → Bool
  | ⟨i, _⟩ => dmaSemScopedAt i

abbrev sig : RefSig :=
  ofTc nBuf bufTy 0 202 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_3 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_4 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54_0 : Ref sig .tc := ⟨.hbm, 82, rfl⟩
abbrev main_v54_1 : Ref sig .tc := ⟨.hbm, 83, rfl⟩
abbrev main_v54_2 : Ref sig .tc := ⟨.hbm, 84, rfl⟩
abbrev main_v54_3 : Ref sig .tc := ⟨.hbm, 85, rfl⟩
abbrev main_v55_0 : Ref sig .tc := ⟨.hbm, 86, rfl⟩
abbrev main_v55_1 : Ref sig .tc := ⟨.hbm, 87, rfl⟩
abbrev main_v55_2 : Ref sig .tc := ⟨.hbm, 88, rfl⟩
abbrev main_v55_3 : Ref sig .tc := ⟨.hbm, 89, rfl⟩
abbrev main_v55_4 : Ref sig .tc := ⟨.hbm, 90, rfl⟩
abbrev main_v56_0 : Ref sig .tc := ⟨.hbm, 91, rfl⟩
abbrev main_v56_1 : Ref sig .tc := ⟨.hbm, 92, rfl⟩
abbrev main_v56_2 : Ref sig .tc := ⟨.hbm, 93, rfl⟩
abbrev main_v56_3 : Ref sig .tc := ⟨.hbm, 94, rfl⟩
abbrev main_v56_4 : Ref sig .tc := ⟨.hbm, 95, rfl⟩
abbrev main_v56_5 : Ref sig .tc := ⟨.hbm, 96, rfl⟩
abbrev main_v56_6 : Ref sig .tc := ⟨.hbm, 97, rfl⟩
abbrev main_v57 : Ref sig .tc := ⟨.hbm, 98, rfl⟩
abbrev main_v58_0 : Ref sig .tc := ⟨.hbm, 99, rfl⟩
abbrev main_v58_1 : Ref sig .tc := ⟨.hbm, 100, rfl⟩
abbrev main_v58_2 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88_0 : Ref sig .tc := ⟨.hbm, 131, rfl⟩
abbrev main_v88_1 : Ref sig .tc := ⟨.hbm, 132, rfl⟩
abbrev main_v88_2 : Ref sig .tc := ⟨.hbm, 133, rfl⟩
abbrev main_v88_3 : Ref sig .tc := ⟨.hbm, 134, rfl⟩
abbrev main_v88_4 : Ref sig .tc := ⟨.hbm, 135, rfl⟩
abbrev main_v88_5 : Ref sig .tc := ⟨.hbm, 136, rfl⟩
abbrev main_v88_6 : Ref sig .tc := ⟨.hbm, 137, rfl⟩
abbrev main_v89_0 : Ref sig .tc := ⟨.hbm, 138, rfl⟩
abbrev main_v89_1 : Ref sig .tc := ⟨.hbm, 139, rfl⟩
abbrev main_v89_2 : Ref sig .tc := ⟨.hbm, 140, rfl⟩
abbrev main_v89_3 : Ref sig .tc := ⟨.hbm, 141, rfl⟩
abbrev main_v89_4 : Ref sig .tc := ⟨.hbm, 142, rfl⟩
abbrev main_v89_5 : Ref sig .tc := ⟨.hbm, 143, rfl⟩
abbrev main_v89_6 : Ref sig .tc := ⟨.hbm, 144, rfl⟩
abbrev main_v90 : Ref sig .tc := ⟨.hbm, 145, rfl⟩
abbrev main_v91_0 : Ref sig .tc := ⟨.hbm, 146, rfl⟩
abbrev main_v91_1 : Ref sig .tc := ⟨.hbm, 147, rfl⟩
abbrev main_v91_2 : Ref sig .tc := ⟨.hbm, 148, rfl⟩
abbrev main_v92 : Ref sig .tc := ⟨.hbm, 149, rfl⟩
abbrev main_v93_0 : Ref sig .tc := ⟨.hbm, 150, rfl⟩
abbrev main_v93_1 : Ref sig .tc := ⟨.hbm, 151, rfl⟩
abbrev main_v93_2 : Ref sig .tc := ⟨.hbm, 152, rfl⟩
abbrev main_v93_3 : Ref sig .tc := ⟨.hbm, 153, rfl⟩
abbrev main_v93_4 : Ref sig .tc := ⟨.hbm, 154, rfl⟩
abbrev main_v94 : Ref sig .tc := ⟨.hbm, 155, rfl⟩
abbrev main_v95 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg6_0 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc4_stg7_0 : Ref sig .tc := ⟨.vmem, 46, rfl⟩
abbrev cc4_stg7_1 : Ref sig .tc := ⟨.vmem, 47, rfl⟩
abbrev cc4_stg8_0 : Ref sig .tc := ⟨.vmem, 48, rfl⟩
abbrev cc4_stg8_1 : Ref sig .tc := ⟨.vmem, 49, rfl⟩
abbrev cc4_stg9_0 : Ref sig .tc := ⟨.vmem, 50, rfl⟩
abbrev cc4_stg10_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg3_1 : Ref sig .tc := ⟨.vmem, 59, rfl⟩
abbrev cc5_stg4_0 : Ref sig .tc := ⟨.vmem, 60, rfl⟩
abbrev cc5_stg4_1 : Ref sig .tc := ⟨.vmem, 61, rfl⟩
abbrev cc5_stg5_0 : Ref sig .tc := ⟨.vmem, 62, rfl⟩
abbrev cc5_stg5_1 : Ref sig .tc := ⟨.vmem, 63, rfl⟩
abbrev cc5_stg6_0 : Ref sig .tc := ⟨.vmem, 64, rfl⟩
abbrev cc5_stg6_1 : Ref sig .tc := ⟨.vmem, 65, rfl⟩
abbrev cc5_stg7_0 : Ref sig .tc := ⟨.vmem, 66, rfl⟩
abbrev cc5_stg7_1 : Ref sig .tc := ⟨.vmem, 67, rfl⟩
abbrev cc5_stg8_0 : Ref sig .tc := ⟨.vmem, 68, rfl⟩
abbrev cc5_stg8_1 : Ref sig .tc := ⟨.vmem, 69, rfl⟩
abbrev cc5_stg9_0 : Ref sig .tc := ⟨.vmem, 70, rfl⟩
abbrev cc5_stg9_1 : Ref sig .tc := ⟨.vmem, 71, rfl⟩
abbrev cc5_stg10_0 : Ref sig .tc := ⟨.vmem, 72, rfl⟩
abbrev cc5_stg10_1 : Ref sig .tc := ⟨.vmem, 73, rfl⟩
abbrev cc5_stg11_0 : Ref sig .tc := ⟨.vmem, 74, rfl⟩
abbrev cc5_stg11_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg1_1 : Ref sig .tc := ⟨.vmem, 79, rfl⟩
abbrev cc6_stg2_0 : Ref sig .tc := ⟨.vmem, 80, rfl⟩
abbrev cc6_stg2_1 : Ref sig .tc := ⟨.vmem, 81, rfl⟩
abbrev cc6_stg3_0 : Ref sig .tc := ⟨.vmem, 82, rfl⟩
abbrev cc6_stg3_1 : Ref sig .tc := ⟨.vmem, 83, rfl⟩
abbrev cc7_stg0_0 : Ref sig .tc := ⟨.vmem, 84, rfl⟩
abbrev cc7_stg0_1 : Ref sig .tc := ⟨.vmem, 85, rfl⟩
abbrev cc7_stg1_0 : Ref sig .tc := ⟨.vmem, 86, rfl⟩
abbrev cc7_stg1_1 : Ref sig .tc := ⟨.vmem, 87, rfl⟩
abbrev cc7_stg2_0 : Ref sig .tc := ⟨.vmem, 88, rfl⟩
abbrev cc7_stg2_1 : Ref sig .tc := ⟨.vmem, 89, rfl⟩
abbrev cc7_stg3_0 : Ref sig .tc := ⟨.vmem, 90, rfl⟩
abbrev cc7_stg3_1 : Ref sig .tc := ⟨.vmem, 91, rfl⟩
abbrev cc7_stg4_0 : Ref sig .tc := ⟨.vmem, 92, rfl⟩
abbrev cc7_stg5_0 : Ref sig .tc := ⟨.vmem, 93, rfl⟩
abbrev cc7_stg5_1 : Ref sig .tc := ⟨.vmem, 94, rfl⟩
abbrev cc7_stg6_0 : Ref sig .tc := ⟨.vmem, 95, rfl⟩
abbrev cc7_stg6_1 : Ref sig .tc := ⟨.vmem, 96, rfl⟩
abbrev cc7_stg7_0 : Ref sig .tc := ⟨.vmem, 97, rfl⟩
abbrev cc7_stg7_1 : Ref sig .tc := ⟨.vmem, 98, rfl⟩
abbrev cc7_stg8_0 : Ref sig .tc := ⟨.vmem, 99, rfl⟩
abbrev cc7_stg8_1 : Ref sig .tc := ⟨.vmem, 100, rfl⟩
abbrev cc7_stg9_0 : Ref sig .tc := ⟨.vmem, 101, rfl⟩
abbrev cc7_stg9_1 : Ref sig .tc := ⟨.vmem, 102, rfl⟩
abbrev cc7_stg10_0 : Ref sig .tc := ⟨.vmem, 103, rfl⟩
abbrev cc7_stg10_1 : Ref sig .tc := ⟨.vmem, 104, rfl⟩
abbrev cc8_stg0_0 : Ref sig .tc := ⟨.vmem, 105, rfl⟩
abbrev cc8_stg1_0 : Ref sig .tc := ⟨.vmem, 106, rfl⟩
abbrev cc8_stg2_0 : Ref sig .tc := ⟨.vmem, 107, rfl⟩
abbrev cc8_stg2_1 : Ref sig .tc := ⟨.vmem, 108, rfl⟩
abbrev cc8_stg3_0 : Ref sig .tc := ⟨.vmem, 109, rfl⟩
abbrev cc8_stg3_1 : Ref sig .tc := ⟨.vmem, 110, rfl⟩
abbrev cc8_stg4_0 : Ref sig .tc := ⟨.vmem, 111, rfl⟩
abbrev cc8_stg4_1 : Ref sig .tc := ⟨.vmem, 112, rfl⟩
abbrev cc8_stg5_0 : Ref sig .tc := ⟨.vmem, 113, rfl⟩
abbrev cc8_stg5_1 : Ref sig .tc := ⟨.vmem, 114, rfl⟩
abbrev cc8_stg6_0 : Ref sig .tc := ⟨.vmem, 115, rfl⟩
abbrev cc8_stg6_1 : Ref sig .tc := ⟨.vmem, 116, rfl⟩
abbrev cc8_stg7_0 : Ref sig .tc := ⟨.vmem, 117, rfl⟩
abbrev cc8_stg7_1 : Ref sig .tc := ⟨.vmem, 118, rfl⟩
abbrev cc8_stg8_0 : Ref sig .tc := ⟨.vmem, 119, rfl⟩
abbrev cc8_stg8_1 : Ref sig .tc := ⟨.vmem, 120, rfl⟩
abbrev cc8_stg10_0 : Ref sig .tc := ⟨.vmem, 121, rfl⟩
abbrev cc8_stg10_1 : Ref sig .tc := ⟨.vmem, 122, rfl⟩
abbrev cc8_stg11_0 : Ref sig .tc := ⟨.vmem, 123, rfl⟩
abbrev cc8_stg11_1 : Ref sig .tc := ⟨.vmem, 124, rfl⟩
abbrev cc8_stg12_0 : Ref sig .tc := ⟨.vmem, 125, rfl⟩
abbrev cc8_stg12_1 : Ref sig .tc := ⟨.vmem, 126, rfl⟩
abbrev cc8_stg13_0 : Ref sig .tc := ⟨.vmem, 127, rfl⟩
abbrev cc8_stg13_1 : Ref sig .tc := ⟨.vmem, 128, rfl⟩
abbrev cc8_stg14_0 : Ref sig .tc := ⟨.vmem, 129, rfl⟩
abbrev cc8_stg14_1 : Ref sig .tc := ⟨.vmem, 130, rfl⟩
abbrev cc8_stg15_0 : Ref sig .tc := ⟨.vmem, 131, rfl⟩
abbrev cc8_stg15_1 : Ref sig .tc := ⟨.vmem, 132, rfl⟩
abbrev cc8_stg16_0 : Ref sig .tc := ⟨.vmem, 133, rfl⟩
abbrev cc8_stg16_1 : Ref sig .tc := ⟨.vmem, 134, rfl⟩
abbrev cc9_stg0_0 : Ref sig .tc := ⟨.vmem, 135, rfl⟩
abbrev cc9_stg1_0 : Ref sig .tc := ⟨.vmem, 136, rfl⟩
abbrev cc9_stg2_0 : Ref sig .tc := ⟨.vmem, 137, rfl⟩
abbrev cc9_stg2_1 : Ref sig .tc := ⟨.vmem, 138, rfl⟩
abbrev cc9_stg3_0 : Ref sig .tc := ⟨.vmem, 139, rfl⟩
abbrev cc9_stg3_1 : Ref sig .tc := ⟨.vmem, 140, rfl⟩
abbrev cc9_stg4_0 : Ref sig .tc := ⟨.vmem, 141, rfl⟩
abbrev cc9_stg4_1 : Ref sig .tc := ⟨.vmem, 142, rfl⟩
abbrev cc9_stg5_0 : Ref sig .tc := ⟨.vmem, 143, rfl⟩
abbrev cc9_stg5_1 : Ref sig .tc := ⟨.vmem, 144, rfl⟩
abbrev cc9_stg6_0 : Ref sig .tc := ⟨.vmem, 145, rfl⟩
abbrev cc9_stg6_1 : Ref sig .tc := ⟨.vmem, 146, rfl⟩
abbrev cc9_stg7_0 : Ref sig .tc := ⟨.vmem, 147, rfl⟩
abbrev cc9_stg7_1 : Ref sig .tc := ⟨.vmem, 148, rfl⟩
abbrev cc9_stg8_0 : Ref sig .tc := ⟨.vmem, 149, rfl⟩
abbrev cc9_stg8_1 : Ref sig .tc := ⟨.vmem, 150, rfl⟩
abbrev cc9_stg10_0 : Ref sig .tc := ⟨.vmem, 151, rfl⟩
abbrev cc9_stg10_1 : Ref sig .tc := ⟨.vmem, 152, rfl⟩
abbrev cc9_stg11_0 : Ref sig .tc := ⟨.vmem, 153, rfl⟩
abbrev cc9_stg11_1 : Ref sig .tc := ⟨.vmem, 154, rfl⟩
abbrev cc9_stg12_0 : Ref sig .tc := ⟨.vmem, 155, rfl⟩
abbrev cc9_stg12_1 : Ref sig .tc := ⟨.vmem, 156, rfl⟩
abbrev cc9_stg13_0 : Ref sig .tc := ⟨.vmem, 157, rfl⟩
abbrev cc9_stg13_1 : Ref sig .tc := ⟨.vmem, 158, rfl⟩
abbrev cc9_stg14_0 : Ref sig .tc := ⟨.vmem, 159, rfl⟩
abbrev cc9_stg14_1 : Ref sig .tc := ⟨.vmem, 160, rfl⟩
abbrev cc9_stg15_0 : Ref sig .tc := ⟨.vmem, 161, rfl⟩
abbrev cc9_stg15_1 : Ref sig .tc := ⟨.vmem, 162, rfl⟩
abbrev cc9_stg16_0 : Ref sig .tc := ⟨.vmem, 163, rfl⟩
abbrev cc9_stg16_1 : Ref sig .tc := ⟨.vmem, 164, rfl⟩
abbrev cc10_stg0_0 : Ref sig .tc := ⟨.vmem, 165, rfl⟩
abbrev cc10_stg1_0 : Ref sig .tc := ⟨.vmem, 166, rfl⟩
abbrev cc10_stg2_0 : Ref sig .tc := ⟨.vmem, 167, rfl⟩
abbrev cc10_stg2_1 : Ref sig .tc := ⟨.vmem, 168, rfl⟩
abbrev cc10_stg3_0 : Ref sig .tc := ⟨.vmem, 169, rfl⟩
abbrev cc10_stg3_1 : Ref sig .tc := ⟨.vmem, 170, rfl⟩
abbrev cc10_stg4_0 : Ref sig .tc := ⟨.vmem, 171, rfl⟩
abbrev cc10_stg4_1 : Ref sig .tc := ⟨.vmem, 172, rfl⟩
abbrev cc10_stg5_0 : Ref sig .tc := ⟨.vmem, 173, rfl⟩
abbrev cc10_stg5_1 : Ref sig .tc := ⟨.vmem, 174, rfl⟩
abbrev cc10_stg6_0 : Ref sig .tc := ⟨.vmem, 175, rfl⟩
abbrev cc10_stg6_1 : Ref sig .tc := ⟨.vmem, 176, rfl⟩
abbrev cc10_stg7_0 : Ref sig .tc := ⟨.vmem, 177, rfl⟩
abbrev cc10_stg7_1 : Ref sig .tc := ⟨.vmem, 178, rfl⟩
abbrev cc10_stg8_0 : Ref sig .tc := ⟨.vmem, 179, rfl⟩
abbrev cc10_stg8_1 : Ref sig .tc := ⟨.vmem, 180, rfl⟩
abbrev cc11_stg0_0 : Ref sig .tc := ⟨.vmem, 181, rfl⟩
abbrev cc11_stg0_1 : Ref sig .tc := ⟨.vmem, 182, rfl⟩
abbrev cc11_stg1_0 : Ref sig .tc := ⟨.vmem, 183, rfl⟩
abbrev cc11_stg1_1 : Ref sig .tc := ⟨.vmem, 184, rfl⟩
abbrev cc11_stg2_0 : Ref sig .tc := ⟨.vmem, 185, rfl⟩
abbrev cc11_stg2_1 : Ref sig .tc := ⟨.vmem, 186, rfl⟩
abbrev cc11_stg3_0 : Ref sig .tc := ⟨.vmem, 187, rfl⟩
abbrev cc11_stg3_1 : Ref sig .tc := ⟨.vmem, 188, rfl⟩
abbrev cc11_stg5_0 : Ref sig .tc := ⟨.vmem, 189, rfl⟩
abbrev cc11_stg5_1 : Ref sig .tc := ⟨.vmem, 190, rfl⟩
abbrev cc11_stg6_0 : Ref sig .tc := ⟨.vmem, 191, rfl⟩
abbrev cc11_stg6_1 : Ref sig .tc := ⟨.vmem, 192, rfl⟩
abbrev cc11_stg7_0 : Ref sig .tc := ⟨.vmem, 193, rfl⟩
abbrev cc11_stg7_1 : Ref sig .tc := ⟨.vmem, 194, rfl⟩
abbrev cc11_stg8_0 : Ref sig .tc := ⟨.vmem, 195, rfl⟩
abbrev cc11_stg8_1 : Ref sig .tc := ⟨.vmem, 196, rfl⟩
abbrev cc11_stg9_0 : Ref sig .tc := ⟨.vmem, 197, rfl⟩
abbrev cc11_stg9_1 : Ref sig .tc := ⟨.vmem, 198, rfl⟩
abbrev cc8_stg9_0 : Ref sig .tc := ⟨.smem, 0, rfl⟩
abbrev cc9_stg9_0 : Ref sig .tc := ⟨.smem, 1, rfl⟩
abbrev cc11_stg4_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem6_0 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem3_0 : DmaSem sig := 40
abbrev cc4_sem3_1 : DmaSem sig := 41
abbrev cc4_sem4_0 : DmaSem sig := 42
abbrev cc4_sem5_0 : DmaSem sig := 43
abbrev cc4_sem6_0 : DmaSem sig := 44
abbrev cc4_sem6_1 : DmaSem sig := 45
abbrev cc4_sem7_0 : DmaSem sig := 46
abbrev cc4_sem7_1 : DmaSem sig := 47
abbrev cc4_sem8_0 : DmaSem sig := 48
abbrev cc4_sem8_1 : DmaSem sig := 49
abbrev cc4_sem9_0 : DmaSem sig := 50
abbrev cc4_sem10_0 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc5_sem3_0 : DmaSem sig := 58
abbrev cc5_sem3_1 : DmaSem sig := 59
abbrev cc5_sem4_0 : DmaSem sig := 60
abbrev cc5_sem4_1 : DmaSem sig := 61
abbrev cc5_sem5_0 : DmaSem sig := 62
abbrev cc5_sem5_1 : DmaSem sig := 63
abbrev cc5_sem6_0 : DmaSem sig := 64
abbrev cc5_sem6_1 : DmaSem sig := 65
abbrev cc5_sem7_0 : DmaSem sig := 66
abbrev cc5_sem7_1 : DmaSem sig := 67
abbrev cc5_sem8_0 : DmaSem sig := 68
abbrev cc5_sem8_1 : DmaSem sig := 69
abbrev cc5_sem9_0 : DmaSem sig := 70
abbrev cc5_sem9_1 : DmaSem sig := 71
abbrev cc5_sem10_0 : DmaSem sig := 72
abbrev cc5_sem10_1 : DmaSem sig := 73
abbrev cc5_sem11_0 : DmaSem sig := 74
abbrev cc5_sem11_1 : DmaSem sig := 75
abbrev cc6_sem0_0 : DmaSem sig := 76
abbrev cc6_sem0_1 : DmaSem sig := 77
abbrev cc6_sem1_0 : DmaSem sig := 78
abbrev cc6_sem1_1 : DmaSem sig := 79
abbrev cc6_sem2_0 : DmaSem sig := 80
abbrev cc6_sem2_1 : DmaSem sig := 81
abbrev cc6_sem3_0 : DmaSem sig := 82
abbrev cc6_sem3_1 : DmaSem sig := 83
abbrev cc7_sem0_0 : DmaSem sig := 84
abbrev cc7_sem0_1 : DmaSem sig := 85
abbrev cc7_sem1_0 : DmaSem sig := 86
abbrev cc7_sem1_1 : DmaSem sig := 87
abbrev cc7_sem2_0 : DmaSem sig := 88
abbrev cc7_sem2_1 : DmaSem sig := 89
abbrev cc7_sem3_0 : DmaSem sig := 90
abbrev cc7_sem3_1 : DmaSem sig := 91
abbrev cc7_sem4_0 : DmaSem sig := 92
abbrev cc7_sem5_0 : DmaSem sig := 93
abbrev cc7_sem5_1 : DmaSem sig := 94
abbrev cc7_sem6_0 : DmaSem sig := 95
abbrev cc7_sem6_1 : DmaSem sig := 96
abbrev cc7_sem7_0 : DmaSem sig := 97
abbrev cc7_sem7_1 : DmaSem sig := 98
abbrev cc7_sem8_0 : DmaSem sig := 99
abbrev cc7_sem8_1 : DmaSem sig := 100
abbrev cc7_sem9_0 : DmaSem sig := 101
abbrev cc7_sem9_1 : DmaSem sig := 102
abbrev cc7_sem10_0 : DmaSem sig := 103
abbrev cc7_sem10_1 : DmaSem sig := 104
abbrev cc8_sem0_0 : DmaSem sig := 105
abbrev cc8_sem1_0 : DmaSem sig := 106
abbrev cc8_sem2_0 : DmaSem sig := 107
abbrev cc8_sem2_1 : DmaSem sig := 108
abbrev cc8_sem3_0 : DmaSem sig := 109
abbrev cc8_sem3_1 : DmaSem sig := 110
abbrev cc8_sem4_0 : DmaSem sig := 111
abbrev cc8_sem4_1 : DmaSem sig := 112
abbrev cc8_sem5_0 : DmaSem sig := 113
abbrev cc8_sem5_1 : DmaSem sig := 114
abbrev cc8_sem6_0 : DmaSem sig := 115
abbrev cc8_sem6_1 : DmaSem sig := 116
abbrev cc8_sem7_0 : DmaSem sig := 117
abbrev cc8_sem7_1 : DmaSem sig := 118
abbrev cc8_sem8_0 : DmaSem sig := 119
abbrev cc8_sem8_1 : DmaSem sig := 120
abbrev cc8_sem9_0 : DmaSem sig := 121
abbrev cc8_sem10_0 : DmaSem sig := 122
abbrev cc8_sem10_1 : DmaSem sig := 123
abbrev cc8_sem11_0 : DmaSem sig := 124
abbrev cc8_sem11_1 : DmaSem sig := 125
abbrev cc8_sem12_0 : DmaSem sig := 126
abbrev cc8_sem12_1 : DmaSem sig := 127
abbrev cc8_sem13_0 : DmaSem sig := 128
abbrev cc8_sem13_1 : DmaSem sig := 129
abbrev cc8_sem14_0 : DmaSem sig := 130
abbrev cc8_sem14_1 : DmaSem sig := 131
abbrev cc8_sem15_0 : DmaSem sig := 132
abbrev cc8_sem15_1 : DmaSem sig := 133
abbrev cc8_sem16_0 : DmaSem sig := 134
abbrev cc8_sem16_1 : DmaSem sig := 135
abbrev cc9_sem0_0 : DmaSem sig := 136
abbrev cc9_sem1_0 : DmaSem sig := 137
abbrev cc9_sem2_0 : DmaSem sig := 138
abbrev cc9_sem2_1 : DmaSem sig := 139
abbrev cc9_sem3_0 : DmaSem sig := 140
abbrev cc9_sem3_1 : DmaSem sig := 141
abbrev cc9_sem4_0 : DmaSem sig := 142
abbrev cc9_sem4_1 : DmaSem sig := 143
abbrev cc9_sem5_0 : DmaSem sig := 144
abbrev cc9_sem5_1 : DmaSem sig := 145
abbrev cc9_sem6_0 : DmaSem sig := 146
abbrev cc9_sem6_1 : DmaSem sig := 147
abbrev cc9_sem7_0 : DmaSem sig := 148
abbrev cc9_sem7_1 : DmaSem sig := 149
abbrev cc9_sem8_0 : DmaSem sig := 150
abbrev cc9_sem8_1 : DmaSem sig := 151
abbrev cc9_sem9_0 : DmaSem sig := 152
abbrev cc9_sem10_0 : DmaSem sig := 153
abbrev cc9_sem10_1 : DmaSem sig := 154
abbrev cc9_sem11_0 : DmaSem sig := 155
abbrev cc9_sem11_1 : DmaSem sig := 156
abbrev cc9_sem12_0 : DmaSem sig := 157
abbrev cc9_sem12_1 : DmaSem sig := 158
abbrev cc9_sem13_0 : DmaSem sig := 159
abbrev cc9_sem13_1 : DmaSem sig := 160
abbrev cc9_sem14_0 : DmaSem sig := 161
abbrev cc9_sem14_1 : DmaSem sig := 162
abbrev cc9_sem15_0 : DmaSem sig := 163
abbrev cc9_sem15_1 : DmaSem sig := 164
abbrev cc9_sem16_0 : DmaSem sig := 165
abbrev cc9_sem16_1 : DmaSem sig := 166
abbrev cc10_sem0_0 : DmaSem sig := 167
abbrev cc10_sem1_0 : DmaSem sig := 168
abbrev cc10_sem2_0 : DmaSem sig := 169
abbrev cc10_sem2_1 : DmaSem sig := 170
abbrev cc10_sem3_0 : DmaSem sig := 171
abbrev cc10_sem3_1 : DmaSem sig := 172
abbrev cc10_sem4_0 : DmaSem sig := 173
abbrev cc10_sem4_1 : DmaSem sig := 174
abbrev cc10_sem5_0 : DmaSem sig := 175
abbrev cc10_sem5_1 : DmaSem sig := 176
abbrev cc10_sem6_0 : DmaSem sig := 177
abbrev cc10_sem6_1 : DmaSem sig := 178
abbrev cc10_sem7_0 : DmaSem sig := 179
abbrev cc10_sem7_1 : DmaSem sig := 180
abbrev cc10_sem8_0 : DmaSem sig := 181
abbrev cc10_sem8_1 : DmaSem sig := 182
abbrev cc11_sem0_0 : DmaSem sig := 183
abbrev cc11_sem0_1 : DmaSem sig := 184
abbrev cc11_sem1_0 : DmaSem sig := 185
abbrev cc11_sem1_1 : DmaSem sig := 186
abbrev cc11_sem2_0 : DmaSem sig := 187
abbrev cc11_sem2_1 : DmaSem sig := 188
abbrev cc11_sem3_0 : DmaSem sig := 189
abbrev cc11_sem3_1 : DmaSem sig := 190
abbrev cc11_sem4_0 : DmaSem sig := 191
abbrev cc11_sem5_0 : DmaSem sig := 192
abbrev cc11_sem5_1 : DmaSem sig := 193
abbrev cc11_sem6_0 : DmaSem sig := 194
abbrev cc11_sem6_1 : DmaSem sig := 195
abbrev cc11_sem7_0 : DmaSem sig := 196
abbrev cc11_sem7_1 : DmaSem sig := 197
abbrev cc11_sem8_0 : DmaSem sig := 198
abbrev cc11_sem8_1 : DmaSem sig := 199
abbrev cc11_sem9_0 : DmaSem sig := 200
abbrev cc11_sem9_1 : DmaSem sig := 201

abbrev nD : Nat := 1
abbrev τ : Topo := Topo.v7x

variable {F : FTy → Type} [FloatOps F]

abbrev grid0 : Pipeline.Grid := ⟨1, ![43], ![false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_off1 (k0_t1 : Fin k0_t1_loop.trips) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v4 : BitVec 32 := Scalar.muli arg5 c1_i32_1
  let v5 : BitVec 32 := Scalar.addi c0_i32_2 v4
  let v6 : Index := Scalar.indexCast v5
  let c0 : Index := 0#32
  ![v6.toNat, 0]
def k0_off2 (k0_t1 : Fin k0_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v4 : BitVec 32 := Scalar.muli arg5 c1_i32_1
  let v5 : BitVec 32 := Scalar.addi c0_i32_2 v4
  let c4_i32 : BitVec 32 := 4#32
  let v16 : BitVec 32 := Scalar.muli v5 c4_i32
  let v17 : BitVec 32 := Scalar.addi v16 c0_i32_4
  let v18 : Index := Scalar.indexCast v17
  let c0_5 : Index := 0#32
  ![v18.toNat, 0]
def k0_off3 (k0_t1 : Fin k0_t1_loop.trips) (c0_i32_7 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k0_t1
  let c1_i32_1 : BitVec 32 := 1#32
  let v4 : BitVec 32 := Scalar.muli arg5 c1_i32_1
  let v5 : BitVec 32 := Scalar.addi c0_i32_2 v4
  let c64_i32_6 : BitVec 32 := 64#32
  let v30 : BitVec 32 := Scalar.muli v5 c64_i32_6
  let v31 : BitVec 32 := Scalar.addi v30 c0_i32_7
  let v32 : Index := Scalar.indexCast v31
  let c0_8 : Index := 0#32
  ![v32.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![43], ![false]⟩

@[reducible] def k1_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k1_off1 (k1_t1 : Fin k1_t1_loop.trips) : Fin 2 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let v6 : Index := Scalar.indexCast v5
  let c0 : Index := 0#32
  ![v6.toNat, 0]
def k1_off2 (k1_t1 : Fin k1_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c4_i32 : BitVec 32 := 4#32
  let v16 : BitVec 32 := Scalar.muli v5 c4_i32
  let v17 : BitVec 32 := Scalar.addi v16 c0_i32_4
  let v18 : Index := Scalar.indexCast v17
  let c0_5 : Index := 0#32
  ![v18.toNat, 0]
def k1_off3 (k1_t1 : Fin k1_t1_loop.trips) (c0_i32_7 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k1_t1
  let c1_i32_1 : BitVec 32 := 1#32
  let v4 : BitVec 32 := Scalar.muli arg5 c1_i32_1
  let v5 : BitVec 32 := Scalar.addi c0_i32_2 v4
  let c64_i32_6 : BitVec 32 := 64#32
  let v30 : BitVec 32 := Scalar.muli v5 c64_i32_6
  let v31 : BitVec 32 := Scalar.addi v30 c0_i32_7
  let v32 : Index := Scalar.indexCast v31
  let c0_8 : Index := 0#32
  ![v32.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

@[reducible] def k2_t1_loop : Scf.Loop 32 :=
  let c0_i32 : BitVec 32 := 0#32
  let c172_i32 : BitVec 32 := 172#32
  let v3 : BitVec 32 := Scalar.addi c0_i32 c172_i32
  let c1_i32 : BitVec 32 := 1#32
  ⟨c0_i32, v3, c1_i32⟩
def k2_off1 (k2_t1 : Fin k2_t1_loop.trips) : Fin 2 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let v6 : Index := Scalar.indexCast v5
  let c0 : Index := 0#32
  ![v6.toNat, 0]
def k2_off2 (k2_t1 : Fin k2_t1_loop.trips) (c0_i32_4 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c4_i32 : BitVec 32 := 4#32
  let v16 : BitVec 32 := Scalar.muli v5 c4_i32
  let v17 : BitVec 32 := Scalar.addi v16 c0_i32_4
  let v18 : Index := Scalar.indexCast v17
  let c0_5 : Index := 0#32
  ![v18.toNat, 0]
def k2_off3 (k2_t1 : Fin k2_t1_loop.trips) (c0_i32_6 : BitVec 32) : Fin 2 → Nat :=
  let c0_i32_2 : BitVec 32 := 0#32
  let c0_i32 : BitVec 32 := 0#32
  let c1_i32 : BitVec 32 := 1#32
  let arg5 : BitVec 32 := Scf.iv c0_i32 c1_i32 k2_t1
  let c1_i32_1 : BitVec 32 := 1#32
  let v4 : BitVec 32 := Scalar.muli arg5 c1_i32_1
  let v5 : BitVec 32 := Scalar.addi c0_i32_2 v4
  let c64_i32 : BitVec 32 := 64#32
  let v30 : BitVec 32 := Scalar.muli v5 c64_i32
  let v31 : BitVec 32 := Scalar.addi v30 c0_i32_6
  let v32 : Index := Scalar.indexCast v31
  let c0_7 : Index := 0#32
  ![v32.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S688x256 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S172x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S172x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S11008x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![24], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x4096 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S8x4096 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S8x4096 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![24], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x4096 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S8x4096 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S8x4096 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S256x4096 .fp8e4m3 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S4096x256 .fp8e4m3 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S256x4096 .fp8e4m3 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 1 → Memref sig .tc .vmem S1x4096 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x4096 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev grid5 : Pipeline.Grid := ⟨2, ![6, 43], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_9 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_10 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_11 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x4096 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S4096x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S4096x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S256x4096 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true]

abbrev stage5_5 : Fin 2 → Memref sig .tc .vmem S1024x256 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S1024x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S1024x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 2 → Memref sig .tc .vmem S1024x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

abbrev stage5_9 : Fin 2 → Memref sig .tc .vmem S1x8x256 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, true]

abbrev stage5_10 : Fin 2 → Memref sig .tc .vmem S1x8x256 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true, true]

abbrev stage5_11 : Fin 2 → Memref sig .tc .vmem S1x8x256 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true, true]

abbrev grid6 : Pipeline.Grid := ⟨2, ![8, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S768x11008 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S11008x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S768x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S768x512 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![6, 47], ![false, false]⟩

def k7_cond3 (i : grid7.Coords) : BitVec 1 :=
  let arg1 : BitVec 32 := BitVec.ofNat 32 (i 1).val
  let c43_i32_2 : BitVec 32 := 43#32
  let v6 : BitVec 1 := Scalar.cmpi .sge arg1 c43_i32_2
  let v7 : BitVec 32 := Scalar.extui v6
  let c0_i32_3 : BitVec 32 := 0#32
  let v8 : BitVec 1 := Scalar.cmpi .ne v7 c0_i32_3
  v8

def k7_off1 (i : grid7.Coords) : Fin 2 → Nat :=
  let arg1 : BitVec 32 := BitVec.ofNat 32 (i 1).val
  let c43_i32_7 : BitVec 32 := 43#32
  let v12 : BitVec 32 := Scalar.subi arg1 c43_i32_7
  let c256_i32 : BitVec 32 := 256#32
  let v13 : BitVec 32 := Scalar.muli v12 c256_i32
  let v14 : Index := Scalar.indexCast v13
  let c0_8 : Index := 0#32
  ![v14.toNat, 0]
def cc7_transform_0 (i : grid7.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  ![arg0.toNat, v0.toNat]

def cc7_transform_1 (i : grid7.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  ![arg0.toNat, v0.toNat]

def cc7_transform_2 (i : grid7.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![c0_i32.toNat, v0.toNat]

def cc7_transform_3 (i : grid7.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.minsi arg1 c42_i32
  let c0_i32 : BitVec 32 := 0#32
  let c0_i32_0 : BitVec 32 := 0#32
  ![c0_i32.toNat, v0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.subi arg1 c43_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc7_transform_6 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.subi arg1 c43_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc7_transform_7 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.subi arg1 c43_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc7_transform_8 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.subi arg1 c43_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc7_transform_9 (i : grid7.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c43_i32 : BitVec 32 := 43#32
  let v1 : BitVec 32 := Scalar.subi arg1 c43_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc7_transform_10 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1024x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S4096x256 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S4096x256 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 1 → Memref sig .tc .vmem S1x4096 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 2 → Memref sig .tc .vmem S256x4096 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S256x4096 .bf16 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev stage7_7 : Fin 2 → Memref sig .tc .vmem S256x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

abbrev stage7_8 : Fin 2 → Memref sig .tc .vmem S256x4096 .bf16 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true, true]

abbrev stage7_9 : Fin 2 → Memref sig .tc .vmem S256x128 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true, true]

abbrev stage7_10 : Fin 2 → Memref sig .tc .vmem S1024x4096 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true, false]

abbrev grid8 : Pipeline.Grid := ⟨1, ![43], ![false]⟩

@[reducible] def k8_t1_loop : Scf.Loop 32 :=
  let c0_i32 : BitVec 32 := 0#32
  let c12_i32 : BitVec 32 := 12#32
  let v12 : BitVec 32 := Scalar.addi c0_i32 c12_i32
  let c1_i32 : BitVec 32 := 1#32
  ⟨c0_i32, v12, c1_i32⟩
def k8_off1 (k8_t1 : Fin k8_t1_loop.trips) : Fin 2 → Nat :=
  let c0_i32_786 : BitVec 32 := 0#32
  let c0_i32 : BitVec 32 := 0#32
  let c1_i32 : BitVec 32 := 1#32
  let arg18 : BitVec 32 := Scf.iv c0_i32 c1_i32 k8_t1
  let c1_i32_785 : BitVec 32 := 1#32
  let v4820 : BitVec 32 := Scalar.muli arg18 c1_i32_785
  let v4821 : BitVec 32 := Scalar.addi c0_i32_786 v4820
  let c512_i32 : BitVec 32 := 512#32
  let v4822 : BitVec 32 := Scalar.muli v4821 c512_i32
  let v4823 : Index := Scalar.indexCast v4822
  let c0_787 : Index := 0#32
  ![v4823.toNat, 0]
def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_3 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_9 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_10 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_11 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_12 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_13 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_14 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_15 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_16 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S4096x6144 .fp8e4m3 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S4096x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S6144x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S6x8x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S256x256 .i32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S64x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S256x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S256x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S256x64 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev stage8_9 : Fin 1 → Memref sig .tc .smem S4 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 2 → Memref sig .tc .vmem S6144x256 .fp8e4m3 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev stage8_11 : Fin 2 → Memref sig .tc .vmem S1x256 .f32 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

abbrev stage8_12 : Fin 2 → Memref sig .tc .vmem S256x64 .f32 := fun | 0 => Memref.whole cc8_stg12_0 | 1 => Memref.whole cc8_stg12_1 | ⟨_ + 2, h⟩ => absurd h (Nat.not_lt.2 (Nat.le_add_left _ _))
abbrev sem8_12 : Fin 2 → DmaSem sig := fun | 0 => cc8_sem12_0 | 1 => cc8_sem12_1 | ⟨_ + 2, h⟩ => absurd h (Nat.not_lt.2 (Nat.le_add_left _ _))
abbrev reads8_12 : Fin grid8.rank → Bool := ![true]

abbrev stage8_13 : Fin 2 → Memref sig .tc .vmem S256x64 .f32 := fun | 0 => Memref.whole cc8_stg13_0 | 1 => Memref.whole cc8_stg13_1 | ⟨_ + 2, h⟩ => absurd h (Nat.not_lt.2 (Nat.le_add_left _ _))
abbrev sem8_13 : Fin 2 → DmaSem sig := fun | 0 => cc8_sem13_0 | 1 => cc8_sem13_1 | ⟨_ + 2, h⟩ => absurd h (Nat.not_lt.2 (Nat.le_add_left _ _))
abbrev reads8_13 : Fin grid8.rank → Bool := ![true]

abbrev stage8_14 : Fin 2 → Memref sig .tc .vmem S256x64 .f32 := fun | 0 => Memref.whole cc8_stg14_0 | 1 => Memref.whole cc8_stg14_1 | ⟨_ + 2, h⟩ => absurd h (Nat.not_lt.2 (Nat.le_add_left _ _))
abbrev sem8_14 : Fin 2 → DmaSem sig := fun | 0 => cc8_sem14_0 | 1 => cc8_sem14_1 | ⟨_ + 2, h⟩ => absurd h (Nat.not_lt.2 (Nat.le_add_left _ _))
abbrev reads8_14 : Fin grid8.rank → Bool := ![true]

abbrev stage8_15 : Fin 2 → Memref sig .tc .vmem S256x64 .f32 := fun | 0 => Memref.whole cc8_stg15_0 | 1 => Memref.whole cc8_stg15_1 | ⟨_ + 2, h⟩ => absurd h (Nat.not_lt.2 (Nat.le_add_left _ _))
abbrev sem8_15 : Fin 2 → DmaSem sig := fun | 0 => cc8_sem15_0 | 1 => cc8_sem15_1 | ⟨_ + 2, h⟩ => absurd h (Nat.not_lt.2 (Nat.le_add_left _ _))
abbrev reads8_15 : Fin grid8.rank → Bool := ![true]

abbrev stage8_16 : Fin 2 → Memref sig .tc .vmem S256x64 .f32 := fun | 0 => Memref.whole cc8_stg16_0 | 1 => Memref.whole cc8_stg16_1 | ⟨_ + 2, h⟩ => absurd h (Nat.not_lt.2 (Nat.le_add_left _ _))
abbrev sem8_16 : Fin 2 → DmaSem sig := fun | 0 => cc8_sem16_0 | 1 => cc8_sem16_1 | ⟨_ + 2, h⟩ => absurd h (Nat.not_lt.2 (Nat.le_add_left _ _))
abbrev reads8_16 : Fin grid8.rank → Bool := ![true]

abbrev grid9 : Pipeline.Grid := ⟨1, ![43], ![false]⟩

@[reducible] def k9_t1_loop : Scf.Loop 32 :=
  let c0_i32 : BitVec 32 := 0#32
  let c12_i32 : BitVec 32 := 12#32
  let v12 : BitVec 32 := Scalar.addi c0_i32 c12_i32
  let c1_i32 : BitVec 32 := 1#32
  ⟨c0_i32, v12, c1_i32⟩
def k9_off1 (k9_t1 : Fin k9_t1_loop.trips) : Fin 2 → Nat :=
  let c0_i32_786 : BitVec 32 := 0#32
  let c0_i32 : BitVec 32 := 0#32
  let c1_i32 : BitVec 32 := 1#32
  let arg18 : BitVec 32 := Scf.iv c0_i32 c1_i32 k9_t1
  let c1_i32_785 : BitVec 32 := 1#32
  let v4820 : BitVec 32 := Scalar.muli arg18 c1_i32_785
  let v4821 : BitVec 32 := Scalar.addi c0_i32_786 v4820
  let c512_i32 : BitVec 32 := 512#32
  let v4822 : BitVec 32 := Scalar.muli v4821 c512_i32
  let v4823 : Index := Scalar.indexCast v4822
  let c0_787 : Index := 0#32
  ![v4823.toNat, 0]
def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_3 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_9 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_10 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_11 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_12 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_13 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_14 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_15 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_16 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S4096x6144 .fp8e4m3 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S4096x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S6144x256 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S6x8x256 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S256x256 .i32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S64x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S256x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S256x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S256x64 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev stage9_9 : Fin 1 → Memref sig .tc .smem S4 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 2 → Memref sig .tc .vmem S6144x256 .fp8e4m3 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true]

abbrev stage9_11 : Fin 2 → Memref sig .tc .vmem S1x256 .f32 := fun | 0 => Memref.whole cc9_stg11_0 | 1 => Memref.whole cc9_stg11_1 | ⟨_ + 2, h⟩ => absurd h (Nat.not_lt.2 (Nat.le_add_left _ _))
abbrev sem9_11 : Fin 2 → DmaSem sig := fun | 0 => cc9_sem11_0 | 1 => cc9_sem11_1 | ⟨_ + 2, h⟩ => absurd h (Nat.not_lt.2 (Nat.le_add_left _ _))
abbrev reads9_11 : Fin grid9.rank → Bool := ![true]

abbrev stage9_12 : Fin 2 → Memref sig .tc .vmem S256x64 .f32 := fun | 0 => Memref.whole cc9_stg12_0 | 1 => Memref.whole cc9_stg12_1 | ⟨_ + 2, h⟩ => absurd h (Nat.not_lt.2 (Nat.le_add_left _ _))
abbrev sem9_12 : Fin 2 → DmaSem sig := fun | 0 => cc9_sem12_0 | 1 => cc9_sem12_1 | ⟨_ + 2, h⟩ => absurd h (Nat.not_lt.2 (Nat.le_add_left _ _))
abbrev reads9_12 : Fin grid9.rank → Bool := ![true]

abbrev stage9_13 : Fin 2 → Memref sig .tc .vmem S256x64 .f32 := fun | 0 => Memref.whole cc9_stg13_0 | 1 => Memref.whole cc9_stg13_1 | ⟨_ + 2, h⟩ => absurd h (Nat.not_lt.2 (Nat.le_add_left _ _))
abbrev sem9_13 : Fin 2 → DmaSem sig := fun | 0 => cc9_sem13_0 | 1 => cc9_sem13_1 | ⟨_ + 2, h⟩ => absurd h (Nat.not_lt.2 (Nat.le_add_left _ _))
abbrev reads9_13 : Fin grid9.rank → Bool := ![true]

abbrev stage9_14 : Fin 2 → Memref sig .tc .vmem S256x64 .f32 := fun | 0 => Memref.whole cc9_stg14_0 | 1 => Memref.whole cc9_stg14_1 | ⟨_ + 2, h⟩ => absurd h (Nat.not_lt.2 (Nat.le_add_left _ _))
abbrev sem9_14 : Fin 2 → DmaSem sig := fun | 0 => cc9_sem14_0 | 1 => cc9_sem14_1 | ⟨_ + 2, h⟩ => absurd h (Nat.not_lt.2 (Nat.le_add_left _ _))
abbrev reads9_14 : Fin grid9.rank → Bool := ![true]

abbrev stage9_15 : Fin 2 → Memref sig .tc .vmem S256x64 .f32 := fun | 0 => Memref.whole cc9_stg15_0 | 1 => Memref.whole cc9_stg15_1 | ⟨_ + 2, h⟩ => absurd h (Nat.not_lt.2 (Nat.le_add_left _ _))
abbrev sem9_15 : Fin 2 → DmaSem sig := fun | 0 => cc9_sem15_0 | 1 => cc9_sem15_1 | ⟨_ + 2, h⟩ => absurd h (Nat.not_lt.2 (Nat.le_add_left _ _))
abbrev reads9_15 : Fin grid9.rank → Bool := ![true]

abbrev stage9_16 : Fin 2 → Memref sig .tc .vmem S256x64 .f32 := fun | 0 => Memref.whole cc9_stg16_0 | 1 => Memref.whole cc9_stg16_1 | ⟨_ + 2, h⟩ => absurd h (Nat.not_lt.2 (Nat.le_add_left _ _))
abbrev sem9_16 : Fin 2 → DmaSem sig := fun | 0 => cc9_sem16_0 | 1 => cc9_sem16_1 | ⟨_ + 2, h⟩ => absurd h (Nat.not_lt.2 (Nat.le_add_left _ _))
abbrev reads9_16 : Fin grid9.rank → Bool := ![true]

abbrev grid10 : Pipeline.Grid := ⟨1, ![43], ![false]⟩

@[reducible] def k10_t1_loop : Scf.Loop 32 :=
  let c0_i32 : BitVec 32 := 0#32
  let c12_i32 : BitVec 32 := 12#32
  let v12 : BitVec 32 := Scalar.addi c0_i32 c12_i32
  let c1_i32 : BitVec 32 := 1#32
  ⟨c0_i32, v12, c1_i32⟩
def k10_off1 (k10_t1 : Fin k10_t1_loop.trips) : Fin 2 → Nat :=
  let c0_i32_877 : BitVec 32 := 0#32
  let c0_i32 : BitVec 32 := 0#32
  let c1_i32 : BitVec 32 := 1#32
  let arg10 : BitVec 32 := Scf.iv c0_i32 c1_i32 k10_t1
  let c1_i32_876 : BitVec 32 := 1#32
  let v2645 : BitVec 32 := Scalar.muli arg10 c1_i32_876
  let v2646 : BitVec 32 := Scalar.addi c0_i32_877 v2645
  let c512_i32_878 : BitVec 32 := 512#32
  let v2647 : BitVec 32 := Scalar.muli v2646 c512_i32_878
  let v2648 : Index := Scalar.indexCast v2647
  let c0_879 : Index := 0#32
  ![v2648.toNat, 0]
def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_3 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_8 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 1 → Memref sig .tc .vmem S6144x4096 .fp8e4m3 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S1x4096 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S6144x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S6x8x256 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S16x4096 .i32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S1x4x4096 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S6144x256 .fp8e4m3 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 2 → Memref sig .tc .vmem S1x256 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S1x4x4096 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S172x512 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S512x172 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S512x172 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S512x172 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .smem S4 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S512x172 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 2 → Memref sig .tc .vmem S512x172 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev stage11_7 : Fin 2 → Memref sig .tc .vmem S512x172 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 2 → Memref sig .tc .vmem S512x172 .f32 := fun | 0 => Memref.whole cc11_stg8_0 | 1 => Memref.whole cc11_stg8_1 | ⟨_ + 2, h⟩ => absurd h (Nat.not_lt.2 (Nat.le_add_left _ _))
abbrev sem11_8 : Fin 2 → DmaSem sig := fun | 0 => cc11_sem8_0 | 1 => cc11_sem8_1 | ⟨_ + 2, h⟩ => absurd h (Nat.not_lt.2 (Nat.le_add_left _ _))
abbrev reads11_8 : Fin grid11.rank → Bool := ![true]

abbrev stage11_9 : Fin 2 → Memref sig .tc .vmem S512x172 .f32 := fun | 0 => Memref.whole cc11_stg9_0 | 1 => Memref.whole cc11_stg9_1 | ⟨_ + 2, h⟩ => absurd h (Nat.not_lt.2 (Nat.le_add_left _ _))
abbrev sem11_9 : Fin 2 → DmaSem sig := fun | 0 => cc11_sem9_0 | 1 => cc11_sem9_1 | ⟨_ + 2, h⟩ => absurd h (Nat.not_lt.2 (Nat.le_add_left _ _))
abbrev reads11_9 : Fin grid11.rank → Bool := ![true]
-- ==== MlpRefIdeal.lean ====
abbrev S3x2048x4096 : Shape := ⟨3, ![3, 2048, 4096]⟩
abbrev S4096 : Shape := ⟨1, ![4096]⟩
abbrev S11008x256 : Shape := ⟨2, ![11008, 256]⟩
abbrev S11008x16 : Shape := ⟨2, ![11008, 16]⟩
abbrev S11008x64 : Shape := ⟨2, ![11008, 64]⟩
abbrev S4096x688 : Shape := ⟨2, ![4096, 688]⟩
abbrev S4096x43 : Shape := ⟨2, ![4096, 43]⟩
abbrev S4096x172 : Shape := ⟨2, ![4096, 172]⟩
abbrev S3 : Shape := ⟨1, ![3]⟩
abbrev S_ : Shape := ⟨0, ![]⟩
abbrev S16 : Shape := ⟨1, ![16]⟩
abbrev S1x1x16 : Shape := ⟨3, ![1, 1, 16]⟩
abbrev S11008x256x16 : Shape := ⟨3, ![11008, 256, 16]⟩
abbrev S11008x256x1 : Shape := ⟨3, ![11008, 256, 1]⟩
abbrev S11008x16x1 : Shape := ⟨3, ![11008, 16, 1]⟩
abbrev S4 : Shape := ⟨1, ![4]⟩
abbrev S1x1x4 : Shape := ⟨3, ![1, 1, 4]⟩
abbrev S11008x16x4 : Shape := ⟨3, ![11008, 16, 4]⟩
abbrev S11008x64x64 : Shape := ⟨3, ![11008, 64, 64]⟩
abbrev S11008x64x1 : Shape := ⟨3, ![11008, 64, 1]⟩
abbrev S11008x4096 : Shape := ⟨2, ![11008, 4096]⟩
abbrev S4096x688x16 : Shape := ⟨3, ![4096, 688, 16]⟩
abbrev S4096x688x1 : Shape := ⟨3, ![4096, 688, 1]⟩
abbrev S4096x43x1 : Shape := ⟨3, ![4096, 43, 1]⟩
abbrev S4096x43x4 : Shape := ⟨3, ![4096, 43, 4]⟩
abbrev S4096x172x64 : Shape := ⟨3, ![4096, 172, 64]⟩
abbrev S4096x172x1 : Shape := ⟨3, ![4096, 172, 1]⟩
abbrev S4096x11008 : Shape := ⟨2, ![4096, 11008]⟩
abbrev S6144x4096 : Shape := ⟨2, ![6144, 4096]⟩
abbrev S6144 : Shape := ⟨1, ![6144]⟩
abbrev S6144x1 : Shape := ⟨2, ![6144, 1]⟩
abbrev S1x4096 : Shape := ⟨2, ![1, 4096]⟩
abbrev S6144x11008 : Shape := ⟨2, ![6144, 11008]⟩
abbrev S1x11008 : Shape := ⟨2, ![1, 11008]⟩
abbrev S11008 : Shape := ⟨1, ![11008]⟩

abbrev nBuf : Space → Nat
  | .hbm => 234
  | .vmem => 15
  | .smem => 0
  | _ => 0

abbrev hbmTy0_0 (i : Nat) : BufTy := match i % 128 with
  | 0 => ⟨S3x2048x4096, .bf16⟩
  | 1 => ⟨S3x2048x4096, .bf16⟩
  | 2 => ⟨S4096, .f32⟩
  | 3 => ⟨S11008x256, .i32⟩
  | 4 => ⟨S11008x16, .i8⟩
  | 5 => ⟨S11008x64, .f32⟩
  | 6 => ⟨S11008x64, .f32⟩
  | 7 => ⟨S11008x64, .f32⟩
  | 8 => ⟨S11008x256, .i32⟩
  | 9 => ⟨S11008x16, .i8⟩
  | 10 => ⟨S11008x64, .f32⟩
  | 11 => ⟨S11008x64, .f32⟩
  | 12 => ⟨S11008x64, .f32⟩
  | 13 => ⟨S4096x688, .i32⟩
  | 14 => ⟨S4096x43, .i8⟩
  | 15 => ⟨S4096x172, .f32⟩
  | 16 => ⟨S4096x172, .f32⟩
  | 17 => ⟨S4096x172, .f32⟩
  | 18 => ⟨S3, .f32⟩
  | 19 => ⟨S3, .f32⟩
  | 20 => ⟨S_, .f32⟩
  | 21 => ⟨S_, .f32⟩
  | 22 => ⟨S16, .i32⟩
  | 23 => ⟨S_, .i32⟩
  | 24 => ⟨S16, .i32⟩
  | 25 => ⟨S16, .i32⟩
  | 26 => ⟨S1x1x16, .i32⟩
  | 27 => ⟨S11008x256x16, .i32⟩
  | 28 => ⟨S11008x256x1, .i32⟩
  | 29 => ⟨S11008x256x16, .i32⟩
  | 30 => ⟨S11008x256x16, .i32⟩
  | 31 => ⟨S_, .i32⟩
  | 32 => ⟨S11008x256x16, .i32⟩
  | 33 => ⟨S11008x256x16, .i32⟩
  | 34 => ⟨S11008x16x1, .i8⟩
  | 35 => ⟨S11008x16x1, .i32⟩
  | 36 => ⟨S4, .i32⟩
  | 37 => ⟨S_, .i32⟩
  | 38 => ⟨S4, .i32⟩
  | 39 => ⟨S4, .i32⟩
  | 40 => ⟨S1x1x4, .i32⟩
  | 41 => ⟨S11008x16x4, .i32⟩
  | 42 => ⟨S11008x16x4, .i32⟩
  | 43 => ⟨S11008x16x4, .i32⟩
  | 44 => ⟨S_, .i32⟩
  | 45 => ⟨S11008x16x4, .i32⟩
  | 46 => ⟨S11008x16x4, .i32⟩
  | 47 => ⟨S11008x256x16, .f32⟩
  | 48 => ⟨S11008x64x64, .f32⟩
  | 49 => ⟨S11008x64, .i32⟩
  | 50 => ⟨S11008x64, .f32⟩
  | 51 => ⟨S11008x64x1, .f32⟩
  | 52 => ⟨S11008x64x64, .f32⟩
  | 53 => ⟨S11008x64x64, .f32⟩
  | 54 => ⟨S11008x64x1, .f32⟩
  | 55 => ⟨S11008x64x64, .f32⟩
  | 56 => ⟨S11008x64x64, .f32⟩
  | 57 => ⟨S11008x64x64, .bf16⟩
  | 58 => ⟨S11008x4096, .f32⟩
  | 59 => ⟨S11008x4096, .bf16⟩
  | 60 => ⟨S16, .i32⟩
  | 61 => ⟨S_, .i32⟩
  | 62 => ⟨S16, .i32⟩
  | 63 => ⟨S16, .i32⟩
  | 64 => ⟨S1x1x16, .i32⟩
  | 65 => ⟨S11008x256x16, .i32⟩
  | 66 => ⟨S11008x256x1, .i32⟩
  | 67 => ⟨S11008x256x16, .i32⟩
  | 68 => ⟨S11008x256x16, .i32⟩
  | 69 => ⟨S_, .i32⟩
  | 70 => ⟨S11008x256x16, .i32⟩
  | 71 => ⟨S11008x256x16, .i32⟩
  | 72 => ⟨S11008x16x1, .i8⟩
  | 73 => ⟨S11008x16x1, .i32⟩
  | 74 => ⟨S4, .i32⟩
  | 75 => ⟨S_, .i32⟩
  | 76 => ⟨S4, .i32⟩
  | 77 => ⟨S4, .i32⟩
  | 78 => ⟨S1x1x4, .i32⟩
  | 79 => ⟨S11008x16x4, .i32⟩
  | 80 => ⟨S11008x16x4, .i32⟩
  | 81 => ⟨S11008x16x4, .i32⟩
  | 82 => ⟨S_, .i32⟩
  | 83 => ⟨S11008x16x4, .i32⟩
  | 84 => ⟨S11008x16x4, .i32⟩
  | 85 => ⟨S11008x256x16, .f32⟩
  | 86 => ⟨S11008x64x64, .f32⟩
  | 87 => ⟨S11008x64, .i32⟩
  | 88 => ⟨S11008x64, .f32⟩
  | 89 => ⟨S11008x64x1, .f32⟩
  | 90 => ⟨S11008x64x64, .f32⟩
  | 91 => ⟨S11008x64x64, .f32⟩
  | 92 => ⟨S11008x64x1, .f32⟩
  | 93 => ⟨S11008x64x64, .f32⟩
  | 94 => ⟨S11008x64x64, .f32⟩
  | 95 => ⟨S11008x64x64, .bf16⟩
  | 96 => ⟨S11008x4096, .f32⟩
  | 97 => ⟨S11008x4096, .bf16⟩
  | 98 => ⟨S16, .i32⟩
  | 99 => ⟨S_, .i32⟩
  | 100 => ⟨S16, .i32⟩
  | 101 => ⟨S16, .i32⟩
  | 102 => ⟨S1x1x16, .i32⟩
  | 103 => ⟨S4096x688x16, .i32⟩
  | 104 => ⟨S4096x688x1, .i32⟩
  | 105 => ⟨S4096x688x16, .i32⟩
  | 106 => ⟨S4096x688x16, .i32⟩
  | 107 => ⟨S_, .i32⟩
  | 108 => ⟨S4096x688x16, .i32⟩
  | 109 => ⟨S4096x688x16, .i32⟩
  | 110 => ⟨S4096x43x1, .i8⟩
  | 111 => ⟨S4096x43x1, .i32⟩
  | 112 => ⟨S4, .i32⟩
  | 113 => ⟨S_, .i32⟩
  | 114 => ⟨S4, .i32⟩
  | 115 => ⟨S4, .i32⟩
  | 116 => ⟨S1x1x4, .i32⟩
  | 117 => ⟨S4096x43x4, .i32⟩
  | 118 => ⟨S4096x43x4, .i32⟩
  | 119 => ⟨S4096x43x4, .i32⟩
  | 120 => ⟨S_, .i32⟩
  | 121 => ⟨S4096x43x4, .i32⟩
  | 122 => ⟨S4096x43x4, .i32⟩
  | 123 => ⟨S4096x688x16, .f32⟩
  | 124 => ⟨S4096x172x64, .f32⟩
  | 125 => ⟨S4096x172, .i32⟩
  | 126 => ⟨S4096x172, .f32⟩
  | 127 => ⟨S4096x172x1, .f32⟩
  | _ => ⟨S3x2048x4096, .bf16⟩

abbrev hbmTy0_1 (i : Nat) : BufTy := match i % 128 with
  | 0 => ⟨S4096x172x64, .f32⟩
  | 1 => ⟨S4096x172x64, .f32⟩
  | 2 => ⟨S4096x172x1, .f32⟩
  | 3 => ⟨S4096x172x64, .f32⟩
  | 4 => ⟨S4096x172x64, .f32⟩
  | 5 => ⟨S4096x172x64, .bf16⟩
  | 6 => ⟨S4096x11008, .f32⟩
  | 7 => ⟨S4096x11008, .bf16⟩
  | 8 => ⟨S6144x4096, .bf16⟩
  | 9 => ⟨S6144x4096, .f32⟩
  | 10 => ⟨S6144x4096, .bf16⟩
  | 11 => ⟨S6144x4096, .f32⟩
  | 12 => ⟨S_, .f32⟩
  | 13 => ⟨S6144, .f32⟩
  | 14 => ⟨S6144x1, .f32⟩
  | 15 => ⟨S_, .f32⟩
  | 16 => ⟨S6144x1, .f32⟩
  | 17 => ⟨S6144x1, .f32⟩
  | 18 => ⟨S_, .f32⟩
  | 19 => ⟨S6144x1, .f32⟩
  | 20 => ⟨S6144x1, .f32⟩
  | 21 => ⟨S6144x1, .f32⟩
  | 22 => ⟨S_, .f32⟩
  | 23 => ⟨S6144x1, .f32⟩
  | 24 => ⟨S6144x1, .f32⟩
  | 25 => ⟨S6144x4096, .f32⟩
  | 26 => ⟨S6144x4096, .f32⟩
  | 27 => ⟨S1x4096, .f32⟩
  | 28 => ⟨S6144x4096, .f32⟩
  | 29 => ⟨S6144x4096, .f32⟩
  | 30 => ⟨S6144x4096, .bf16⟩
  | 31 => ⟨S6144x11008, .f32⟩
  | 32 => ⟨S6144x11008, .f32⟩
  | 33 => ⟨S6144x11008, .f32⟩
  | 34 => ⟨S6144x11008, .f32⟩
  | 35 => ⟨S_, .f32⟩
  | 36 => ⟨S6144x11008, .f32⟩
  | 37 => ⟨S6144x11008, .f32⟩
  | 38 => ⟨S_, .f32⟩
  | 39 => ⟨S6144x11008, .f32⟩
  | 40 => ⟨S6144x11008, .f32⟩
  | 41 => ⟨S6144x11008, .f32⟩
  | 42 => ⟨S6144x11008, .f32⟩
  | 43 => ⟨S6144x11008, .bf16⟩
  | 44 => ⟨S6144x4096, .f32⟩
  | 45 => ⟨S6144x4096, .f32⟩
  | 46 => ⟨S6144x4096, .bf16⟩
  | 47 => ⟨S6144x11008, .f32⟩
  | 48 => ⟨S6144x11008, .f32⟩
  | 49 => ⟨S6144x11008, .f32⟩
  | 50 => ⟨S_, .f32⟩
  | 51 => ⟨S6144x11008, .f32⟩
  | 52 => ⟨S6144x11008, .f32⟩
  | 53 => ⟨S_, .f32⟩
  | 54 => ⟨S6144x11008, .f32⟩
  | 55 => ⟨S6144x11008, .f32⟩
  | 56 => ⟨S6144x11008, .f32⟩
  | 57 => ⟨S6144x11008, .f32⟩
  | 58 => ⟨S_, .f32⟩
  | 59 => ⟨S6144x11008, .f32⟩
  | 60 => ⟨S6144x11008, .f32⟩
  | 61 => ⟨S6144x11008, .f32⟩
  | 62 => ⟨S_, .f32⟩
  | 63 => ⟨S6144x11008, .f32⟩
  | 64 => ⟨S6144x11008, .f32⟩
  | 65 => ⟨S6144x11008, .f32⟩
  | 66 => ⟨S6144x11008, .f32⟩
  | 67 => ⟨S6144x11008, .f32⟩
  | 68 => ⟨S6144x11008, .bf16⟩
  | 69 => ⟨S6144x4096, .f32⟩
  | 70 => ⟨S6144x11008, .bf16⟩
  | 71 => ⟨S6144x4096, .f32⟩
  | 72 => ⟨S6144x4096, .f32⟩
  | 73 => ⟨S1x4096, .f32⟩
  | 74 => ⟨S6144x4096, .f32⟩
  | 75 => ⟨S6144x4096, .f32⟩
  | 76 => ⟨S6144x4096, .f32⟩
  | 77 => ⟨S_, .f32⟩
  | 78 => ⟨S6144, .f32⟩
  | 79 => ⟨S6144x1, .f32⟩
  | 80 => ⟨S_, .f32⟩
  | 81 => ⟨S6144x1, .f32⟩
  | 82 => ⟨S6144x1, .f32⟩
  | 83 => ⟨S6144x1, .f32⟩
  | 84 => ⟨S6144x4096, .f32⟩
  | 85 => ⟨S6144x4096, .f32⟩
  | 86 => ⟨S6144x4096, .f32⟩
  | 87 => ⟨S6144x4096, .f32⟩
  | 88 => ⟨S6144x4096, .f32⟩
  | 89 => ⟨S6144x4096, .f32⟩
  | 90 => ⟨S6144x4096, .f32⟩
  | 91 => ⟨S6144x4096, .f32⟩
  | 92 => ⟨S6144x4096, .f32⟩
  | 93 => ⟨S6144x4096, .bf16⟩
  | 94 => ⟨S6144, .f32⟩
  | 95 => ⟨S6144x4096, .f32⟩
  | 96 => ⟨S6144x4096, .fp8e4m3⟩
  | 97 => ⟨S1x4096, .f32⟩
  | 98 => ⟨S6144x11008, .fp8e4m3⟩
  | 99 => ⟨S1x11008, .f32⟩
  | 100 => ⟨S6144x4096, .fp8e4m3⟩
  | 101 => ⟨S1x4096, .f32⟩
  | 102 => ⟨S6144x11008, .fp8e4m3⟩
  | 103 => ⟨S1x11008, .f32⟩
  | 104 => ⟨S6144x11008, .fp8e4m3⟩
  | 105 => ⟨S1x11008, .f32⟩
  | _ => ⟨S3x2048x4096, .bf16⟩

abbrev hbmTy (i : Nat) : BufTy := match i / 128 with
  | 0 => hbmTy0_0 i
  | 1 => hbmTy0_1 i
  | _ => ⟨S3x2048x4096, .bf16⟩

abbrev bufTy : (tb : Table) → Fin (tcTables nBuf tb) → BufTy
  | .hbm, ⟨i, _⟩ => hbmTy i
  | .local _ .vmem, ⟨0, _⟩ => ⟨S6144x4096, .f32⟩
  | .local _ .vmem, ⟨1, _⟩ => ⟨S6144x11008, .f32⟩
  | .local _ .vmem, ⟨2, _⟩ => ⟨S6144x4096, .f32⟩
  | .local _ .vmem, ⟨3, _⟩ => ⟨S6144x11008, .f32⟩
  | .local _ .vmem, ⟨4, _⟩ => ⟨S6144x11008, .f32⟩
  | .local _ .vmem, ⟨5, _⟩ => ⟨S6144x4096, .fp8e4m3⟩
  | .local _ .vmem, ⟨6, _⟩ => ⟨S1x4096, .f32⟩
  | .local _ .vmem, ⟨7, _⟩ => ⟨S6144x11008, .fp8e4m3⟩
  | .local _ .vmem, ⟨8, _⟩ => ⟨S1x11008, .f32⟩
  | .local _ .vmem, ⟨9, _⟩ => ⟨S6144x4096, .fp8e4m3⟩
  | .local _ .vmem, ⟨10, _⟩ => ⟨S1x4096, .f32⟩
  | .local _ .vmem, ⟨11, _⟩ => ⟨S6144x11008, .fp8e4m3⟩
  | .local _ .vmem, ⟨12, _⟩ => ⟨S1x11008, .f32⟩
  | .local _ .vmem, ⟨13, _⟩ => ⟨S6144x11008, .fp8e4m3⟩
  | .local _ .vmem, ⟨14, _⟩ => ⟨S1x11008, .f32⟩
  | _, _ => ⟨S3x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_3 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_5 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_6 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_7 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_8 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_9 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_10 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst : Ref sig .tc := ⟨.hbm, 140, rfl⟩
abbrev main_v106 : Ref sig .tc := ⟨.hbm, 141, rfl⟩
abbrev main_v107 : Ref sig .tc := ⟨.hbm, 142, rfl⟩
abbrev main_cst_11 : Ref sig .tc := ⟨.hbm, 143, rfl⟩
abbrev main_v108 : Ref sig .tc := ⟨.hbm, 144, rfl⟩
abbrev main_v109 : Ref sig .tc := ⟨.hbm, 145, rfl⟩
abbrev main_cst_12 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_13 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_14 : Ref sig .tc := ⟨.hbm, 163, rfl⟩
abbrev main_v125 : Ref sig .tc := ⟨.hbm, 164, rfl⟩
abbrev main_v126 : Ref sig .tc := ⟨.hbm, 165, rfl⟩
abbrev main_cst_15 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_16 : Ref sig .tc := ⟨.hbm, 178, rfl⟩
abbrev main_v138 : Ref sig .tc := ⟨.hbm, 179, rfl⟩
abbrev main_v139 : Ref sig .tc := ⟨.hbm, 180, rfl⟩
abbrev main_cst_17 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_18 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_cst_19 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_20 : Ref sig .tc := ⟨.hbm, 205, rfl⟩
abbrev main_v161 : Ref sig .tc := ⟨.hbm, 206, rfl⟩
abbrev main_v162 : Ref sig .tc := ⟨.hbm, 207, rfl⟩
abbrev main_cst_21 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178_0 : Ref sig .tc := ⟨.hbm, 224, rfl⟩
abbrev main_v178_1 : Ref sig .tc := ⟨.hbm, 225, rfl⟩
abbrev main_v178_2 : Ref sig .tc := ⟨.hbm, 226, rfl⟩
abbrev main_v178_3 : Ref sig .tc := ⟨.hbm, 227, rfl⟩
abbrev main_v178_4 : Ref sig .tc := ⟨.hbm, 228, rfl⟩
abbrev main_v178_5 : Ref sig .tc := ⟨.hbm, 229, rfl⟩
abbrev main_v178_6 : Ref sig .tc := ⟨.hbm, 230, rfl⟩
abbrev main_v178_7 : Ref sig .tc := ⟨.hbm, 231, rfl⟩
abbrev main_v178_8 : Ref sig .tc := ⟨.hbm, 232, rfl⟩
abbrev main_v178_9 : Ref sig .tc := ⟨.hbm, 233, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S6144x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x11008 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x11008 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x11008 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x4096 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144x11008 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x11008 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6144x11008 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x11008 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KernelFrames.lean ====
module

public import proofs.«01_k».proof.Defs
public import proofs.«01_k».proof.Proof.Gen.Mlp.Frame
public import proofs.«01_k».proof.Proof.Gen.MlpIdeal.Frame

@[expose] public section

/-! The kernel and its idealization leave their arguments alone and every semaphore at zero. -/

namespace Cert.Proof.KernelFrames

open Idealize.ShloMosaic

theorem frame_k : Cert.quiescent_Mlp := fun m ρ _ => Cert.Mlp.Gen.frame m ρ

theorem frame_ki : Cert.quiescent_MlpIdeal := fun m ρ _ => Cert.MlpIdeal.Gen.frame m ρ

end Cert.Proof.KernelFrames
-- ==== Proof.Spec.lean ====
module

public import Idealize.ShloMosaic.Lib.Pipeline.ValueKit
public import Idealize.ShloMosaic.Lib.Pointwise

/-! # The mathematics of the two-bit SwiGLU block with scale gradients and Adam, over the extended reals

Arrays are read as functions of their coordinates. -/

@[expose] public section

set_option maxRecDepth 16384

noncomputable section

namespace Cert.MlpSpec

open Idealize.ShloMosaic

/-- A matrix by its entries. -/
abbrev Mat (a b : ℕ) := Fin a → Fin b → EReal

/-- The entries of a two-dimensional array. -/
def mat {α : Type} {a b : ℕ} (X : (⟨2, ![a, b]⟩ : Shape).Idx → α) : Fin a → Fin b → α := fun i j => X (ix2 i j)

/-- A two-dimensional array from its entries. -/
def arr2 {α : Type} {a b : ℕ} (M : Fin a → Fin b → α) : (⟨2, ![a, b]⟩ : Shape).Idx → α := fun i => M (i 0) (i 1)

/-- The entries of a three-dimensional array. -/
def mat3 {α : Type} {a b c : ℕ} (X : (⟨3, ![a, b, c]⟩ : Shape).Idx → α) : Fin a → Fin b → Fin c → α := fun i j k => X (ix3 i j k)

/-- A three-dimensional array from its entries. -/
def arr3 {α : Type} {a b c : ℕ} (M : Fin a → Fin b → Fin c → α) : (⟨3, ![a, b, c]⟩ : Shape).Idx → α := fun i => M (i 0) (i 1) (i 2)

theorem mat_arr2 {α : Type} {a b : ℕ} (M : Fin a → Fin b → α) : mat (arr2 M) = M := rfl

theorem mat3_arr3 {α : Type} {a b c : ℕ} (M : Fin a → Fin b → Fin c → α) : mat3 (arr3 M) = M := rfl

/-- The matrix product. -/
def mulN {a k b : ℕ} (A : Mat a k) (B : Mat k b) : Mat a b := fun i j => ∑ x : Fin k, A i x * B x j

/-- The product with the second matrix transposed. -/
def mulT {a k b : ℕ} (A : Mat a k) (B : Mat b k) : Mat a b := fun i j => ∑ x : Fin k, A i x * B j x

/-- `h = g · σ(g) · u`. -/
def hS (g u : EReal) : EReal := g * Ideal.logistic g * u

/-- `dg = dh · u · σ(g) · (1 + g · (1 − σ(g)))`. -/
def dgS (g u d : EReal) : EReal := d * u * Ideal.logistic g * (1 + g * (1 - Ideal.logistic g))

/-- `du = dh · g · σ(g)`. -/
def duS (g d : EReal) : EReal := d * g * Ideal.logistic g

/-- The absolute value. -/
abbrev absE (x : EReal) : EReal := FloatOps.absf (F := Ideal) (φ := .f32) x

/-- What a running maximum starts from: minus infinity. -/
abbrev negInf : EReal := Ideal.ofBits FTy.f32 4286578688#32

/-- The largest absolute value of a family. -/
def fmax {n : ℕ} (f : Fin n → EReal) : EReal := Finset.univ.fold max negInf f

theorem fmax_le {n : ℕ} (f : Fin n → EReal) (c : EReal) : fmax f ≤ c ↔ negInf ≤ c ∧ ∀ i, f i ≤ c := by
  simp [fmax, Finset.fold_max_le]

/-- The largest absolute value of each column. -/
def colmax {a b : ℕ} (X : Mat a b) (j : Fin b) : EReal := fmax fun i => absE (X i j)

/-- Two running maxima over 64 entries each, joined, are one running maximum over the 128 entries. -/
theorem max_fold_join (b : EReal) (f g : Fin 64 → EReal) (h : Fin 128 → EReal)
    (hf : ∀ x : Fin 64, f x = h ⟨x.val, by omega⟩) (hg : ∀ x : Fin 64, g x = h ⟨64 + x.val, by omega⟩) :
    max (Finset.univ.fold max b f) (Finset.univ.fold max b g) = Finset.univ.fold max b h := by
  refine eq_of_forall_ge_iff fun c => ?_
  simp only [max_le_iff, Finset.fold_max_le, Finset.mem_univ, true_implies, forall_const]
  constructor
  · rintro ⟨⟨hb, h1⟩, _, h2⟩
    refine ⟨hb, fun x => ?_⟩
    by_cases hx : x.val < 64
    · have := h1 ⟨x.val, hx⟩
      rwa [hf] at this
    · have := h2 ⟨x.val - 64, by omega⟩
      rw [hg] at this
      convert this using 2
      exact Fin.ext (by simp; omega)
  · rintro ⟨hb, h1⟩
    exact ⟨⟨hb, fun x => by rw [hf]; exact h1 _⟩, hb, fun x => by rw [hg]; exact h1 _⟩

/-- The largest absolute values over the rows `1024 b + 8 p + s` of each column. -/
def lanemax6 {n : ℕ} (X : Mat 6144 n) (b : Fin 6) (s : Fin 8) (c : Fin n) : EReal :=
  fmax fun p : Fin 128 => absE (X ⟨b.val * 1024 + p.val * 8 + s.val, by omega⟩ c)

/-- The largest absolute values over the rows `8 p + s` of each column. -/
def lanemax {n : ℕ} (X : Mat 6144 n) (s : Fin 8) (c : Fin n) : EReal :=
  fmax fun p : Fin 768 => absE (X ⟨p.val * 8 + s.val, by omega⟩ c)

/-- The maxima by lane, joined over the lanes, are the column maxima. -/
theorem fmax_lanemax {n : ℕ} (X : Mat 6144 n) (c : Fin n) : (fmax fun s => lanemax X s c) = colmax X c := by
  refine eq_of_forall_ge_iff fun e => ?_
  simp only [lanemax, colmax, fmax_le]
  constructor
  · rintro ⟨hb, h⟩
    refine ⟨hb, fun r => ?_⟩
    have := (h ⟨r.val % 8, by omega⟩).2 ⟨r.val / 8, by omega⟩
    convert this using 4
    simp only
    omega
  · rintro ⟨hb, h⟩
    exact ⟨hb, fun s => ⟨hb, fun p => h _⟩⟩

/-- The maxima by block and lane, joined over both, are the column maxima. -/
theorem fmax_lanemax6 {n : ℕ} (X : Mat 6144 n) (c : Fin n) (f : Fin 48 → EReal)
    (hf : ∀ q : Fin 48, f q = lanemax6 X ⟨q.val / 8, by omega⟩ ⟨q.val % 8, by omega⟩ c) : fmax f = colmax X c := by
  refine eq_of_forall_ge_iff fun e => ?_
  simp only [colmax, fmax_le, hf, lanemax6]
  constructor
  · rintro ⟨hb, h⟩
    refine ⟨hb, fun r => ?_⟩
    have := (h ⟨r.val / 1024 * 8 + r.val % 8, by omega⟩).2 ⟨r.val % 1024 / 8, by omega⟩
    convert this using 4
    simp only
    omega
  · rintro ⟨hb, h⟩
    exact ⟨hb, fun s => ⟨hb, fun p => h _⟩⟩

/-- The two-bit code number `i` of a packed word. -/
def code (w : BitVec 32) (i : ℕ) : EReal :=
  FloatOps.sitofp (F := Ideal) FTy.f32 (IntOp.andi (IntOp.shrui ArithUnit.vector w (IntOp.muli 2#32 (BitVec.ofNat 32 i))) 3#32)

/-- Codes minus zero points: sixteen codes to a word, one zero point for each 64 codes, both along the rows. -/
def dfM {a b k n : ℕ} (hw : k ≤ 16 * a) (hg : k ≤ 64 * b) (w : Fin a → Fin n → BitVec 32) (z : Mat b n) : Mat k n :=
  fun r c => code (w ⟨r.val / 16, by omega⟩ c) (r.val % 16) - z ⟨r.val / 64, by omega⟩ c

/-- The dequantised weights: a scale for each 64 rows times codes minus zero points. -/
def deqM {a b k n : ℕ} (hw : k ≤ 16 * a) (hg : k ≤ 64 * b) (w : Fin a → Fin n → BitVec 32) (z s : Mat b n) : Mat k n :=
  fun r c => s ⟨r.val / 64, by omega⟩ c * dfM hw hg w z r c

theorem deqM_eq {a b k n : ℕ} (hw : k ≤ 16 * a) (hg : k ≤ 64 * b) (w : Fin a → Fin n → BitVec 32) (z s : Mat b n)
    (r : Fin k) (c j : Fin n) (g : Fin b) (p : Fin a) (i : ℕ) (h1 : j.val = c.val) (h2 : g.val = r.val / 64) (h3 : p.val = r.val / 16)
    (h4 : i = r.val % 16) : s g j * (code (w p j) i - z g j) = deqM hw hg w z s r c := by
  obtain rfl := Fin.ext h1
  obtain ⟨g, lg⟩ := g
  obtain ⟨p, lp⟩ := p
  replace h2 : g = _ := h2
  replace h3 : p = _ := h3
  subst h2 h3 h4
  rfl

theorem dfM_eq {a b k n : ℕ} (hw : k ≤ 16 * a) (hg : k ≤ 64 * b) (w : Fin a → Fin n → BitVec 32) (z : Mat b n)
    (r : Fin k) (c j : Fin n) (g : Fin b) (p : Fin a) (i : ℕ) (h1 : j.val = c.val) (h2 : g.val = r.val / 64) (h3 : p.val = r.val / 16)
    (h4 : i = r.val % 16) : (code (w p j) i - z g j) = dfM hw hg w z r c := by
  obtain rfl := Fin.ext h1
  obtain ⟨g, lg⟩ := g
  obtain ⟨p, lp⟩ := p
  replace h2 : g = _ := h2
  replace h3 : p = _ := h3
  subst h2 h3 h4
  rfl

/-- `h` of every token and hidden column, from the normalised tokens and the transposed weights. -/
def Hm (A : Mat 6144 4096) (WG WU : Mat 4096 11008) : Mat 6144 11008 := fun r c => hS (mulN A WG r c) (mulN A WU r c)

/-- `dg` likewise, with the output gradient and the down projection's transposed weights. -/
def DGm (A DY : Mat 6144 4096) (WG WU : Mat 4096 11008) (WD : Mat 11008 4096) : Mat 6144 11008 :=
  fun r c => dgS (mulN A WG r c) (mulN A WU r c) (mulT DY WD r c)

/-- `du` likewise. -/
def DUm (A DY : Mat 6144 4096) (WG : Mat 4096 11008) (WD : Mat 11008 4096) : Mat 6144 11008 :=
  fun r c => duS (mulN A WG r c) (mulT DY WD r c)

/-- The constants of the program: 448, minus 448, the row length 4096, and the epsilon under the root. -/
abbrev k448 : EReal := Ideal.ofBits FTy.f32 1138753536#32
abbrev km448 : EReal := Ideal.ofBits FTy.f32 3286237184#32
abbrev k4096 : EReal := Ideal.ofBits FTy.f32 1166016512#32
abbrev keps : EReal := Ideal.ofBits FTy.f32 925353388#32

/-- The quantiser's scale of a largest absolute value. -/
def scaleV (m : EReal) : EReal := if 0 < m then Ideal.div m k448 else 1

/-- The quantiser's code of a value at a scale: divided and clipped. -/
def codeV (v ls : EReal) : EReal := min k448 (max km448 (Ideal.div v ls))

/-- The reciprocal root mean square of a row. -/
def rS {n : ℕ} (X : Mat n 4096) (i : Fin n) : EReal := Ideal.div 1 (Ideal.sqrt (Ideal.div (∑ x : Fin 4096, X i x * X i x) k4096 + keps))

/-- The normalised rows. -/
def xnM {n : ℕ} (X : Mat n 4096) (w : Fin 4096 → EReal) : Mat n 4096 := fun i j => X i j * rS X i * w j

/-- The Adam update: the two moments and the step. -/
def mom1 (m ds : EReal) : EReal := Ideal.ofBits FTy.f32 1063675494#32 * m + Ideal.ofBits FTy.f32 1036831949#32 * ds

def mom2 (v ds : EReal) : EReal := Ideal.ofBits FTy.f32 1065336439#32 * v + Ideal.ofBits FTy.f32 981668463#32 * ds * ds

def stepS (lr eps bc1 bc2 m v ds : EReal) : EReal :=
  Ideal.div (lr * Ideal.div (mom1 m ds) bc1) (Ideal.sqrt (Ideal.div (mom2 v ds) bc2) + eps)

/-- The scale after the step. -/
def newS (s st : EReal) : EReal := s - st

/-- A product added to the tokens. -/
def resM {n k m : ℕ} (X : Mat n m) (A : Mat n k) (B : Mat k m) : Mat n m := fun r q => X r q + mulN A B r q

theorem select_same (c : BitVec 1) (b : EReal) : Scalar.select c b (max b b) = b := by
  rw [max_self]
  unfold Scalar.select
  split <;> rfl

theorem select_no (a b : EReal) : Scalar.select 0#1 a b = b := rfl

/-- The row mean of the norm's backward pass. -/
def cM {n : ℕ} (A X : Mat n 4096) (R : Fin n → EReal) (w : Fin 4096 → EReal) : Fin n → EReal := fun i =>
  R i * Ideal.div (∑ x : Fin 4096, A i x * w x * X i x) k4096

/-- The gradient of the tokens: the residual and the norm's backward pass. -/
def dxM {n : ℕ} (A X DY : Mat n 4096) (R : Fin n → EReal) (w : Fin 4096 → EReal) : Mat n 4096 := fun i j =>
  DY i j + R i * (A i j * w j - X i j * R i * cM A X R w i)

/-- A sum over the first `n` of 11008 terms. -/
def upTo (f : Fin 11008 → EReal) (n : ℕ) : EReal := ∑ x ∈ Finset.range n, if h : x < 11008 then f ⟨x, h⟩ else 0

theorem upTo_all (f : Fin 11008 → EReal) : upTo f 11008 = ∑ x, f x := by
  unfold upTo
  rw [Finset.sum_range]
  exact Finset.sum_congr rfl fun x _ => dif_pos x.isLt

theorem upTo_first (f : Fin 11008 → EReal) : upTo f 256 = ∑ x : Fin 256, f ⟨x.val, by omega⟩ := by
  unfold upTo
  rw [Finset.sum_range]
  exact Finset.sum_congr rfl fun x _ => dif_pos (by omega)

theorem upTo_block (f : Fin 11008 → EReal) (k : ℕ) (hk : k < 43) :
    upTo f (256 * (k + 1)) = upTo f (256 * k) + ∑ x : Fin 256, f ⟨k * 256 + x.val, by omega⟩ := by
  unfold upTo
  rw [Nat.mul_add, Nat.mul_one, Finset.sum_range_add, Finset.sum_range (n := 256)]
  refine congrArg _ (Finset.sum_congr rfl fun x _ => (dif_pos (by omega)).trans (congrArg f (Fin.ext ?_)))
  simp only
  omega

end Cert.MlpSpec
-- ==== Proof.Whole.lean ====
module

public import proofs.«01_k».proof.Proof.Spec

/-! # The values of the whole program, as functions of its arguments -/

@[expose] public section

noncomputable section

namespace Cert.MlpSpec

open Idealize.ShloMosaic

theorem arr2_ext {α : Type} {a b : ℕ} {f : (⟨2, ![a, b]⟩ : Shape).Idx → α} {M : Fin a → Fin b → α} (h : ∀ i j, f (ix2 i j) = M i j) : f = arr2 M :=
  funext fun y => (congrArg f (eq_ix2 y)).trans (h _ _)

/-- A zero point: field `i` of a byte. -/
def zpV (z : BitVec 8) (i : ℕ) : EReal :=
  FloatOps.uitofp (F := Ideal) FTy.f32 (IntOp.andi (IntOp.shrui ArithUnit.host (BitVec.setWidth 32 z) (IntOp.muli 2#32 (BitVec.ofNat 32 i))) 3#32)

/-- A code read by the host. -/
theorem code_host (w : BitVec 32) (i : ℕ) (h : i < 16) :
    FloatOps.sitofp (F := Ideal) FTy.f32 (IntOp.andi (IntOp.shrui ArithUnit.host w (IntOp.muli 2#32 (BitVec.ofNat 32 i))) 3#32) = code w i := by
  have hs : (IntOp.muli 2#32 (BitVec.ofNat 32 i)).toNat < 32 := by
    have : ∀ j : Fin 16, (IntOp.muli 2#32 (BitVec.ofNat 32 j.val)).toNat < 32 := by decide +kernel
    exact this ⟨i, h⟩
  unfold code IntOp.shrui
  rw [if_pos hs, if_pos hs]

/-- The tokens as rows. -/
def tokM (x : (⟨3, ![3, 2048, 4096]⟩ : Shape).Idx → EReal) : Mat 6144 4096 :=
  fun q r => x (ix3 (⟨q.val / 2048, by omega⟩ : Fin 3) (⟨q.val % 2048, by omega⟩ : Fin 2048) r)

/-- Zero points by group of 64 weights. -/
def zpM {n b g : ℕ} (hz : g ≤ 4 * b) (z : (⟨2, ![n, b]⟩ : Shape).Idx → BitVec 8) : Mat g n :=
  fun i j => zpV (z (ix2 j (⟨i.val / 4, by omega⟩ : Fin b))) (i.val % 4)

/-- The codes less their zero points, one column for each output. -/
def dfW {k n a b g : ℕ} (hw : k ≤ 16 * a) (hg : k ≤ 64 * g) (hz : g ≤ 4 * b) (q : (⟨2, ![n, a]⟩ : Shape).Idx → BitVec 32)
    (z : (⟨2, ![n, b]⟩ : Shape).Idx → BitVec 8) : Mat k n := dfM hw hg (fun i j => q (ix2 j i)) (zpM hz z)

/-- The weights, one column for each output. -/
def wM {k n a b g : ℕ} (hw : k ≤ 16 * a) (hg : k ≤ 64 * g) (hz : g ≤ 4 * b) (q : (⟨2, ![n, a]⟩ : Shape).Idx → BitVec 32)
    (z : (⟨2, ![n, b]⟩ : Shape).Idx → BitVec 8) (s : (⟨2, ![n, g]⟩ : Shape).Idx → EReal) : Mat k n :=
  deqM hw hg (fun i j => q (ix2 j i)) (zpM hz z) (fun i j => s (ix2 j i))

/-- A weight the host reads off its word, its zero point and its scale. -/
theorem wH_eq {k n a b g : ℕ} (hw : k ≤ 16 * a) (hg : k ≤ 64 * g) (hz : g ≤ 4 * b) (q : (⟨2, ![n, a]⟩ : Shape).Idx → BitVec 32)
    (z : (⟨2, ![n, b]⟩ : Shape).Idx → BitVec 8) (s : (⟨2, ![n, g]⟩ : Shape).Idx → EReal) (r : Fin k) (j : Fin n) (i : Fin a) (l : Fin b) (e : Fin g)
    (x y : ℕ) (hi : i.val = r.val / 16) (hx : x = r.val % 16) (he : e.val = r.val / 64) (hl : l.val = r.val / 64 / 4) (hy : y = r.val / 64 % 4) :
    s (ix2 j e) * (FloatOps.sitofp (F := Ideal) FTy.f32 (IntOp.andi (IntOp.shrui ArithUnit.host (q (ix2 j i)) (IntOp.muli 2#32 (BitVec.ofNat 32 x))) 3#32) -
      zpV (z (ix2 j l)) y) = wM hw hg hz q z s r j := by
  obtain ⟨i, li⟩ := i
  obtain ⟨l, ll⟩ := l
  obtain ⟨e, le⟩ := e
  replace hi : i = _ := hi
  replace hl : l = _ := hl
  replace he : e = _ := he
  subst hi hl he hx hy
  rw [code_host _ _ (by omega)]
  exact deqM_eq hw hg (fun i j => q (ix2 j i)) (zpM hz z) (fun i j => s (ix2 j i)) r j j ⟨_, le⟩ ⟨_, li⟩ _ rfl rfl rfl rfl

/-- A code less its zero point, as the host reads it. -/
theorem dfH_eq {k n a b g : ℕ} (hw : k ≤ 16 * a) (hg : k ≤ 64 * g) (hz : g ≤ 4 * b) (q : (⟨2, ![n, a]⟩ : Shape).Idx → BitVec 32)
    (z : (⟨2, ![n, b]⟩ : Shape).Idx → BitVec 8) (r : Fin k) (j : Fin n) (i : Fin a) (l : Fin b)
    (x y : ℕ) (hi : i.val = r.val / 16) (hx : x = r.val % 16) (hl : l.val = r.val / 64 / 4) (hy : y = r.val / 64 % 4) :
    (FloatOps.sitofp (F := Ideal) FTy.f32 (IntOp.andi (IntOp.shrui ArithUnit.host (q (ix2 j i)) (IntOp.muli 2#32 (BitVec.ofNat 32 x))) 3#32) -
      zpV (z (ix2 j l)) y) = dfW hw hg hz q z r j := by
  obtain ⟨i, li⟩ := i
  obtain ⟨l, ll⟩ := l
  replace hi : i = _ := hi
  replace hl : l = _ := hl
  subst hi hl hx hy
  rw [code_host _ _ (by omega)]
  exact dfM_eq hw hg (fun i j => q (ix2 j i)) (zpM hz z) r j j ⟨r.val / 64, by omega⟩ ⟨_, li⟩ _ rfl rfl rfl rfl

/-- The quantiser's codes, a scale for each column. -/
def codeM {n k : ℕ} (X : Mat n k) : Mat n k := fun r d => codeV (X r d) (scaleV (colmax X d))

/-- The quantiser's scales. -/
def scaleM {n k : ℕ} (X : Mat n k) : Mat 1 k := fun _ d => scaleV (colmax X d)

/-- The gradients of the group scales: the product of the dequantised activations times the codes, summed over each group. -/
def dsM {n k g : ℕ} (hk : 64 * g ≤ k) (L : Mat 6144 n) (R : Mat 6144 k) (DF : Mat k n) : Mat n g := fun j i =>
  ∑ x : Fin 64, (∑ t : Fin 6144, codeM L t j * codeM R t ⟨i.val * 64 + x.val, by omega⟩) *
    (scaleV (colmax L j) * scaleV (colmax R ⟨i.val * 64 + x.val, by omega⟩)) * DF ⟨i.val * 64 + x.val, by omega⟩ j

/-- The sum of two products with transposed weights. -/
def backM {t n k : ℕ} (A : Mat t n) (B : Mat k n) (A' : Mat t n) (B' : Mat k n) : Mat t k := fun r j => mulT A B r j + mulT A' B' r j

/-- The arguments. -/
structure Args where
  x : (⟨3, ![3, 2048, 4096]⟩ : Shape).Idx → EReal
  dy : (⟨3, ![3, 2048, 4096]⟩ : Shape).Idx → EReal
  nw : (⟨1, ![4096]⟩ : Shape).Idx → EReal
  qg : (⟨2, ![11008, 256]⟩ : Shape).Idx → BitVec 32
  zg : (⟨2, ![11008, 16]⟩ : Shape).Idx → BitVec 8
  sg : (⟨2, ![11008, 64]⟩ : Shape).Idx → EReal
  mg : (⟨2, ![11008, 64]⟩ : Shape).Idx → EReal
  vg : (⟨2, ![11008, 64]⟩ : Shape).Idx → EReal
  qu : (⟨2, ![11008, 256]⟩ : Shape).Idx → BitVec 32
  zu : (⟨2, ![11008, 16]⟩ : Shape).Idx → BitVec 8
  su : (⟨2, ![11008, 64]⟩ : Shape).Idx → EReal
  mu : (⟨2, ![11008, 64]⟩ : Shape).Idx → EReal
  vu : (⟨2, ![11008, 64]⟩ : Shape).Idx → EReal
  qd : (⟨2, ![4096, 688]⟩ : Shape).Idx → BitVec 32
  zd : (⟨2, ![4096, 43]⟩ : Shape).Idx → BitVec 8
  sd : (⟨2, ![4096, 172]⟩ : Shape).Idx → EReal
  md : (⟨2, ![4096, 172]⟩ : Shape).Idx → EReal
  vd : (⟨2, ![4096, 172]⟩ : Shape).Idx → EReal
  lr : (⟨1, ![3]⟩ : Shape).Idx → EReal
  eps : (⟨1, ![3]⟩ : Shape).Idx → EReal
  bc1 : (⟨0, ![]⟩ : Shape).Idx → EReal
  bc2 : (⟨0, ![]⟩ : Shape).Idx → EReal

namespace Args
variable (P : Args)
/-- Tokens, output gradient, norm weights. -/
def X : Mat 6144 4096 := tokM P.x
def DY : Mat 6144 4096 := tokM P.dy
def W : Fin 4096 → EReal := fun d => P.nw (ix1 d)
/-- Weights. -/
def WG : Mat 4096 11008 := wM (a := 256) (b := 16) (g := 64) (by decide) (by decide) (by decide) P.qg P.zg P.sg
def WU : Mat 4096 11008 := wM (a := 256) (b := 16) (g := 64) (by decide) (by decide) (by decide) P.qu P.zu P.su
def WD : Mat 11008 4096 := wM (a := 688) (b := 43) (g := 172) (by decide) (by decide) (by decide) P.qd P.zd P.sd
/-- Codes less zero points. -/
def FG : Mat 4096 11008 := dfW (a := 256) (b := 16) (g := 64) (by decide) (by decide) (by decide) P.qg P.zg
def FU : Mat 4096 11008 := dfW (a := 256) (b := 16) (g := 64) (by decide) (by decide) (by decide) P.qu P.zu
def FD : Mat 11008 4096 := dfW (a := 688) (b := 43) (g := 172) (by decide) (by decide) (by decide) P.qd P.zd
/-- Normalised tokens, hidden activations and their gradients. -/
def XN : Mat 6144 4096 := xnM P.X P.W
def HH : Mat 6144 11008 := Hm P.XN P.WG P.WU
def DG : Mat 6144 11008 := DGm P.XN P.DY P.WG P.WU P.WD
def DU : Mat 6144 11008 := DUm P.XN P.DY P.WG P.WD
/-- The output, the gradient of the tokens, and the norm's row means. -/
def Y : Mat 6144 4096 := resM P.X P.HH P.WD
def A : Mat 6144 4096 := backM P.DG P.WG P.DU P.WU
def C : Fin 6144 → EReal := cM P.A P.X (rS P.X) P.W
def DX : Mat 6144 4096 := dxM P.A P.X P.DY (rS P.X) P.W
/-- The gradients of the group scales. -/
def SG : Mat 11008 64 := dsM (by decide) P.DG P.XN P.FG
def SU : Mat 11008 64 := dsM (by decide) P.DU P.XN P.FU
def SD : Mat 4096 172 := dsM (by decide) P.DY P.HH P.FD
/-- The Adam steps. -/
def TG : Mat 11008 64 := fun j i => stepS (P.lr (ix1 0)) (P.eps (ix1 0)) (P.bc1 ix0) (P.bc2 ix0) (P.mg (ix2 j i)) (P.vg (ix2 j i)) (P.SG j i)
def TU : Mat 11008 64 := fun j i => stepS (P.lr (ix1 1)) (P.eps (ix1 1)) (P.bc1 ix0) (P.bc2 ix0) (P.mu (ix2 j i)) (P.vu (ix2 j i)) (P.SU j i)
def TD : Mat 4096 172 := fun j i => stepS (P.lr (ix1 2)) (P.eps (ix1 2)) (P.bc1 ix0) (P.bc2 ix0) (P.md (ix2 j i)) (P.vd (ix2 j i)) (P.SD j i)
end Args

end Cert.MlpSpec
-- ==== Proof.KV0.lean ====
module

public import proofs.«01_k».proof.Proof.Gen.MlpIdeal.Frame
public import proofs.«01_k».proof.Proof.Whole
public import Idealize.ShloMosaic.Lib.StableHlo.ReadAt
public import Idealize.ShloMosaic.Lib.Pointwise

/-! # The arrays the host prepares -/

@[expose] public section

set_option maxRecDepth 16384

noncomputable section

namespace Cert.MlpIdeal.Region

open Cert.MlpIdeal Cert.MlpIdeal.Gen Cert.MlpSpec Idealize.ShloMosaic Idealize.ShloMosaic.TcCoe Idealize.SL.Sem

variable (m : (ℓ : Loc nD τ sig) → Buf (Elt Ideal) ℓ) (ρ : Dev nD → PrngReg)

/-- The arguments. -/
def kargs (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21)⟩

theorem a1_v0 (c : Dev nD) : V1 m ρ c main_v0 = arr2 (kargs m c).X := by
  refine arr2_ext (a := 6144) (b := 4096) fun q r => ?_
  show StableHlo.after (hostOps0 (F := Ideal)) (W0 m ρ c) (Proc.devRef .tc main_v0) (ix2 q r) = _
  after_reads_at
  first
    | rfl

theorem a1_v1 (c : Dev nD) : V1 m ρ c main_v1 = arr2 (kargs m c).DY := by
  refine arr2_ext (a := 6144) (b := 4096) fun q r => ?_
  show StableHlo.after (hostOps0 (F := Ideal)) (W0 m ρ c) (Proc.devRef .tc main_v1) (ix2 q r) = _
  after_reads_at
  first
    | rfl

theorem a1_v2 (c : Dev nD) : V1 m ρ c main_v2 = arr2 fun (_ : Fin 1) d => (kargs m c).W d := by
  refine arr2_ext (a := 1) (b := 4096) fun q r => ?_
  show StableHlo.after (hostOps0 (F := Ideal)) (W0 m ρ c) (Proc.devRef .tc main_v2) (ix2 q r) = _
  after_reads_at
  first
    | rfl

theorem a1_v3 (c : Dev nD) : V1 m ρ c main_v3 = arr2 fun (i : Fin 256) (j : Fin 11008) => (kargs m c).qg (ix2 j i) := by
  refine arr2_ext (a := 256) (b := 11008) fun q r => ?_
  show StableHlo.after (hostOps0 (F := Ideal)) (W0 m ρ c) (Proc.devRef .tc main_v3) (ix2 q r) = _
  after_reads_at
  first
    | rfl

theorem a1_v4 (c : Dev nD) : V1 m ρ c main_v4 = arr2 fun (i : Fin 256) (j : Fin 11008) => (kargs m c).qu (ix2 j i) := by
  refine arr2_ext (a := 256) (b := 11008) fun q r => ?_
  show StableHlo.after (hostOps0 (F := Ideal)) (W0 m ρ c) (Proc.devRef .tc main_v4) (ix2 q r) = _
  after_reads_at
  first
    | rfl

theorem a1_v5 (c : Dev nD) : V1 m ρ c main_v5 = arr2 fun (i : Fin 688) (j : Fin 4096) => (kargs m c).qd (ix2 j i) := by
  refine arr2_ext (a := 688) (b := 4096) fun q r => ?_
  show StableHlo.after (hostOps0 (F := Ideal)) (W0 m ρ c) (Proc.devRef .tc main_v5) (ix2 q r) = _
  after_reads_at
  first
    | rfl

theorem a1_v19 (c : Dev nD) : V1 m ρ c main_v19 = arr2 (zpM (n := 11008) (b := 16) (g := 64) (by decide) (kargs m c).zg) := by
  refine arr2_ext (a := 64) (b := 11008) fun q r => ?_
  show StableHlo.after (hostOps0 (F := Ideal)) (W0 m ρ c) (Proc.devRef .tc main_v19) (ix2 q r) = _
  after_reads_at
  first
    | rfl

theorem a1_v33 (c : Dev nD) : V1 m ρ c main_v33 = arr2 (zpM (n := 11008) (b := 16) (g := 64) (by decide) (kargs m c).zu) := by
  refine arr2_ext (a := 64) (b := 11008) fun q r => ?_
  show StableHlo.after (hostOps0 (F := Ideal)) (W0 m ρ c) (Proc.devRef .tc main_v33) (ix2 q r) = _
  after_reads_at
  first
    | rfl

theorem a1_v47 (c : Dev nD) : V1 m ρ c main_v47 = arr2 (zpM (n := 4096) (b := 43) (g := 172) (by decide) (kargs m c).zd) := by
  refine arr2_ext (a := 172) (b := 4096) fun q r => ?_
  show StableHlo.after (hostOps0 (F := Ideal)) (W0 m ρ c) (Proc.devRef .tc main_v47) (ix2 q r) = _
  after_reads_at
  first
    | rfl

theorem a1_v48 (c : Dev nD) : V1 m ρ c main_v48 = arr2 fun (i : Fin 64) (j : Fin 11008) => (kargs m c).sg (ix2 j i) := by
  refine arr2_ext (a := 64) (b := 11008) fun q r => ?_
  show StableHlo.after (hostOps0 (F := Ideal)) (W0 m ρ c) (Proc.devRef .tc main_v48) (ix2 q r) = _
  after_reads_at
  first
    | rfl

theorem a3_v50 (c : Dev nD) : V3 m ρ c main_v50 = arr2 fun (i : Fin 64) (j : Fin 11008) => (kargs m c).su (ix2 j i) := by
  refine arr2_ext (a := 64) (b := 11008) fun q r => ?_
  show StableHlo.after (hostOps1 (F := Ideal)) (W2 m ρ c) (Proc.devRef .tc main_v50) (ix2 q r) = _
  after_reads_at
  refine (congrFun (W2_args m ρ c main_arg10 (by decide)) _).trans ?_
  first
    | rfl

theorem a5_v52 (c : Dev nD) : V5 m ρ c main_v52 = arr2 fun (i : Fin 172) (j : Fin 4096) => (kargs m c).sd (ix2 j i) := by
  refine arr2_ext (a := 172) (b := 4096) fun q r => ?_
  show StableHlo.after (hostOps2 (F := Ideal)) (W4 m ρ c) (Proc.devRef .tc main_v52) (ix2 q r) = _
  after_reads_at
  refine (congrFun (W4_args m ρ c main_arg15 (by decide)) _).trans ?_
  first
    | rfl

end Cert.MlpIdeal.Region
-- ==== Proof.Reg0.lean ====
module

public import proofs.«01_k».proof.Proof.Spec
public import proofs.«01_k».proof.Proof.Gen.MlpIdeal.Frame.Region0
public import Idealize.ShloMosaic.Lib.Pipeline.ReadBack
public import Idealize.ShloMosaic.Lib.Pipeline.ValueKit
public import Idealize.ShloMosaic.Lib.Pointwise

/-! # One dequantisation call: the loop over groups of 64 rows fills the block with the dequantised weights -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

/-- The rows a trip touches: group `k`, words `4 k + b`, weights `64 k + 16 b`. -/
theorem offs0 : ∀ k : Fin k0_t1_loop.trips, k0_off1 k = ![k.val, 0] ∧ k0_off2 k 0#32 = ![4 * k.val, 0] ∧ k0_off2 k 1#32 = ![4 * k.val + 1, 0] ∧
    k0_off2 k 2#32 = ![4 * k.val + 2, 0] ∧ k0_off2 k 3#32 = ![4 * k.val + 3, 0] ∧ k0_off3 k 0#32 = ![64 * k.val, 0] ∧
    k0_off3 k 16#32 = ![64 * k.val + 16, 0] ∧ k0_off3 k 32#32 = ![64 * k.val + 32, 0] ∧ k0_off3 k 48#32 = ![64 * k.val + 48, 0] := by
  decide +kernel

section Block
variable (arg1 : Memref sig .tc .vmem S256x256 .i32) (harg1 : arg1.IsWhole) (arg2 : Memref sig .tc .vmem S64x256 .f32) (harg2 : arg2.IsWhole)
  (arg3 : Memref sig .tc .vmem S64x256 .f32) (harg3 : arg3.IsWhole) (arg4 : Memref sig .tc .vmem S4096x256 .bf16) (harg4 : arg4.IsWhole)
  (x0 : Vec Ideal S256x256 .i32) (x1 x2 : Vec Ideal S64x256 .f32) (c : Dev nD) (i : grid0.Coords)

/-- The block's weights. -/
def deq0 : S4096x256.Idx → Elt Ideal .bf16 := fun y => deqM (k := 4096) (n := 256) (by decide) (by decide) (mat x0) (mat x1) (mat x2) (y 0) (y 1)

/-- A trip stores rows of the block's weights. -/
theorem trip0 (k : Fin k0_t1_loop.trips) :
    View.PiecesOf (deq0 x0 x1 x2) (tripL_k0_t1 (F := Ideal) Variants.none c none i arg1 harg1 arg2 harg2 arg3 harg3 arg4 harg4 (harg1.unread x0) (harg2.unread x1) (harg3.unread x2) k) := by
  unfold tripL_k0_t1 trip_k0_t1
  obtain ⟨o1, o20, o21, o22, o23, o30, o31, o32, o33⟩ := offs0 k
  refine ⟨fun x => ?_, fun x => ?_, fun x => ?_, fun x => ?_, trivial⟩
  all_goals
    dsimp only
    try unfold trip_k0_t1.sl.r_3
    try unfold trip_k0_t1.sl.r_2
    try unfold trip_k0_t1.sl.r_1
    try unfold trip_k0_t1.sl.r
    simp only [View.readAt_eq_ld, Memref.IsWhole.read_unread]
    unfold_payloads
    idx_vars x
    have x0_lt : x0.val < 16 := x0.isLt
    pointwise
    have e0 : ∀ (off : Fin S4096x256.rank → ℕ) inb, ((Rect.unit (s := S4096x256) off ![16, 256] inb).emb (ix2 x0 x1) 0).val = off 0 + x0.val :=
      fun off inb => ValueKit.rect_emb_unit_val off _ inb _ 0
    have e1 : ∀ (off : Fin S4096x256.rank → ℕ) inb, ((Rect.unit (s := S4096x256) off ![16, 256] inb).emb (ix2 x0 x1) 1).val = off 1 + x1.val :=
      fun off inb => ValueKit.rect_emb_unit_val off _ inb _ 1
    refine deqM_eq _ _ (mat _) (mat _) (mat _) _ _ _ _ _ _ ?_ ?_ ?_ ?_ <;>
      (try simp only [e0, e1, congrFun o1 0, congrFun o1 1, congrFun o20 0, congrFun o20 1, congrFun o21 0, congrFun o21 1, congrFun o22 0,
        congrFun o22 1, congrFun o23 0, congrFun o23 1, congrFun o30 0, congrFun o30 1, congrFun o31 0, congrFun o31 1, congrFun o32 0, congrFun o32 1,
        congrFun o33 0, congrFun o33 1, Matrix.cons_val_zero, Matrix.cons_val_one]) <;>
      (try omega)

/-- So do all the trips before `n`. -/
theorem trips0 (n : ℕ) (hn : n ≤ k0_t1_loop.trips) :
    ∀ p ∈ pb_k0_t1 (F := Ideal) Variants.none c none i arg1 harg1 arg2 harg2 arg3 harg3 arg4 harg4 (harg1.unread x0) (harg2.unread x1) (harg3.unread x2) n,
      ∀ x, p.2 x = deq0 x0 x1 x2 (p.1.emb x) := by
  induction n with
  | zero =>
    intro p hp
    unfold pb_k0_t1 at hp
    cases hp
  | succ n ih =>
    intro p hp
    rw [pb_k0_t1_succ Variants.none c none i arg1 harg1 arg2 harg2 arg3 harg3 arg4 harg4 _ _ _ ⟨n, hn⟩, List.mem_append] at hp
    rcases hp with hp | hp
    · exact (trip0 arg1 harg1 arg2 harg2 arg3 harg3 arg4 harg4 x0 x1 x2 c i ⟨n, hn⟩).mem p hp
    · exact ih (by omega) p hp

end Block

variable (V : (c : Dev nD) → (b : Ref sig .tc) → Buf (Elt Ideal) ((c : Thread nD τ).loc b))

/-- What the block holds after the body. -/
theorem outsAt0_eq (c : Dev nD) (t : Fin cfg0.N) (y : S4096x256.Idx) :
    outsAt0 V c t y = deq0 (iblk0 V c 0 t) (iblk0 V c 1 t) (iblk0 V c 2 t) y := by
  have hc := cover0_A_3 c (grid0.coords t) (ms0_0 t) (hs0_0 t) (ms0_1 t) (hs0_1 t) (ms0_2 t) (hs0_2 t) (ms0_3 t) (hs0_3 t) (iblk0 V c 0 t) (iblk0 V c 1 t) (iblk0 V c 2 t) y
  unfold outsAt0 out0_A_3
  rw [View.read_writes_junk_eq_canon, ← List.append_nil (kernelRun0_A c _ _ _ _ _ _ _ _ _ _ _ _).1]
  refine View.canon_append_of_pieces _ _ _ ?_ y hc
  unfold kernelRun0_A
  exact trips0 _ _ _ _ _ _ _ _ _ _ _ _ _ _ (by decide +kernel)

/-- The window maps: grid point `t` is column block `t`. -/
theorem idx0 : ∀ t : Fin grid0.N,
    win0_0.index t = ![0, t.val] ∧ win0_1.index t = ![0, t.val] ∧ win0_2.index t = ![0, t.val] ∧ win0_3.index t = ![0, t.val] := by
  decide +kernel

theorem blk0_0_at (c : Dev nD) (t : Fin cfg0.N) (i : Fin 256) (j : Fin 256) (q : Fin 11008) (hq : q.val = t.val * 256 + j.val) :
    iblk0 V c 0 t (ix2 i j) = V c main_v3 (ix2 i q) := by
  blk_ext [iblk0, idx0 t]

theorem blk0_1_at (c : Dev nD) (t : Fin cfg0.N) (i : Fin 64) (j : Fin 256) (q : Fin 11008) (hq : q.val = t.val * 256 + j.val) :
    iblk0 V c 1 t (ix2 i j) = V c main_v19 (ix2 i q) := by
  blk_ext [iblk0, idx0 t]

theorem blk0_2_at (c : Dev nD) (t : Fin cfg0.N) (i : Fin 64) (j : Fin 256) (q : Fin 11008) (hq : q.val = t.val * 256 + j.val) :
    iblk0 V c 2 t (ix2 i j) = V c main_v48 (ix2 i q) := by
  blk_ext [iblk0, idx0 t]

theorem deq0_blk (c : Dev nD) (t : Fin cfg0.N) (i r : Fin 4096) (j : Fin 256) (q : Fin 11008) (hr : r.val = i.val) (hq : q.val = t.val * 256 + j.val) :
    deq0 (iblk0 V c 0 t) (iblk0 V c 1 t) (iblk0 V c 2 t) (ix2 i j) =
      deqM (by decide) (by decide) (mat (V c main_v3)) (mat (V c main_v19)) (mat (V c main_v48)) r q := by
  obtain rfl := Fin.ext hr
  unfold deq0 deqM dfM mat
  simp only [ix2_0, ix2_1, blk0_0_at V c t _ j q hq, blk0_1_at V c t _ j q hq, blk0_2_at V c t _ j q hq]

/-- The array after the call. -/
theorem final0 (c : Dev nD) : (dat0 V c).arrAt 3 cfg0.N =
    arr2 (deqM (k := 4096) (n := 11008) (by decide) (by decide) (mat (V c main_v3)) (mat (V c main_v19)) (mat (V c main_v48))) := by
  refine (dat0 V c).arrAt_eq_of_covers 3 _ (by decide +kernel) fun t hf y => ?_
  blk_simp
  rw [after0_3]
  refine (outsAt0_eq V c t _).trans ((congrArg _ (eq_ix2 (show S4096x256.Idx from y))).trans ?_)
  refine deq0_blk V c t _ _ _ _ ?_ ?_
  · blk_simp [idx0 t]
  · blk_simp [idx0 t]

end Cert.MlpIdeal.Region
-- ==== Proof.Reg1.lean ====
module

public import proofs.«01_k».proof.Proof.Spec
public import proofs.«01_k».proof.Proof.Gen.MlpIdeal.Frame.Region1
public import Idealize.ShloMosaic.Lib.Pipeline.ReadBack
public import Idealize.ShloMosaic.Lib.Pipeline.ValueKit
public import Idealize.ShloMosaic.Lib.Pointwise

/-! # One dequantisation call: the loop over groups of 64 rows fills the block with the dequantised weights -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

/-- The rows a trip touches: group `k`, words `4 k + b`, weights `64 k + 16 b`. -/
theorem offs1 : ∀ k : Fin k1_t1_loop.trips, k1_off1 k = ![k.val, 0] ∧ k1_off2 k 0#32 = ![4 * k.val, 0] ∧ k1_off2 k 1#32 = ![4 * k.val + 1, 0] ∧
    k1_off2 k 2#32 = ![4 * k.val + 2, 0] ∧ k1_off2 k 3#32 = ![4 * k.val + 3, 0] ∧ k1_off3 k 0#32 = ![64 * k.val, 0] ∧
    k1_off3 k 16#32 = ![64 * k.val + 16, 0] ∧ k1_off3 k 32#32 = ![64 * k.val + 32, 0] ∧ k1_off3 k 48#32 = ![64 * k.val + 48, 0] := by
  decide +kernel

section Block
variable (arg1 : Memref sig .tc .vmem S256x256 .i32) (harg1 : arg1.IsWhole) (arg2 : Memref sig .tc .vmem S64x256 .f32) (harg2 : arg2.IsWhole)
  (arg3 : Memref sig .tc .vmem S64x256 .f32) (harg3 : arg3.IsWhole) (arg4 : Memref sig .tc .vmem S4096x256 .bf16) (harg4 : arg4.IsWhole)
  (x0 : Vec Ideal S256x256 .i32) (x1 x2 : Vec Ideal S64x256 .f32) (c : Dev nD) (i : grid1.Coords)

/-- The block's weights. -/
def deq1 : S4096x256.Idx → Elt Ideal .bf16 := fun y => deqM (k := 4096) (n := 256) (by decide) (by decide) (mat x0) (mat x1) (mat x2) (y 0) (y 1)

/-- A trip stores rows of the block's weights. -/
theorem trip1 (k : Fin k1_t1_loop.trips) :
    View.PiecesOf (deq1 x0 x1 x2) (tripL_k1_t1 (F := Ideal) Variants.none c none i arg1 harg1 arg2 harg2 arg3 harg3 arg4 harg4 (harg1.unread x0) (harg2.unread x1) (harg3.unread x2) k) := by
  unfold tripL_k1_t1 trip_k1_t1
  obtain ⟨o1, o20, o21, o22, o23, o30, o31, o32, o33⟩ := offs1 k
  refine ⟨fun x => ?_, fun x => ?_, fun x => ?_, fun x => ?_, trivial⟩
  all_goals
    dsimp only
    try unfold trip_k1_t1.sl.r_3
    try unfold trip_k1_t1.sl.r_2
    try unfold trip_k1_t1.sl.r_1
    try unfold trip_k1_t1.sl.r
    simp only [View.readAt_eq_ld, Memref.IsWhole.read_unread]
    unfold_payloads
    idx_vars x
    have x0_lt : x0.val < 16 := x0.isLt
    pointwise
    have e0 : ∀ (off : Fin S4096x256.rank → ℕ) inb, ((Rect.unit (s := S4096x256) off ![16, 256] inb).emb (ix2 x0 x1) 0).val = off 0 + x0.val :=
      fun off inb => ValueKit.rect_emb_unit_val off _ inb _ 0
    have e1 : ∀ (off : Fin S4096x256.rank → ℕ) inb, ((Rect.unit (s := S4096x256) off ![16, 256] inb).emb (ix2 x0 x1) 1).val = off 1 + x1.val :=
      fun off inb => ValueKit.rect_emb_unit_val off _ inb _ 1
    refine deqM_eq _ _ (mat _) (mat _) (mat _) _ _ _ _ _ _ ?_ ?_ ?_ ?_ <;>
      (try simp only [e0, e1, congrFun o1 0, congrFun o1 1, congrFun o20 0, congrFun o20 1, congrFun o21 0, congrFun o21 1, congrFun o22 0,
        congrFun o22 1, congrFun o23 0, congrFun o23 1, congrFun o30 0, congrFun o30 1, congrFun o31 0, congrFun o31 1, congrFun o32 0, congrFun o32 1,
        congrFun o33 0, congrFun o33 1, Matrix.cons_val_zero, Matrix.cons_val_one]) <;>
      (try omega)

/-- So do all the trips before `n`. -/
theorem trips1 (n : ℕ) (hn : n ≤ k1_t1_loop.trips) :
    ∀ p ∈ pb_k1_t1 (F := Ideal) Variants.none c none i arg1 harg1 arg2 harg2 arg3 harg3 arg4 harg4 (harg1.unread x0) (harg2.unread x1) (harg3.unread x2) n,
      ∀ x, p.2 x = deq1 x0 x1 x2 (p.1.emb x) := by
  induction n with
  | zero =>
    intro p hp
    unfold pb_k1_t1 at hp
    cases hp
  | succ n ih =>
    intro p hp
    rw [pb_k1_t1_succ Variants.none c none i arg1 harg1 arg2 harg2 arg3 harg3 arg4 harg4 _ _ _ ⟨n, hn⟩, List.mem_append] at hp
    rcases hp with hp | hp
    · exact (trip1 arg1 harg1 arg2 harg2 arg3 harg3 arg4 harg4 x0 x1 x2 c i ⟨n, hn⟩).mem p hp
    · exact ih (by omega) p hp

end Block

variable (V : (c : Dev nD) → (b : Ref sig .tc) → Buf (Elt Ideal) ((c : Thread nD τ).loc b))

/-- What the block holds after the body. -/
theorem outsAt1_eq (c : Dev nD) (t : Fin cfg1.N) (y : S4096x256.Idx) :
    outsAt1 V c t y = deq1 (iblk1 V c 0 t) (iblk1 V c 1 t) (iblk1 V c 2 t) y := by
  have hc := cover1_A_3 c (grid1.coords t) (ms1_0 t) (hs1_0 t) (ms1_1 t) (hs1_1 t) (ms1_2 t) (hs1_2 t) (ms1_3 t) (hs1_3 t) (iblk1 V c 0 t) (iblk1 V c 1 t) (iblk1 V c 2 t) y
  unfold outsAt1 out1_A_3
  rw [View.read_writes_junk_eq_canon, ← List.append_nil (kernelRun1_A c _ _ _ _ _ _ _ _ _ _ _ _).1]
  refine View.canon_append_of_pieces _ _ _ ?_ y hc
  unfold kernelRun1_A
  exact trips1 _ _ _ _ _ _ _ _ _ _ _ _ _ _ (by decide +kernel)

/-- The window maps: grid point `t` is column block `t`. -/
theorem idx1 : ∀ t : Fin grid1.N,
    win1_0.index t = ![0, t.val] ∧ win1_1.index t = ![0, t.val] ∧ win1_2.index t = ![0, t.val] ∧ win1_3.index t = ![0, t.val] := by
  decide +kernel

theorem blk1_0_at (c : Dev nD) (t : Fin cfg1.N) (i : Fin 256) (j : Fin 256) (q : Fin 11008) (hq : q.val = t.val * 256 + j.val) :
    iblk1 V c 0 t (ix2 i j) = V c main_v4 (ix2 i q) := by
  blk_ext [iblk1, idx1 t]

theorem blk1_1_at (c : Dev nD) (t : Fin cfg1.N) (i : Fin 64) (j : Fin 256) (q : Fin 11008) (hq : q.val = t.val * 256 + j.val) :
    iblk1 V c 1 t (ix2 i j) = V c main_v33 (ix2 i q) := by
  blk_ext [iblk1, idx1 t]

theorem blk1_2_at (c : Dev nD) (t : Fin cfg1.N) (i : Fin 64) (j : Fin 256) (q : Fin 11008) (hq : q.val = t.val * 256 + j.val) :
    iblk1 V c 2 t (ix2 i j) = V c main_v50 (ix2 i q) := by
  blk_ext [iblk1, idx1 t]

theorem deq1_blk (c : Dev nD) (t : Fin cfg1.N) (i r : Fin 4096) (j : Fin 256) (q : Fin 11008) (hr : r.val = i.val) (hq : q.val = t.val * 256 + j.val) :
    deq1 (iblk1 V c 0 t) (iblk1 V c 1 t) (iblk1 V c 2 t) (ix2 i j) =
      deqM (by decide) (by decide) (mat (V c main_v4)) (mat (V c main_v33)) (mat (V c main_v50)) r q := by
  obtain rfl := Fin.ext hr
  unfold deq1 deqM dfM mat
  simp only [ix2_0, ix2_1, blk1_0_at V c t _ j q hq, blk1_1_at V c t _ j q hq, blk1_2_at V c t _ j q hq]

/-- The array after the call. -/
theorem final1 (c : Dev nD) : (dat1 V c).arrAt 3 cfg1.N =
    arr2 (deqM (k := 4096) (n := 11008) (by decide) (by decide) (mat (V c main_v4)) (mat (V c main_v33)) (mat (V c main_v50))) := by
  refine (dat1 V c).arrAt_eq_of_covers 3 _ (by decide +kernel) fun t hf y => ?_
  blk_simp
  rw [after1_3]
  refine (outsAt1_eq V c t _).trans ((congrArg _ (eq_ix2 (show S4096x256.Idx from y))).trans ?_)
  refine deq1_blk V c t _ _ _ _ ?_ ?_
  · blk_simp [idx1 t]
  · blk_simp [idx1 t]

end Cert.MlpIdeal.Region
-- ==== Proof.Reg2.lean ====
module

public import proofs.«01_k».proof.Proof.Spec
public import proofs.«01_k».proof.Proof.Gen.MlpIdeal.Frame.Region2
public import Idealize.ShloMosaic.Lib.Pipeline.ReadBack
public import Idealize.ShloMosaic.Lib.Pipeline.ValueKit
public import Idealize.ShloMosaic.Lib.Pointwise

/-! # One dequantisation call: the loop over groups of 64 rows fills the block with the dequantised weights -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

/-- The rows a trip touches: group `k`, words `4 k + b`, weights `64 k + 16 b`. -/
theorem offs2 : ∀ k : Fin k2_t1_loop.trips, k2_off1 k = ![k.val, 0] ∧ k2_off2 k 0#32 = ![4 * k.val, 0] ∧ k2_off2 k 1#32 = ![4 * k.val + 1, 0] ∧
    k2_off2 k 2#32 = ![4 * k.val + 2, 0] ∧ k2_off2 k 3#32 = ![4 * k.val + 3, 0] ∧ k2_off3 k 0#32 = ![64 * k.val, 0] ∧
    k2_off3 k 16#32 = ![64 * k.val + 16, 0] ∧ k2_off3 k 32#32 = ![64 * k.val + 32, 0] ∧ k2_off3 k 48#32 = ![64 * k.val + 48, 0] := by
  decide +kernel

section Block
variable (arg1 : Memref sig .tc .vmem S688x256 .i32) (harg1 : arg1.IsWhole) (arg2 : Memref sig .tc .vmem S172x256 .f32) (harg2 : arg2.IsWhole)
  (arg3 : Memref sig .tc .vmem S172x256 .f32) (harg3 : arg3.IsWhole) (arg4 : Memref sig .tc .vmem S11008x256 .bf16) (harg4 : arg4.IsWhole)
  (x0 : Vec Ideal S688x256 .i32) (x1 x2 : Vec Ideal S172x256 .f32) (c : Dev nD) (i : grid2.Coords)

/-- The block's weights. -/
def deq2 : S11008x256.Idx → Elt Ideal .bf16 := fun y => deqM (k := 11008) (n := 256) (by decide) (by decide) (mat x0) (mat x1) (mat x2) (y 0) (y 1)

/-- A trip stores rows of the block's weights. -/
theorem trip2 (k : Fin k2_t1_loop.trips) :
    View.PiecesOf (deq2 x0 x1 x2) (tripL_k2_t1 (F := Ideal) Variants.none c none i arg1 harg1 arg2 harg2 arg3 harg3 arg4 harg4 (harg1.unread x0) (harg2.unread x1) (harg3.unread x2) k) := by
  unfold tripL_k2_t1 trip_k2_t1
  obtain ⟨o1, o20, o21, o22, o23, o30, o31, o32, o33⟩ := offs2 k
  refine ⟨fun x => ?_, fun x => ?_, fun x => ?_, fun x => ?_, trivial⟩
  all_goals
    dsimp only
    try unfold trip_k2_t1.sl.r_3
    try unfold trip_k2_t1.sl.r_2
    try unfold trip_k2_t1.sl.r_1
    try unfold trip_k2_t1.sl.r
    simp only [View.readAt_eq_ld, Memref.IsWhole.read_unread]
    unfold_payloads
    idx_vars x
    have x0_lt : x0.val < 16 := x0.isLt
    pointwise
    have e0 : ∀ (off : Fin S11008x256.rank → ℕ) inb, ((Rect.unit (s := S11008x256) off ![16, 256] inb).emb (ix2 x0 x1) 0).val = off 0 + x0.val :=
      fun off inb => ValueKit.rect_emb_unit_val off _ inb _ 0
    have e1 : ∀ (off : Fin S11008x256.rank → ℕ) inb, ((Rect.unit (s := S11008x256) off ![16, 256] inb).emb (ix2 x0 x1) 1).val = off 1 + x1.val :=
      fun off inb => ValueKit.rect_emb_unit_val off _ inb _ 1
    refine deqM_eq _ _ (mat _) (mat _) (mat _) _ _ _ _ _ _ ?_ ?_ ?_ ?_ <;>
      (try simp only [e0, e1, congrFun o1 0, congrFun o1 1, congrFun o20 0, congrFun o20 1, congrFun o21 0, congrFun o21 1, congrFun o22 0,
        congrFun o22 1, congrFun o23 0, congrFun o23 1, congrFun o30 0, congrFun o30 1, congrFun o31 0, congrFun o31 1, congrFun o32 0, congrFun o32 1,
        congrFun o33 0, congrFun o33 1, Matrix.cons_val_zero, Matrix.cons_val_one]) <;>
      (try omega)

/-- So do all the trips before `n`. -/
theorem trips2 (n : ℕ) (hn : n ≤ k2_t1_loop.trips) :
    ∀ p ∈ pb_k2_t1 (F := Ideal) Variants.none c none i arg1 harg1 arg2 harg2 arg3 harg3 arg4 harg4 (harg1.unread x0) (harg2.unread x1) (harg3.unread x2) n,
      ∀ x, p.2 x = deq2 x0 x1 x2 (p.1.emb x) := by
  induction n with
  | zero =>
    intro p hp
    unfold pb_k2_t1 at hp
    cases hp
  | succ n ih =>
    intro p hp
    rw [pb_k2_t1_succ Variants.none c none i arg1 harg1 arg2 harg2 arg3 harg3 arg4 harg4 _ _ _ ⟨n, hn⟩, List.mem_append] at hp
    rcases hp with hp | hp
    · exact (trip2 arg1 harg1 arg2 harg2 arg3 harg3 arg4 harg4 x0 x1 x2 c i ⟨n, hn⟩).mem p hp
    · exact ih (by omega) p hp

end Block

variable (V : (c : Dev nD) → (b : Ref sig .tc) → Buf (Elt Ideal) ((c : Thread nD τ).loc b))

/-- What the block holds after the body. -/
theorem outsAt2_eq (c : Dev nD) (t : Fin cfg2.N) (y : S11008x256.Idx) :
    outsAt2 V c t y = deq2 (iblk2 V c 0 t) (iblk2 V c 1 t) (iblk2 V c 2 t) y := by
  have hc := cover2_A_3 c (grid2.coords t) (ms2_0 t) (hs2_0 t) (ms2_1 t) (hs2_1 t) (ms2_2 t) (hs2_2 t) (ms2_3 t) (hs2_3 t) (iblk2 V c 0 t) (iblk2 V c 1 t) (iblk2 V c 2 t) y
  unfold outsAt2 out2_A_3
  rw [View.read_writes_junk_eq_canon, ← List.append_nil (kernelRun2_A c _ _ _ _ _ _ _ _ _ _ _ _).1]
  refine View.canon_append_of_pieces _ _ _ ?_ y hc
  unfold kernelRun2_A
  exact trips2 _ _ _ _ _ _ _ _ _ _ _ _ _ _ (by decide +kernel)

/-- The window maps: grid point `t` is column block `t`. -/
theorem idx2 : ∀ t : Fin grid2.N,
    win2_0.index t = ![0, t.val] ∧ win2_1.index t = ![0, t.val] ∧ win2_2.index t = ![0, t.val] ∧ win2_3.index t = ![0, t.val] := by
  decide +kernel

theorem blk2_0_at (c : Dev nD) (t : Fin cfg2.N) (i : Fin 688) (j : Fin 256) (q : Fin 4096) (hq : q.val = t.val * 256 + j.val) :
    iblk2 V c 0 t (ix2 i j) = V c main_v5 (ix2 i q) := by
  blk_ext [iblk2, idx2 t]

theorem blk2_1_at (c : Dev nD) (t : Fin cfg2.N) (i : Fin 172) (j : Fin 256) (q : Fin 4096) (hq : q.val = t.val * 256 + j.val) :
    iblk2 V c 1 t (ix2 i j) = V c main_v47 (ix2 i q) := by
  blk_ext [iblk2, idx2 t]

theorem blk2_2_at (c : Dev nD) (t : Fin cfg2.N) (i : Fin 172) (j : Fin 256) (q : Fin 4096) (hq : q.val = t.val * 256 + j.val) :
    iblk2 V c 2 t (ix2 i j) = V c main_v52 (ix2 i q) := by
  blk_ext [iblk2, idx2 t]

theorem deq2_blk (c : Dev nD) (t : Fin cfg2.N) (i r : Fin 11008) (j : Fin 256) (q : Fin 4096) (hr : r.val = i.val) (hq : q.val = t.val * 256 + j.val) :
    deq2 (iblk2 V c 0 t) (iblk2 V c 1 t) (iblk2 V c 2 t) (ix2 i j) =
      deqM (by decide) (by decide) (mat (V c main_v5)) (mat (V c main_v47)) (mat (V c main_v52)) r q := by
  obtain rfl := Fin.ext hr
  unfold deq2 deqM dfM mat
  simp only [ix2_0, ix2_1, blk2_0_at V c t _ j q hq, blk2_1_at V c t _ j q hq, blk2_2_at V c t _ j q hq]

/-- The array after the call. -/
theorem final2 (c : Dev nD) : (dat2 V c).arrAt 3 cfg2.N =
    arr2 (deqM (k := 11008) (n := 4096) (by decide) (by decide) (mat (V c main_v5)) (mat (V c main_v47)) (mat (V c main_v52))) := by
  refine (dat2 V c).arrAt_eq_of_covers 3 _ (by decide +kernel) fun t hf y => ?_
  blk_simp
  rw [after2_3]
  refine (outsAt2_eq V c t _).trans ((congrArg _ (eq_ix2 (show S11008x256.Idx from y))).trans ?_)
  refine deq2_blk V c t _ _ _ _ ?_ ?_
  · blk_simp [idx2 t]
  · blk_simp [idx2 t]

end Cert.MlpIdeal.Region
-- ==== Proof.Reg3.lean ====
module

public import proofs.«01_k».proof.Proof.Spec
public import proofs.«01_k».proof.Proof.Gen.MlpIdeal.Frame.Region3
public import Idealize.ShloMosaic.Lib.Pipeline.ReadBack
public import Idealize.ShloMosaic.Lib.Pipeline.ValueKit
public import Idealize.ShloMosaic.Lib.Pointwise

/-! # Row statistics: what one point leaves -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

variable (V : (c : Dev nD) → (b : Ref sig .tc) → Buf (Elt Ideal) ((c : Thread nD τ).loc b))

/-- The normalised rows of the block. -/
theorem o3_xn (c : Dev nD) (t : Fin cfg3.N) (i : Fin 256) (j : Fin 4096) : (outsAt3 V c t.val t.isLt).1 (ix2 i j) = xnM (mat (iblk3 V c 0 t)) (fun d => iblk3 V c 2 t (ix2 0 d)) i j := by
  by_cases h0 : t.val % 24 = 0
  · rw [outsAt3_A V c t h0]
    frame_out
    unfold_payloads
    pointwise
    rfl
  · rw [outsAt3_B V c t h0]
    frame_out
    unfold_payloads
    pointwise
    rfl

/-- The reciprocal norms of the block, in every lane. -/
theorem o3_r (c : Dev nD) (t : Fin cfg3.N) (i : Fin 256) (j : Fin 128) : (outsAt3 V c t.val t.isLt).2.1 (ix2 i j) = rS (mat (iblk3 V c 0 t)) i := by
  by_cases h0 : t.val % 24 = 0
  · rw [outsAt3_A V c t h0]
    frame_out
    unfold_payloads
    pointwise
    rfl
  · rw [outsAt3_B V c t h0]
    frame_out
    unfold_payloads
    pointwise
    rfl

/-- Only the first point restarts the maxima. -/
theorem notFirst : ∀ t : Fin grid3.N, ¬ t.val % 24 = 0 → Scalar.cmpi CmpIPredicate.eq (BitVec.ofNat 32 (grid3.coords t 0).val) 0#32 = 0#1 := by
  decide +kernel

theorem o3_xA (c : Dev nD) (t : Fin cfg3.N) (h0 : t.val % 24 = 0) (i : Fin 8) (j : Fin 4096) : (outsAt3 V c t.val t.isLt).2.2.1 (ix2 i j) =
    fmax fun p : Fin 32 => absE (xnM (mat (iblk3 V c 0 t)) (fun d => iblk3 V c 2 t (ix2 0 d)) ⟨p.val * 8 + i.val, by omega⟩ j) := by
  rw [outsAt3_A V c t h0]
  frame_out
  unfold_payloads
  pointwise
  exact (select_same _ _).trans rfl

theorem o3_xB (c : Dev nD) (t : Fin cfg3.N) (h0 : ¬t.val % 24 = 0) (i : Fin 8) (j : Fin 4096) : (outsAt3 V c t.val t.isLt).2.2.1 (ix2 i j) =
    max ((outsAt3 V c (t.val - 1) (Nat.lt_of_le_of_lt (Nat.sub_le _ _) t.isLt)).2.2.1 (ix2 i j)) (fmax fun p : Fin 32 => absE (xnM (mat (iblk3 V c 0 t)) (fun d => iblk3 V c 2 t (ix2 0 d)) ⟨p.val * 8 + i.val, by omega⟩ j)) := by
  rw [outsAt3_B V c t h0]
  frame_out
  unfold_payloads
  pointwise
  rw [notFirst t h0]
  exact (select_no _ _).trans rfl

theorem o3_dA (c : Dev nD) (t : Fin cfg3.N) (h0 : t.val % 24 = 0) (i : Fin 8) (j : Fin 4096) : (outsAt3 V c t.val t.isLt).2.2.2 (ix2 i j) =
    fmax fun p : Fin 32 => absE ((iblk3 V c 1 t : Vec Ideal S256x4096 .bf16) (ix2 ⟨p.val * 8 + i.val, by omega⟩ j)) := by
  rw [outsAt3_A V c t h0]
  frame_out
  unfold_payloads
  pointwise
  exact (select_same _ _).trans rfl

theorem o3_dB (c : Dev nD) (t : Fin cfg3.N) (h0 : ¬t.val % 24 = 0) (i : Fin 8) (j : Fin 4096) : (outsAt3 V c t.val t.isLt).2.2.2 (ix2 i j) =
    max ((outsAt3 V c (t.val - 1) (Nat.lt_of_le_of_lt (Nat.sub_le _ _) t.isLt)).2.2.2 (ix2 i j)) (fmax fun p : Fin 32 => absE ((iblk3 V c 1 t : Vec Ideal S256x4096 .bf16) (ix2 ⟨p.val * 8 + i.val, by omega⟩ j))) := by
  rw [outsAt3_B V c t h0]
  frame_out
  unfold_payloads
  pointwise
  rw [notFirst t h0]
  exact (select_no _ _).trans rfl

end Cert.MlpIdeal.Region
-- ==== Proof.Reg3Array.lean ====
module

public import proofs.«01_k».proof.Proof.Spec
public import proofs.«01_k».proof.Proof.Reg3
public import Idealize.ShloMosaic.Lib.Pipeline.ReadBack
public import Idealize.ShloMosaic.Lib.Pipeline.ValueKit
public import Idealize.ShloMosaic.Lib.Pointwise

/-! # Row statistics: the arrays after the call -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

variable (V : (c : Dev nD) → (b : Ref sig .tc) → Buf (Elt Ideal) ((c : Thread nD τ).loc b))

theorem idx3 : ∀ t : Fin grid3.N, win3_0.index t = ![t.val, 0] ∧ win3_1.index t = ![t.val, 0] ∧ win3_2.index t = ![0, 0] ∧ win3_3.index t = ![t.val, 0] ∧
    win3_4.index t = ![t.val, 0] ∧ win3_5.index t = ![0, 0] ∧ win3_6.index t = ![0, 0] := by
  decide +kernel

theorem blk3_0_at (c : Dev nD) (t : Fin cfg3.N) (i : Fin 256) (j : Fin 4096) (r : Fin 6144) (hr : r.val = t.val * 256 + i.val) :
    iblk3 V c 0 t (ix2 i j) = V c main_v0 (ix2 r j) := by
  blk_ext [iblk3, idx3 t]

theorem blk3_1_at (c : Dev nD) (t : Fin cfg3.N) (i : Fin 256) (j : Fin 4096) (r : Fin 6144) (hr : r.val = t.val * 256 + i.val) :
    iblk3 V c 1 t (ix2 i j) = V c main_v1 (ix2 r j) := by
  blk_ext [iblk3, idx3 t]

theorem blk3_2_at (c : Dev nD) (t : Fin cfg3.N) (i : Fin 1) (j : Fin 4096) :
    iblk3 V c 2 t (ix2 i j) = V c main_v2 (ix2 i j) := by
  blk_ext [iblk3, idx3 t]

/-- Only the last point writes the maxima back. -/
theorem last3_5 : ∀ t : Fin grid3.N, (cfg3.win 5).flush t = true → t.val = 23 := by
  decide +kernel

theorem last3_6 : ∀ t : Fin grid3.N, (cfg3.win 6).flush t = true → t.val = 23 := by
  decide +kernel

theorem r_blk (c : Dev nD) (t : Fin cfg3.N) (i : Fin 256) (r : Fin 6144) (hr : r.val = t.val * 256 + i.val) :
    rS (mat (iblk3 V c 0 t)) i = rS (mat (V c main_v0)) r := by
  unfold rS mat
  simp only [blk3_0_at V c t i _ r hr]

theorem xn_blk (c : Dev nD) (t : Fin cfg3.N) (i : Fin 256) (j q : Fin 4096) (r : Fin 6144) (hr : r.val = t.val * 256 + i.val) (hq : q.val = j.val) :
    xnM (mat (iblk3 V c 0 t)) (fun d => iblk3 V c 2 t (ix2 0 d)) i j = (xnM (mat (V c main_v0)) (fun d => V c main_v2 (ix2 0 d))) r q := by
  obtain rfl := Fin.ext hq
  unfold xnM
  rw [r_blk V c t i r hr]
  unfold mat
  simp only [blk3_0_at V c t i _ r hr, blk3_2_at V c t]

theorem d_blk (c : Dev nD) (t : Fin cfg3.N) (i : Fin 256) (j : Fin 4096) (r : Fin 6144) (hr : r.val = t.val * 256 + i.val) :
    (iblk3 V c 1 t : Vec Ideal S256x4096 .bf16) (ix2 i j) = mat (V c main_v1) r j := by
  unfold mat
  simp only [blk3_1_at V c t i _ r hr]

theorem lt_next (a r : ℕ) (h : r < a * 256) : r < (a + 1) * 256 := by
  rw [Nat.add_mul]
  exact Nat.lt_of_lt_of_le h (Nat.le_add_right _ _)

theorem row_lt (a p s : ℕ) (ha : a < 24) (hp : p < 32) (hs : s < 8) : a * 256 + (p * 8 + s) < 6144 := by
  omega

theorem row_mod (a p s : ℕ) (hs : s < 8) : (a * 256 + (p * 8 + s)) % 8 = s := by
  omega

theorem row_next (a p s : ℕ) (hp : p < 32) (hs : s < 8) : a * 256 + (p * 8 + s) < (a + 1) * 256 := by
  rw [Nat.add_mul]
  omega

/-- A running maximum of lane `s` over row blocks of 256, block by block. -/
theorem run_max (X : Fin 6144 → EReal) (s : Fin 8) (g : (n : ℕ) → n < 24 → EReal)
    (hA : ∀ (n : ℕ) (hn : n < 24), n % 24 = 0 → g n hn = fmax fun p : Fin 32 => X ⟨n * 256 + (p.val * 8 + s.val), by omega⟩)
    (hB : ∀ (n : ℕ) (hn : n < 24), ¬n % 24 = 0 → g n hn = max (g (n - 1) (by omega)) (fmax fun p : Fin 32 => X ⟨n * 256 + (p.val * 8 + s.val), by omega⟩))
    (n : ℕ) (hn : n < 24) (e : EReal) : g n hn ≤ e ↔ negInf ≤ e ∧ ∀ r : Fin 6144, r.val % 8 = s.val → r.val < (n + 1) * 256 → X r ≤ e := by
  induction n with
  | zero =>
    rw [hA 0 hn rfl, fmax_le]
    refine and_congr_right fun _ => ⟨fun h r h1 h2 => ?_, fun h p => h _ (show (0 * 256 + (p.val * 8 + s.val)) % 8 = s.val by omega)
      (show 0 * 256 + (p.val * 8 + s.val) < (0 + 1) * 256 by omega)⟩
    have h3 := h ⟨r.val / 8, by omega⟩
    have h4 : (⟨0 * 256 + (r.val / 8 * 8 + s.val), by omega⟩ : Fin 6144) = r := Fin.ext (show 0 * 256 + (r.val / 8 * 8 + s.val) = r.val by omega)
    exact (congrArg X h4) ▸ h3
  | succ n ih =>
    rw [hB (n + 1) hn (by omega), max_le_iff, fmax_le]
    have ih' : g (n + 1 - 1) (by omega) ≤ e ↔ negInf ≤ e ∧ ∀ r : Fin 6144, r.val % 8 = s.val → r.val < (n + 1) * 256 → X r ≤ e := ih (by omega)
    rw [ih']
    constructor
    · rintro ⟨⟨hb, h⟩, _, h'⟩
      refine ⟨hb, fun r h1 h2 => ?_⟩
      by_cases hr : r.val < (n + 1) * 256
      · exact h r h1 hr
      · have h3 := h' ⟨(r.val - (n + 1) * 256) / 8, by omega⟩
        have h4 : (⟨(n + 1) * 256 + ((r.val - (n + 1) * 256) / 8 * 8 + s.val), by omega⟩ : Fin 6144) = r :=
          Fin.ext (show (n + 1) * 256 + ((r.val - (n + 1) * 256) / 8 * 8 + s.val) = r.val by omega)
        exact (congrArg X h4) ▸ h3
    · rintro ⟨hb, h⟩
      exact ⟨⟨hb, fun r h1 h2 => h r h1 (lt_next (n + 1) r.val h2)⟩, hb, fun p =>
        h ⟨(n + 1) * 256 + (p.val * 8 + s.val), row_lt (n + 1) p.val s.val hn p.isLt s.isLt⟩
          (row_mod (n + 1) p.val s.val s.isLt) (row_next (n + 1) p.val s.val p.isLt s.isLt)⟩

/-- At the last point it is the maximum over all rows of the lane. -/
theorem run_max_last (X : Mat 6144 4096) (d : Fin 4096) (s : Fin 8) (g : (n : ℕ) → n < 24 → EReal) (N : ℕ) (hN : N < 24) (h23 : N = 23)
    (hA : ∀ (n : ℕ) (hn : n < 24), n % 24 = 0 → g n hn = fmax fun p : Fin 32 => absE (X ⟨n * 256 + (p.val * 8 + s.val), by omega⟩ d))
    (hB : ∀ (n : ℕ) (hn : n < 24), ¬n % 24 = 0 → g n hn = max (g (n - 1) (by omega)) (fmax fun p : Fin 32 => absE (X ⟨n * 256 + (p.val * 8 + s.val), by omega⟩ d))) :
    g N hN = lanemax X s d := by
  subst h23
  refine eq_of_forall_ge_iff fun e => ?_
  rw [run_max (fun r => absE (X r d)) s g hA hB 23 (by omega) e, lanemax, fmax_le]
  refine and_congr_right fun _ => ⟨fun h p => ?_, fun h r h1 h2 => ?_⟩
  · obtain ⟨r, hr⟩ : ∃ r : Fin 6144, r.val = p.val * 8 + s.val := ⟨⟨p.val * 8 + s.val, by omega⟩, rfl⟩
    have h5 := h r (by omega) (by omega)
    have h6 : (⟨p.val * 8 + s.val, by omega⟩ : Fin 6144) = r := Fin.ext hr.symm
    rw [← h6] at h5
    exact h5
  · have h3 := h ⟨r.val / 8, by omega⟩
    have h4 : (⟨r.val / 8 * 8 + s.val, by omega⟩ : Fin 6144) = r := Fin.ext (show r.val / 8 * 8 + s.val = r.val by omega)
    exact (congrArg (fun r => absE (X r d)) h4) ▸ h3

theorem final3_3 (c : Dev nD) : (dat3 V c).arrAt 3 cfg3.N = arr2 (xnM (mat (V c main_v0)) (fun d => V c main_v2 (ix2 0 d))) := by
  refine (dat3 V c).arrAt_eq_of_covers 3 _ (by decide +kernel) fun t hf y => ?_
  blk_simp
  rw [after3_3]
  refine (congrArg _ (eq_ix2 (show S256x4096.Idx from y))).trans ((o3_xn V c t _ _).trans ?_)
  refine xn_blk V c t _ _ _ _ ?_ ?_ <;> blk_simp [idx3 t]

theorem final3_4 (c : Dev nD) : (dat3 V c).arrAt 4 cfg3.N = arr2 (fun r _ => rS (mat (V c main_v0)) r) := by
  refine (dat3 V c).arrAt_eq_of_covers 4 _ (by decide +kernel) fun t hf y => ?_
  blk_simp
  rw [after3_4]
  refine (congrArg _ (eq_ix2 (show S256x128.Idx from y))).trans ((o3_r V c t _ _).trans ?_)
  refine r_blk V c t _ _ ?_ <;> blk_simp [idx3 t]

set_option maxHeartbeats 1000000 in
theorem last3_5_eq (c : Dev nD) : ∀ (tv : ℕ) (tl : tv < cfg3.N) (_ : tv = 23) (s : Fin 8) (d : Fin 4096), (outsAt3 V c tv tl).2.2.1 (ix2 s d) = lanemax (xnM (mat (V c main_v0)) (fun d => V c main_v2 (ix2 0 d))) s d := fun tv tl ht s d => by
  refine run_max_last (xnM (mat (V c main_v0)) (fun d => V c main_v2 (ix2 0 d))) d s (fun n hn => (outsAt3 V c n hn).2.2.1 (ix2 s d)) tv tl ht (fun n hn h => ?_) (fun n hn h => ?_)
  · refine (o3_xA V c ⟨n, hn⟩ h s d).trans (congrArg fmax (funext fun p => ?_))
    rw [xn_blk V c ⟨n, hn⟩ _ _ _ ⟨n * 256 + (p.val * 8 + s.val), by omega⟩ rfl rfl]
  · refine (o3_xB V c ⟨n, hn⟩ h s d).trans (congrArg (max _) (congrArg fmax (funext fun p => ?_)))
    rw [xn_blk V c ⟨n, hn⟩ _ _ _ ⟨n * 256 + (p.val * 8 + s.val), by omega⟩ rfl rfl]

theorem final3_5 (c : Dev nD) : (dat3 V c).arrAt 5 cfg3.N = arr2 (lanemax (xnM (mat (V c main_v0)) (fun d => V c main_v2 (ix2 0 d)))) := by
  refine (dat3 V c).arrAt_eq_of_covers 5 _ (by decide +kernel) fun t hf y => ?_
  have ht : t.val = 23 := last3_5 t hf
  blk_simp
  rw [after3_5]
  refine (congrArg _ (eq_ix2 (show S8x4096.Idx from y))).trans ?_
  refine (last3_5_eq V c _ _ ht _ _).trans ?_
  unfold arr2
  first
    | (congr 1 <;> refine Fin.ext ?_ <;> blk_simp [idx3 t])

set_option maxHeartbeats 1000000 in
theorem last3_6_eq (c : Dev nD) : ∀ (tv : ℕ) (tl : tv < cfg3.N) (_ : tv = 23) (s : Fin 8) (d : Fin 4096), (outsAt3 V c tv tl).2.2.2 (ix2 s d) = lanemax (mat (V c main_v1)) s d := fun tv tl ht s d => by
  refine run_max_last (mat (V c main_v1)) d s (fun n hn => (outsAt3 V c n hn).2.2.2 (ix2 s d)) tv tl ht (fun n hn h => ?_) (fun n hn h => ?_)
  · refine (o3_dA V c ⟨n, hn⟩ h s d).trans (congrArg fmax (funext fun p => ?_))
    rw [d_blk V c ⟨n, hn⟩ _ _ ⟨n * 256 + (p.val * 8 + s.val), by omega⟩ rfl]
  · refine (o3_dB V c ⟨n, hn⟩ h s d).trans (congrArg (max _) (congrArg fmax (funext fun p => ?_)))
    rw [d_blk V c ⟨n, hn⟩ _ _ ⟨n * 256 + (p.val * 8 + s.val), by omega⟩ rfl]

theorem final3_6 (c : Dev nD) : (dat3 V c).arrAt 6 cfg3.N = arr2 (lanemax (mat (V c main_v1))) := by
  refine (dat3 V c).arrAt_eq_of_covers 6 _ (by decide +kernel) fun t hf y => ?_
  have ht : t.val = 23 := last3_6 t hf
  blk_simp
  rw [after3_6]
  refine (congrArg _ (eq_ix2 (show S8x4096.Idx from y))).trans ?_
  refine (last3_6_eq V c _ _ ht _ _).trans ?_
  unfold arr2
  first
    | (congr 1 <;> refine Fin.ext ?_ <;> blk_simp [idx3 t])

end Cert.MlpIdeal.Region
-- ==== Proof.Reg4.lean ====
module

public import proofs.«01_k».proof.Proof.Spec
public import proofs.«01_k».proof.Proof.Gen.MlpIdeal.Frame.Region4
public import Idealize.ShloMosaic.Lib.Pipeline.ReadBack
public import Idealize.ShloMosaic.Lib.Pipeline.ValueKit
public import Idealize.ShloMosaic.Lib.Pointwise

/-! # The quantisation of the normalised tokens and of the output gradient -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

section Block
variable (x0 : Vec Ideal S256x4096 .bf16) (x1 : Vec Ideal S256x4096 .bf16) (x2 : Vec Ideal S1x4096 .f32) (x3 : Vec Ideal S256x128 .f32) (x4 x5 : Vec Ideal S8x4096 .f32)

/-- The codes of the normalised tokens. -/
theorem out4_6_at (i : Fin 256) (j : Fin 4096) : out4_6 x0 x1 x2 x3 x4 x5 (ix2 i j) = codeV (x0 (ix2 i j) * x3 (ix2 i 0) * x2 (ix2 0 j)) (scaleV (fmax fun s : Fin 8 => x4 (ix2 s j))) := by
  unfold_out out4_6
  canon_tiles x h
  all_goals
    idx_vars x
    unfold_payloads
    pointwise
    obtain rfl := Fin.ext h0
    obtain rfl := Fin.ext h1
    rfl

/-- The same codes transposed. -/
theorem out4_7_at (i : Fin 4096) (j : Fin 256) : out4_7 x0 x1 x2 x3 x4 x5 (ix2 i j) = codeV (x0 (ix2 j i) * x3 (ix2 j 0) * x2 (ix2 0 i)) (scaleV (fmax fun s : Fin 8 => x4 (ix2 s i))) := by
  unfold_out out4_7
  canon_tiles x h
  all_goals
    idx_vars x
    unfold_payloads
    pointwise
    obtain rfl := Fin.ext h0
    obtain rfl := Fin.ext h1
    rfl

/-- The codes of the output gradient. -/
theorem out4_8_at (i : Fin 256) (j : Fin 4096) : out4_8 x0 x1 x2 x3 x4 x5 (ix2 i j) = codeV (x1 (ix2 i j)) (scaleV (fmax fun s : Fin 8 => x5 (ix2 s j))) := by
  unfold_out out4_8
  canon_tiles x h
  all_goals
    idx_vars x
    unfold_payloads
    pointwise
    obtain rfl := Fin.ext h0
    obtain rfl := Fin.ext h1
    rfl

/-- The scales of the normalised tokens. -/
theorem out4_9_at (j : Fin 4096) : out4_9 x0 x1 x2 x3 x4 x5 (ix2 0 j) = (scaleV (fmax fun s : Fin 8 => x4 (ix2 s j))) := by
  unfold_out out4_9
  canon_tiles x h
  all_goals
    idx_vars x
    unfold_payloads
    pointwise
    obtain rfl := Fin.ext h1
    rfl

/-- The scales of the output gradient. -/
theorem out4_10_at (j : Fin 4096) : out4_10 x0 x1 x2 x3 x4 x5 (ix2 0 j) = (scaleV (fmax fun s : Fin 8 => x5 (ix2 s j))) := by
  unfold_out out4_10
  canon_tiles x h
  all_goals
    idx_vars x
    unfold_payloads
    pointwise
    obtain rfl := Fin.ext h1
    rfl

end Block

variable (V : (c : Dev nD) → (b : Ref sig .tc) → Buf (Elt Ideal) ((c : Thread nD τ).loc b))

theorem idx4 : ∀ t : Fin grid4.N, win4_0.index t = ![t.val, 0] ∧ win4_1.index t = ![t.val, 0] ∧ win4_2.index t = ![0, 0] ∧ win4_3.index t = ![t.val, 0] ∧
    win4_4.index t = ![0, 0] ∧ win4_5.index t = ![0, 0] ∧ win4_6.index t = ![t.val, 0] ∧ win4_7.index t = ![0, t.val] ∧ win4_8.index t = ![t.val, 0] ∧
    win4_9.index t = ![0, 0] ∧ win4_10.index t = ![0, 0] := by
  decide +kernel

theorem blk4_0_at (c : Dev nD) (t : Fin cfg4.N) (i : Fin 256) (j : Fin 4096) (r : Fin 6144) (hr : r.val = t.val * 256 + i.val) :
    iblk4 V c 0 t (ix2 i j) = V c main_v0 (ix2 r j) := by
  blk_ext [iblk4, idx4 t]

theorem blk4_1_at (c : Dev nD) (t : Fin cfg4.N) (i : Fin 256) (j : Fin 4096) (r : Fin 6144) (hr : r.val = t.val * 256 + i.val) :
    iblk4 V c 1 t (ix2 i j) = V c main_v1 (ix2 r j) := by
  blk_ext [iblk4, idx4 t]

theorem blk4_2_at (c : Dev nD) (t : Fin cfg4.N) (i : Fin 1) (j : Fin 4096) :
    iblk4 V c 2 t (ix2 i j) = V c main_v2 (ix2 i j) := by
  blk_ext [iblk4, idx4 t]

theorem blk4_3_at (c : Dev nD) (t : Fin cfg4.N) (i : Fin 256) (j : Fin 128) (r : Fin 6144) (hr : r.val = t.val * 256 + i.val) :
    iblk4 V c 3 t (ix2 i j) = V c main_v54_1 (ix2 r j) := by
  blk_ext [iblk4, idx4 t]

theorem blk4_4_at (c : Dev nD) (t : Fin cfg4.N) (i : Fin 8) (j : Fin 4096) :
    iblk4 V c 4 t (ix2 i j) = V c main_v54_2 (ix2 i j) := by
  blk_ext [iblk4, idx4 t]

theorem blk4_5_at (c : Dev nD) (t : Fin cfg4.N) (i : Fin 8) (j : Fin 4096) :
    iblk4 V c 5 t (ix2 i j) = V c main_v54_3 (ix2 i j) := by
  blk_ext [iblk4, idx4 t]

/-- The codes of the normalised tokens, from the tokens, the reciprocal norms, the weight and the maxima by lane. -/
def acM {n : ℕ} (X : Mat n 4096) (R : Mat n 128) (w : Mat 1 4096) (M : Mat 8 4096) : Mat n 4096 := fun r d =>
  codeV (X r d * R r 0 * w 0 d) (scaleV (fmax fun s => M s d))

theorem ac_blk (c : Dev nD) (t : Fin cfg4.N) (i : Fin 256) (j q : Fin 4096) (r : Fin 6144) (hr : r.val = t.val * 256 + i.val) (hq : q.val = j.val) :
    acM (mat (iblk4 V c 0 t)) (mat (iblk4 V c 3 t)) (mat (iblk4 V c 2 t)) (mat (iblk4 V c 4 t)) i j =
      acM (mat (V c main_v0)) (mat (V c main_v54_1)) (mat (V c main_v2)) (mat (V c main_v54_2)) r q := by
  obtain rfl := Fin.ext hq
  unfold acM mat
  simp only [blk4_0_at V c t i _ r hr, blk4_3_at V c t i _ r hr, blk4_2_at V c t, blk4_4_at V c t]

theorem dyc_blk (c : Dev nD) (t : Fin cfg4.N) (i : Fin 256) (j q : Fin 4096) (r : Fin 6144) (hr : r.val = t.val * 256 + i.val) (hq : q.val = j.val) :
    codeV (iblk4 V c 1 t (ix2 i j)) (scaleV (fmax fun s : Fin 8 => iblk4 V c 5 t (ix2 s j))) =
      codeV (mat (V c main_v1) r q) (scaleV (fmax fun s : Fin 8 => mat (V c main_v54_3) s q)) := by
  obtain rfl := Fin.ext hq
  unfold mat
  simp only [blk4_1_at V c t i _ r hr, blk4_5_at V c t]

theorem as_blk (c : Dev nD) (t : Fin cfg4.N) (j q : Fin 4096) (hq : q.val = j.val) :
    scaleV (fmax fun s : Fin 8 => iblk4 V c 4 t (ix2 s j)) = scaleV (fmax fun s : Fin 8 => mat (V c main_v54_2) s q) := by
  obtain rfl := Fin.ext hq
  unfold mat
  simp only [blk4_4_at V c t]

theorem dys_blk (c : Dev nD) (t : Fin cfg4.N) (j q : Fin 4096) (hq : q.val = j.val) :
    scaleV (fmax fun s : Fin 8 => iblk4 V c 5 t (ix2 s j)) = scaleV (fmax fun s : Fin 8 => mat (V c main_v54_3) s q) := by
  obtain rfl := Fin.ext hq
  unfold mat
  simp only [blk4_5_at V c t]

/-- An index of a one-row block has first coordinate 0. -/
theorem row0 (y : S1x4096.Idx) : y = ix2 0 (y 1) :=
  (eq_ix2 y).trans (congrArg (fun a => ix2 a (y 1)) (Subsingleton.elim (α := Fin 1) (y 0) 0))

theorem final4_6 (c : Dev nD) : (dat4 V c).arrAt 6 cfg4.N = arr2 (acM (mat (V c main_v0)) (mat (V c main_v54_1)) (mat (V c main_v2)) (mat (V c main_v54_2))) := by
  refine (dat4 V c).arrAt_eq_of_covers 6 _ (by decide +kernel) fun t hf y => ?_
  blk_simp
  rw [after4_6]
  refine (congrArg _ (eq_ix2 (show S256x4096.Idx from y))).trans ((out4_6_at _ _ _ _ _ _ _ _).trans ?_)
  refine ac_blk V c t _ _ _ _ ?_ ?_ <;> blk_simp [idx4 t]

theorem final4_7 (c : Dev nD) : (dat4 V c).arrAt 7 cfg4.N = arr2 (fun d r => (acM (mat (V c main_v0)) (mat (V c main_v54_1)) (mat (V c main_v2)) (mat (V c main_v54_2))) r d) := by
  refine (dat4 V c).arrAt_eq_of_covers 7 _ (by decide +kernel) fun t hf y => ?_
  blk_simp
  rw [after4_7]
  refine (congrArg _ (eq_ix2 (show S4096x256.Idx from y))).trans ((out4_7_at _ _ _ _ _ _ _ _).trans ?_)
  refine ac_blk V c t _ _ _ _ ?_ ?_ <;> blk_simp [idx4 t]

theorem final4_8 (c : Dev nD) : (dat4 V c).arrAt 8 cfg4.N = arr2 (fun r d => codeV (mat (V c main_v1) r d) (scaleV (fmax fun s : Fin 8 => mat (V c main_v54_3) s d))) := by
  refine (dat4 V c).arrAt_eq_of_covers 8 _ (by decide +kernel) fun t hf y => ?_
  blk_simp
  rw [after4_8]
  refine (congrArg _ (eq_ix2 (show S256x4096.Idx from y))).trans ((out4_8_at _ _ _ _ _ _ _ _).trans ?_)
  refine dyc_blk V c t _ _ _ _ ?_ ?_ <;> blk_simp [idx4 t]

theorem final4_9 (c : Dev nD) : (dat4 V c).arrAt 9 cfg4.N = arr2 (fun _ d => scaleV (fmax fun s : Fin 8 => mat (V c main_v54_2) s d)) := by
  refine (dat4 V c).arrAt_eq_of_covers 9 _ (by decide +kernel) fun t hf y => ?_
  blk_simp
  rw [after4_9]
  refine (congrArg _ (row0 y)).trans ((out4_9_at _ _ _ _ _ _ _).trans ?_)
  refine as_blk V c t _ _ ?_ <;> blk_simp [idx4 t]

theorem final4_10 (c : Dev nD) : (dat4 V c).arrAt 10 cfg4.N = arr2 (fun _ d => scaleV (fmax fun s : Fin 8 => mat (V c main_v54_3) s d)) := by
  refine (dat4 V c).arrAt_eq_of_covers 10 _ (by decide +kernel) fun t hf y => ?_
  blk_simp
  rw [after4_10]
  refine (congrArg _ (row0 y)).trans ((out4_10_at _ _ _ _ _ _ _).trans ?_)
  refine dys_blk V c t _ _ ?_ <;> blk_simp [idx4 t]

end Cert.MlpIdeal.Region
-- ==== Proof.Reg5.lean ====
module

public import proofs.«01_k».proof.Proof.Spec
public import proofs.«01_k».proof.Proof.Gen.MlpIdeal.Frame.Region5
public import Idealize.ShloMosaic.Lib.Pipeline.ValueKit
public import Idealize.ShloMosaic.Lib.Pointwise

/-! # What one block of the SwiGLU pass computes

The body works on a block of 1024 tokens by 256 hidden columns in two halves of 512 tokens. Each half stores its rows of
`h`, `dg`, `du`; the maxima of the two halves are joined. Here every stored block is read at an index. -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

section Block
variable (x0 x1 : Vec Ideal S1024x4096 .bf16) (x2 x3 : Vec Ideal S4096x256 .bf16) (x4 : Vec Ideal S256x4096 .bf16)

/-- `h` of the block at row `i`, column `j`. -/
def bh (i : Fin 1024) (j : Fin 256) : EReal := hS (∑ k : Fin 4096, x0 (ix2 i k) * x2 (ix2 k j)) (∑ k : Fin 4096, x0 (ix2 i k) * x3 (ix2 k j))

/-- `dg` of the block at row `i`, column `j`. -/
def bdg (i : Fin 1024) (j : Fin 256) : EReal :=
  dgS (∑ k : Fin 4096, x0 (ix2 i k) * x2 (ix2 k j)) (∑ k : Fin 4096, x0 (ix2 i k) * x3 (ix2 k j)) (∑ k : Fin 4096, x1 (ix2 i k) * x4 (ix2 j k))

/-- `du` of the block at row `i`, column `j`. -/
def bdu (i : Fin 1024) (j : Fin 256) : EReal :=
  duS (∑ k : Fin 4096, x0 (ix2 i k) * x2 (ix2 k j)) (∑ k : Fin 4096, x1 (ix2 i k) * x4 (ix2 j k))

/-- The stored block of `h`, rounded to bf16 (the identity over the extended reals). -/
theorem out5_5_at (i : Fin 1024) (j : Fin 256) : out5_5 x0 x1 x2 x3 x4 (ix2 i j) = bh x0 x2 x3 i j := by
  unfold_out out5_5
  canon_tiles x h
  all_goals
    idx_vars x
    unfold_payloads
    pointwise
    obtain ⟨i, hi⟩ := i
    replace h0 : i = _ := h0
    subst h0
    obtain rfl := Fin.ext h1
    rfl

/-- The stored block of `h`. -/
theorem out5_6_at (i : Fin 1024) (j : Fin 256) : out5_6 x0 x1 x2 x3 x4 (ix2 i j) = bh x0 x2 x3 i j := by
  unfold_out out5_6
  canon_tiles x h
  all_goals
    idx_vars x
    unfold_payloads
    pointwise
    obtain ⟨i, hi⟩ := i
    replace h0 : i = _ := h0
    subst h0
    obtain rfl := Fin.ext h1
    rfl

/-- The stored block of `dg`. -/
theorem out5_7_at (i : Fin 1024) (j : Fin 256) : out5_7 x0 x1 x2 x3 x4 (ix2 i j) = bdg x0 x1 x2 x3 x4 i j := by
  unfold_out out5_7
  canon_tiles x h
  all_goals
    idx_vars x
    unfold_payloads
    pointwise
    obtain ⟨i, hi⟩ := i
    replace h0 : i = _ := h0
    subst h0
    obtain rfl := Fin.ext h1
    rfl

/-- The stored block of `du`. -/
theorem out5_8_at (i : Fin 1024) (j : Fin 256) : out5_8 x0 x1 x2 x3 x4 (ix2 i j) = bdu x0 x1 x2 x4 i j := by
  unfold_out out5_8
  canon_tiles x h
  all_goals
    idx_vars x
    unfold_payloads
    pointwise
    obtain ⟨i, hi⟩ := i
    replace h0 : i = _ := h0
    subst h0
    obtain rfl := Fin.ext h1
    rfl

/-- The stored block of the maxima of `|h|`: lane `i` takes the rows `8 p + i`. -/
theorem out5_9_at (i : Fin 8) (j : Fin 256) : out5_9 x0 x1 x2 x3 x4 (ix3 0 i j) =
    fmax fun p : Fin 128 => absE (bh x0 x2 x3 ⟨p.val * 8 + i.val, by omega⟩ j) := by
  unfold_out out5_9
  canon_tiles x h
  idx_vars x
  unfold_payloads
  pointwise
  obtain rfl := Fin.ext h1
  obtain rfl := Fin.ext h2
  refine max_fold_join _ _ _ _ (fun x => rfl) fun x => ?_
  have e : (⟨512 + (x.val * 8 + i.val), by omega⟩ : Fin 1024) = ⟨(64 + x.val) * 8 + i.val, by omega⟩ := Fin.ext (by simp; omega)
  rw [← e]
  rfl

/-- The stored block of the maxima of `|dg|`: lane `i` takes the rows `8 p + i`. -/
theorem out5_10_at (i : Fin 8) (j : Fin 256) : out5_10 x0 x1 x2 x3 x4 (ix3 0 i j) =
    fmax fun p : Fin 128 => absE (bdg x0 x1 x2 x3 x4 ⟨p.val * 8 + i.val, by omega⟩ j) := by
  unfold_out out5_10
  canon_tiles x h
  idx_vars x
  unfold_payloads
  pointwise
  obtain rfl := Fin.ext h1
  obtain rfl := Fin.ext h2
  refine max_fold_join _ _ _ _ (fun x => rfl) fun x => ?_
  have e : (⟨512 + (x.val * 8 + i.val), by omega⟩ : Fin 1024) = ⟨(64 + x.val) * 8 + i.val, by omega⟩ := Fin.ext (by simp; omega)
  rw [← e]
  rfl

/-- The stored block of the maxima of `|du|`: lane `i` takes the rows `8 p + i`. -/
theorem out5_11_at (i : Fin 8) (j : Fin 256) : out5_11 x0 x1 x2 x3 x4 (ix3 0 i j) =
    fmax fun p : Fin 128 => absE (bdu x0 x1 x2 x4 ⟨p.val * 8 + i.val, by omega⟩ j) := by
  unfold_out out5_11
  canon_tiles x h
  idx_vars x
  unfold_payloads
  pointwise
  obtain rfl := Fin.ext h1
  obtain rfl := Fin.ext h2
  refine max_fold_join _ _ _ _ (fun x => rfl) fun x => ?_
  have e : (⟨512 + (x.val * 8 + i.val), by omega⟩ : Fin 1024) = ⟨(64 + x.val) * 8 + i.val, by omega⟩ := Fin.ext (by simp; omega)
  rw [← e]
  rfl

end Block

/-- Two families with the same entries have the same maxima. -/
theorem lanemax6_congr (f : Fin 128 → EReal) (X : Mat 6144 11008) (b : Fin 6) (s : Fin 8) (c : Fin 11008)
    (h : ∀ p : Fin 128, f p = X ⟨b.val * 1024 + p.val * 8 + s.val, by omega⟩ c) :
    (fmax fun p : Fin 128 => absE (f p)) = lanemax6 X b s c := by
  obtain rfl := funext h
  rfl

/-- An index of a block of maxima has first coordinate 0. -/
theorem lane0 (y : S1x8x256.Idx) : y = ix3 0 (y 1) (y 2) :=
  (eq_ix3 y).trans (congrArg (fun a => ix3 a (y 1) (y 2)) (Subsingleton.elim (α := Fin 1) (y 0) 0))

variable (V : (c : Dev nD) → (b : Ref sig .tc) → Buf (Elt Ideal) ((c : Thread nD τ).loc b))

/-- The window maps: grid point `t` is token block `t / 43` and column block `t % 43`. -/
theorem idx5 : ∀ t : Fin grid5.N,
    win5_0.index t = ![t.val / 43, 0] ∧ win5_1.index t = ![t.val / 43, 0] ∧ win5_2.index t = ![0, t.val % 43] ∧
    win5_3.index t = ![0, t.val % 43] ∧ win5_4.index t = ![t.val % 43, 0] ∧ win5_5.index t = ![t.val / 43, t.val % 43] ∧
    win5_6.index t = ![t.val / 43, t.val % 43] ∧ win5_7.index t = ![t.val / 43, t.val % 43] ∧ win5_8.index t = ![t.val / 43, t.val % 43] ∧
    win5_9.index t = ![t.val / 43, 0, t.val % 43] ∧ win5_10.index t = ![t.val / 43, 0, t.val % 43] ∧
    win5_11.index t = ![t.val / 43, 0, t.val % 43] := by
  decide +kernel

/-! ## The input blocks, read off the arguments -/

theorem blk5_0_at (c : Dev nD) (t : Fin cfg5.N) (i : Fin 1024) (k : Fin 4096) (r : Fin 6144) (hr : r.val = t.val / 43 * 1024 + i.val) :
    iblk5 V c 0 t (ix2 i k) = V c main_v54_0 (ix2 r k) := by
  blk_ext [iblk5, idx5 t]

theorem blk5_1_at (c : Dev nD) (t : Fin cfg5.N) (i : Fin 1024) (k : Fin 4096) (r : Fin 6144) (hr : r.val = t.val / 43 * 1024 + i.val) :
    iblk5 V c 1 t (ix2 i k) = V c main_v1 (ix2 r k) := by
  blk_ext [iblk5, idx5 t]

theorem blk5_2_at (c : Dev nD) (t : Fin cfg5.N) (k : Fin 4096) (j : Fin 256) (q : Fin 11008) (hq : q.val = t.val % 43 * 256 + j.val) :
    iblk5 V c 2 t (ix2 k j) = V c main_v49 (ix2 k q) := by
  blk_ext [iblk5, idx5 t]

theorem blk5_3_at (c : Dev nD) (t : Fin cfg5.N) (k : Fin 4096) (j : Fin 256) (q : Fin 11008) (hq : q.val = t.val % 43 * 256 + j.val) :
    iblk5 V c 3 t (ix2 k j) = V c main_v51 (ix2 k q) := by
  blk_ext [iblk5, idx5 t]

theorem blk5_4_at (c : Dev nD) (t : Fin cfg5.N) (j : Fin 256) (k : Fin 4096) (q : Fin 11008) (hq : q.val = t.val % 43 * 256 + j.val) :
    iblk5 V c 4 t (ix2 j k) = V c main_v53 (ix2 q k) := by
  blk_ext [iblk5, idx5 t]

theorem bh_blk (c : Dev nD) (t : Fin cfg5.N) (i : Fin 1024) (j : Fin 256) (r : Fin 6144) (q : Fin 11008)
    (hr : r.val = t.val / 43 * 1024 + i.val) (hq : q.val = t.val % 43 * 256 + j.val) :
    bh (iblk5 V c 0 t) (iblk5 V c 2 t) (iblk5 V c 3 t) i j = Hm (mat (V c main_v54_0)) (mat (V c main_v49)) (mat (V c main_v51)) r q := by
  unfold bh Hm mulN mat
  simp only [blk5_0_at V c t i _ r hr, blk5_2_at V c t _ j q hq, blk5_3_at V c t _ j q hq]

theorem bdg_blk (c : Dev nD) (t : Fin cfg5.N) (i : Fin 1024) (j : Fin 256) (r : Fin 6144) (q : Fin 11008)
    (hr : r.val = t.val / 43 * 1024 + i.val) (hq : q.val = t.val % 43 * 256 + j.val) :
    bdg (iblk5 V c 0 t) (iblk5 V c 1 t) (iblk5 V c 2 t) (iblk5 V c 3 t) (iblk5 V c 4 t) i j = DGm (mat (V c main_v54_0)) (mat (V c main_v1)) (mat (V c main_v49)) (mat (V c main_v51)) (mat (V c main_v53)) r q := by
  unfold bdg DGm mulN mulT mat
  simp only [blk5_0_at V c t i _ r hr, blk5_1_at V c t i _ r hr, blk5_2_at V c t _ j q hq, blk5_3_at V c t _ j q hq, blk5_4_at V c t j _ q hq]

theorem bdu_blk (c : Dev nD) (t : Fin cfg5.N) (i : Fin 1024) (j : Fin 256) (r : Fin 6144) (q : Fin 11008)
    (hr : r.val = t.val / 43 * 1024 + i.val) (hq : q.val = t.val % 43 * 256 + j.val) :
    bdu (iblk5 V c 0 t) (iblk5 V c 1 t) (iblk5 V c 2 t) (iblk5 V c 4 t) i j = DUm (mat (V c main_v54_0)) (mat (V c main_v1)) (mat (V c main_v49)) (mat (V c main_v53)) r q := by
  unfold bdu DUm mulN mulT mat
  simp only [blk5_0_at V c t i _ r hr, blk5_1_at V c t i _ r hr, blk5_2_at V c t _ j q hq, blk5_4_at V c t j _ q hq]

/-! ## The arrays after the run -/

theorem final5_5 (c : Dev nD) : (dat5 V c).arrAt 5 cfg5.N = arr2 (Hm (mat (V c main_v54_0)) (mat (V c main_v49)) (mat (V c main_v51))) := by
  refine (dat5 V c).arrAt_eq_of_covers 5 _ (by decide +kernel) fun t hf y => ?_
  blk_simp
  rw [after5_5]
  refine (congrArg _ (eq_ix2 (show S1024x256.Idx from y))).trans ((out5_5_at _ _ _ _ _ _ _).trans ?_)
  refine bh_blk V c t _ _ _ _ ?_ ?_
  · blk_simp [idx5 t]
  · blk_simp [idx5 t]

theorem final5_6 (c : Dev nD) : (dat5 V c).arrAt 6 cfg5.N = arr2 (Hm (mat (V c main_v54_0)) (mat (V c main_v49)) (mat (V c main_v51))) := by
  refine (dat5 V c).arrAt_eq_of_covers 6 _ (by decide +kernel) fun t hf y => ?_
  blk_simp
  rw [after5_6]
  refine (congrArg _ (eq_ix2 (show S1024x256.Idx from y))).trans ((out5_6_at _ _ _ _ _ _ _).trans ?_)
  refine bh_blk V c t _ _ _ _ ?_ ?_
  · blk_simp [idx5 t]
  · blk_simp [idx5 t]

theorem final5_7 (c : Dev nD) : (dat5 V c).arrAt 7 cfg5.N = arr2 (DGm (mat (V c main_v54_0)) (mat (V c main_v1)) (mat (V c main_v49)) (mat (V c main_v51)) (mat (V c main_v53))) := by
  refine (dat5 V c).arrAt_eq_of_covers 7 _ (by decide +kernel) fun t hf y => ?_
  blk_simp
  rw [after5_7]
  refine (congrArg _ (eq_ix2 (show S1024x256.Idx from y))).trans ((out5_7_at _ _ _ _ _ _ _).trans ?_)
  refine bdg_blk V c t _ _ _ _ ?_ ?_
  · blk_simp [idx5 t]
  · blk_simp [idx5 t]

theorem final5_8 (c : Dev nD) : (dat5 V c).arrAt 8 cfg5.N = arr2 (DUm (mat (V c main_v54_0)) (mat (V c main_v1)) (mat (V c main_v49)) (mat (V c main_v53))) := by
  refine (dat5 V c).arrAt_eq_of_covers 8 _ (by decide +kernel) fun t hf y => ?_
  blk_simp
  rw [after5_8]
  refine (congrArg _ (eq_ix2 (show S1024x256.Idx from y))).trans ((out5_8_at _ _ _ _ _ _ _).trans ?_)
  refine bdu_blk V c t _ _ _ _ ?_ ?_
  · blk_simp [idx5 t]
  · blk_simp [idx5 t]

theorem final5_9 (c : Dev nD) : (dat5 V c).arrAt 9 cfg5.N = arr3 (lanemax6 (Hm (mat (V c main_v54_0)) (mat (V c main_v49)) (mat (V c main_v51)))) := by
  refine (dat5 V c).arrAt_eq_of_covers 9 _ (by decide +kernel) fun t hf y => ?_
  blk_simp
  rw [after5_9]
  refine (congrArg _ (lane0 y)).trans ((out5_9_at _ _ _ _ _ _ _).trans ?_)
  refine lanemax6_congr _ _ _ _ _ fun p => ?_
  refine bh_blk V c t _ _ _ _ ?_ ?_
  · blk_simp [idx5 t]
    exact Nat.add_assoc _ _ _
  · blk_simp [idx5 t]

theorem final5_10 (c : Dev nD) : (dat5 V c).arrAt 10 cfg5.N = arr3 (lanemax6 (DGm (mat (V c main_v54_0)) (mat (V c main_v1)) (mat (V c main_v49)) (mat (V c main_v51)) (mat (V c main_v53)))) := by
  refine (dat5 V c).arrAt_eq_of_covers 10 _ (by decide +kernel) fun t hf y => ?_
  blk_simp
  rw [after5_10]
  refine (congrArg _ (lane0 y)).trans ((out5_10_at _ _ _ _ _ _ _).trans ?_)
  refine lanemax6_congr _ _ _ _ _ fun p => ?_
  refine bdg_blk V c t _ _ _ _ ?_ ?_
  · blk_simp [idx5 t]
    exact Nat.add_assoc _ _ _
  · blk_simp [idx5 t]

theorem final5_11 (c : Dev nD) : (dat5 V c).arrAt 11 cfg5.N = arr3 (lanemax6 (DUm (mat (V c main_v54_0)) (mat (V c main_v1)) (mat (V c main_v49)) (mat (V c main_v53)))) := by
  refine (dat5 V c).arrAt_eq_of_covers 11 _ (by decide +kernel) fun t hf y => ?_
  blk_simp
  rw [after5_11]
  refine (congrArg _ (lane0 y)).trans ((out5_11_at _ _ _ _ _ _ _).trans ?_)
  refine lanemax6_congr _ _ _ _ _ fun p => ?_
  refine bdu_blk V c t _ _ _ _ ?_ ?_
  · blk_simp [idx5 t]
    exact Nat.add_assoc _ _ _
  · blk_simp [idx5 t]

end Cert.MlpIdeal.Region
-- ==== Proof.Reg6.lean ====
module

public import proofs.«01_k».proof.Proof.Spec
public import proofs.«01_k».proof.Proof.Gen.MlpIdeal.Frame.Region6
public import Idealize.ShloMosaic.Lib.Pipeline.ReadBack
public import Idealize.ShloMosaic.Lib.Pipeline.ValueKit
public import Idealize.ShloMosaic.Lib.Pointwise

/-! # The down projection with the residual -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

/-- The stored block: the tokens plus the product. -/
theorem out6_at (x0 : Vec Ideal S768x11008 .bf16) (x1 : Vec Ideal S11008x512 .bf16) (x2 : Vec Ideal S768x512 .bf16) (i : Fin 768) (j : Fin 512) :
    out6_3 x0 x1 x2 (ix2 i j) = x2 (ix2 i j) + ∑ x : Fin 11008, x0 (ix2 i x) * x1 (ix2 x j) := by
  unfold out6_3
  canon_tiles x h
  all_goals
    idx_vars x
    unfold_payloads
    pointwise
    obtain rfl := Fin.ext h0
    obtain rfl := Fin.ext h1
    rfl

variable (V : (c : Dev nD) → (b : Ref sig .tc) → Buf (Elt Ideal) ((c : Thread nD τ).loc b))

theorem idx6 : ∀ t : Fin grid6.N, win6_0.index t = ![t.val / 8, 0] ∧ win6_1.index t = ![0, t.val % 8] ∧ win6_2.index t = ![t.val / 8, t.val % 8] ∧
    win6_3.index t = ![t.val / 8, t.val % 8] := by
  decide +kernel

theorem blk6_0_at (c : Dev nD) (t : Fin cfg6.N) (i : Fin 768) (j : Fin 11008) (r : Fin 6144) (hr : r.val = t.val / 8 * 768 + i.val) :
    iblk6 V c 0 t (ix2 i j) = V c main_v56_0 (ix2 r j) := by
  blk_ext [iblk6, idx6 t]

theorem blk6_1_at (c : Dev nD) (t : Fin cfg6.N) (i : Fin 11008) (j : Fin 512) (q : Fin 4096) (hq : q.val = t.val % 8 * 512 + j.val) :
    iblk6 V c 1 t (ix2 i j) = V c main_v53 (ix2 i q) := by
  blk_ext [iblk6, idx6 t]

theorem blk6_2_at (c : Dev nD) (t : Fin cfg6.N) (i : Fin 768) (j : Fin 512) (r : Fin 6144) (hr : r.val = t.val / 8 * 768 + i.val) (q : Fin 4096) (hq : q.val = t.val % 8 * 512 + j.val) :
    iblk6 V c 2 t (ix2 i j) = V c main_v0 (ix2 r q) := by
  blk_ext [iblk6, idx6 t]

theorem y_blk (c : Dev nD) (t : Fin cfg6.N) (i : Fin 768) (j : Fin 512) (r : Fin 6144) (q : Fin 4096)
    (hr : r.val = t.val / 8 * 768 + i.val) (hq : q.val = t.val % 8 * 512 + j.val) :
    resM (mat (iblk6 V c 2 t)) (mat (iblk6 V c 0 t)) (mat (iblk6 V c 1 t)) i j = resM (mat (V c main_v0)) (mat (V c main_v56_0)) (mat (V c main_v53)) r q := by
  unfold resM mulN mat
  simp only [blk6_0_at V c t i _ r hr, blk6_1_at V c t _ j q hq, blk6_2_at V c t i j r hr q hq]

theorem final6_3 (c : Dev nD) : (dat6 V c).arrAt 3 cfg6.N = arr2 (resM (mat (V c main_v0)) (mat (V c main_v56_0)) (mat (V c main_v53))) := by
  refine (dat6 V c).arrAt_eq_of_covers 3 _ (by decide +kernel) fun t hf y => ?_
  blk_simp
  rw [after6_3]
  refine (congrArg _ (eq_ix2 (show S768x512.Idx from y))).trans ((out6_at _ _ _ _ _).trans ?_)
  refine y_blk V c t _ _ _ _ ?_ ?_ <;> blk_simp [idx6 t]

end Cert.MlpIdeal.Region
-- ==== Proof.Reg7.lean ====
module

public import proofs.«01_k».proof.Proof.Spec
public import proofs.«01_k».proof.Proof.Gen.MlpIdeal.Frame.Region7
public import Idealize.ShloMosaic.Lib.Pipeline.ReadBack
public import Idealize.ShloMosaic.Lib.Pipeline.ValueKit
public import Idealize.ShloMosaic.Lib.Pointwise

/-! # The gradient of the tokens -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

/-- The two products of a block of the hidden dimension, added. -/
def twoT {n k m : ℕ} (A : Mat n k) (B : Mat m k) (A' : Mat n k) (B' : Mat m k) : Mat n m := fun i j => ∑ x, A i x * B j x + ∑ x, A' i x * B' j x

variable (V : (c : Dev nD) → (b : Ref sig .tc) → Buf (Elt Ideal) ((c : Thread nD τ).loc b))

theorem o7_A (c : Dev nD) (t : Fin cfg7.N) (h0 : t.val % 47 = 0) (h1 : t.val % 47 ≤ 42) (h2 : ¬43 ≤ t.val % 47) (i : Fin 1024) (j : Fin 4096) : (outsAt7 V c t.val t.isLt).2.2 (ix2 i j) = twoT (mat (iblk7 V c 0 t)) (mat (iblk7 V c 2 t)) (mat (iblk7 V c 1 t)) (mat (iblk7 V c 3 t)) i j := by
  rw [outsAt7_A V c t h0 h1 h2]
  frame_out
  unfold_payloads
  pointwise
  rfl

theorem o7_B (c : Dev nD) (t : Fin cfg7.N) (h0 : ¬t.val % 47 = 0) (h1 : t.val % 47 ≤ 42) (h2 : ¬43 ≤ t.val % 47) (i : Fin 1024) (j : Fin 4096) : (outsAt7 V c t.val t.isLt).2.2 (ix2 i j) = (outsAt7 V c (t.val - 1) (Nat.lt_of_le_of_lt (Nat.sub_le _ _) t.isLt)).2.2 (ix2 i j) + twoT (mat (iblk7 V c 0 t)) (mat (iblk7 V c 2 t)) (mat (iblk7 V c 1 t)) (mat (iblk7 V c 3 t)) i j := by
  rw [outsAt7_B V c t h0 h1 h2]
  frame_out
  unfold_payloads
  pointwise
  rfl

theorem o7_C (c : Dev nD) (t : Fin cfg7.N) (h0 : ¬t.val % 47 = 0) (h1 : ¬t.val % 47 ≤ 42) (h2 : 43 ≤ t.val % 47) (i : Fin 1024) (j : Fin 4096) : (outsAt7 V c t.val t.isLt).2.2 (ix2 i j) = (outsAt7 V c (t.val - 1) (Nat.lt_of_le_of_lt (Nat.sub_le _ _) t.isLt)).2.2 (ix2 i j) := by
  rw [outsAt7_C V c t h0 h1 h2]
  frame_out
  unfold_payloads
  pointwise

/-- The rows of the accumulator that a point finishes. -/
theorem off7 : ∀ t : Fin grid7.N, 43 ≤ t.val % 47 → k7_off1 (grid7.coords t) 0 = (t.val % 47 - 43) * 256 ∧ k7_off1 (grid7.coords t) 1 = 0 := by
  decide +kernel

theorem off7_0 (t : Fin cfg7.N) (h2 : 43 ≤ t.val % 47) (i : Fin 256) : k7_off1 (grid7.coords t) 0 + i.val < 1024 := by
  have := (off7 t h2).1
  omega

theorem off7_1 (t : Fin cfg7.N) (h2 : 43 ≤ t.val % 47) (i : Fin 4096) : k7_off1 (grid7.coords t) 1 + i.val < 4096 := by
  have := (off7 t h2).2
  omega

/-- Those rows. -/
def accRows (c : Dev nD) (t : Fin cfg7.N) (h2 : 43 ≤ t.val % 47) : Mat 256 4096 := fun i j =>
  (outsAt7 V c (t.val - 1) (Nat.lt_of_le_of_lt (Nat.sub_le _ _) t.isLt)).2.2 (ix2 ⟨k7_off1 (grid7.coords t) 0 + i.val, off7_0 t h2 i⟩ ⟨k7_off1 (grid7.coords t) 1 + j.val, off7_1 t h2 j⟩)

theorem o7_dx (c : Dev nD) (t : Fin cfg7.N) (h0 : ¬t.val % 47 = 0) (h1 : ¬t.val % 47 ≤ 42) (h2 : 43 ≤ t.val % 47) (i : Fin 256) (j : Fin 4096) : (outsAt7 V c t.val t.isLt).1 (ix2 i j) = dxM (accRows V c t h2) (mat (iblk7 V c 5 t)) (mat (iblk7 V c 6 t)) (fun i => iblk7 V c 7 t (ix2 i 0)) (fun d => iblk7 V c 4 t (ix2 0 d)) i j := by
  rw [outsAt7_C V c t h0 h1 h2]
  frame_out
  unfold_payloads
  pointwise
  rfl

theorem o7_c (c : Dev nD) (t : Fin cfg7.N) (h0 : ¬t.val % 47 = 0) (h1 : ¬t.val % 47 ≤ 42) (h2 : 43 ≤ t.val % 47) (i : Fin 256) (j : Fin 128) : (outsAt7 V c t.val t.isLt).2.1 (ix2 i j) = cM (accRows V c t h2) (mat (iblk7 V c 5 t)) (fun i => iblk7 V c 7 t (ix2 i 0)) (fun d => iblk7 V c 4 t (ix2 0 d)) i := by
  rw [outsAt7_C V c t h0 h1 h2]
  frame_out
  unfold_payloads
  pointwise
  rfl

theorem idx7 : ∀ t : Fin grid7.N, win7_0.index t = ![t.val / 47, min (t.val % 47) 42] ∧ win7_1.index t = ![t.val / 47, min (t.val % 47) 42] ∧
    win7_2.index t = ![0, min (t.val % 47) 42] ∧ win7_3.index t = ![0, min (t.val % 47) 42] ∧ win7_4.index t = ![0, 0] ∧ win7_5.index t = ![t.val / 47 * 4 + (t.val % 47 - 43), 0] ∧
    win7_6.index t = ![t.val / 47 * 4 + (t.val % 47 - 43), 0] ∧ win7_7.index t = ![t.val / 47 * 4 + (t.val % 47 - 43), 0] ∧ win7_8.index t = ![t.val / 47 * 4 + (t.val % 47 - 43), 0] ∧ win7_9.index t = ![t.val / 47 * 4 + (t.val % 47 - 43), 0] := by
  decide +kernel

theorem blk7_0_at (c : Dev nD) (t : Fin cfg7.N) (i : Fin 1024) (j : Fin 256) (r : Fin 6144) (hr : r.val = t.val / 47 * 1024 + i.val) (q : Fin 11008) (hq : q.val = min (t.val % 47) 42 * 256 + j.val) :
    iblk7 V c 0 t (ix2 i j) = V c main_v56_2 (ix2 r q) := by
  blk_ext [iblk7, idx7 t]

theorem blk7_1_at (c : Dev nD) (t : Fin cfg7.N) (i : Fin 1024) (j : Fin 256) (r : Fin 6144) (hr : r.val = t.val / 47 * 1024 + i.val) (q : Fin 11008) (hq : q.val = min (t.val % 47) 42 * 256 + j.val) :
    iblk7 V c 1 t (ix2 i j) = V c main_v56_3 (ix2 r q) := by
  blk_ext [iblk7, idx7 t]

theorem blk7_2_at (c : Dev nD) (t : Fin cfg7.N) (i : Fin 4096) (j : Fin 256) (q : Fin 11008) (hq : q.val = min (t.val % 47) 42 * 256 + j.val) :
    iblk7 V c 2 t (ix2 i j) = V c main_v49 (ix2 i q) := by
  blk_ext [iblk7, idx7 t]

theorem blk7_3_at (c : Dev nD) (t : Fin cfg7.N) (i : Fin 4096) (j : Fin 256) (q : Fin 11008) (hq : q.val = min (t.val % 47) 42 * 256 + j.val) :
    iblk7 V c 3 t (ix2 i j) = V c main_v51 (ix2 i q) := by
  blk_ext [iblk7, idx7 t]

theorem blk7_4_at (c : Dev nD) (t : Fin cfg7.N) (i : Fin 1) (j : Fin 4096) :
    iblk7 V c 4 t (ix2 i j) = V c main_v2 (ix2 i j) := by
  blk_ext [iblk7, idx7 t]

theorem blk7_5_at (c : Dev nD) (t : Fin cfg7.N) (i : Fin 256) (j : Fin 4096) (r : Fin 6144) (hr : r.val = (t.val / 47 * 4 + (t.val % 47 - 43)) * 256 + i.val) :
    iblk7 V c 5 t (ix2 i j) = V c main_v0 (ix2 r j) := by
  blk_ext [iblk7, idx7 t]

theorem blk7_6_at (c : Dev nD) (t : Fin cfg7.N) (i : Fin 256) (j : Fin 4096) (r : Fin 6144) (hr : r.val = (t.val / 47 * 4 + (t.val % 47 - 43)) * 256 + i.val) :
    iblk7 V c 6 t (ix2 i j) = V c main_v1 (ix2 r j) := by
  blk_ext [iblk7, idx7 t]

theorem blk7_7_at (c : Dev nD) (t : Fin cfg7.N) (i : Fin 256) (j : Fin 128) (r : Fin 6144) (hr : r.val = (t.val / 47 * 4 + (t.val % 47 - 43)) * 256 + i.val) :
    iblk7 V c 7 t (ix2 i j) = V c main_v54_1 (ix2 r j) := by
  blk_ext [iblk7, idx7 t]

/-- The terms of the two products over the hidden dimension. -/
def pTerm (A : Mat 6144 11008) (B : Mat 4096 11008) (r : Fin 6144) (j : Fin 4096) (x : Fin 11008) : EReal := A r x * B j x

theorem two_blk (c : Dev nD) (t : Fin cfg7.N) (k : ℕ) (hk : k < 43) (h : t.val % 47 = k) (i : Fin 1024) (j : Fin 4096) (r : Fin 6144) (hr : r.val = t.val / 47 * 1024 + i.val) :
    twoT (mat (iblk7 V c 0 t)) (mat (iblk7 V c 2 t)) (mat (iblk7 V c 1 t)) (mat (iblk7 V c 3 t)) i j =
      (∑ x : Fin 256, pTerm (mat (V c main_v56_2)) (mat (V c main_v49)) r j ⟨k * 256 + x.val, by omega⟩) +
        ∑ x : Fin 256, pTerm (mat (V c main_v56_3)) (mat (V c main_v51)) r j ⟨k * 256 + x.val, by omega⟩ := by
  have hm : min (t.val % 47) 42 = k := by omega
  unfold twoT pTerm mat
  refine congrArg₂ (· + ·) (Finset.sum_congr rfl fun x _ => ?_) (Finset.sum_congr rfl fun x _ => ?_)
  · rw [blk7_0_at V c t i x r hr ⟨k * 256 + x.val, by omega⟩ (by rw [hm]), blk7_2_at V c t j x ⟨k * 256 + x.val, by omega⟩ (by rw [hm])]
  · rw [blk7_1_at V c t i x r hr ⟨k * 256 + x.val, by omega⟩ (by rw [hm]), blk7_3_at V c t j x ⟨k * 256 + x.val, by omega⟩ (by rw [hm])]

/-- What the accumulator holds after a point: the sum over the blocks so far. -/
theorem acc_at (c : Dev nD) (n : ℕ) : ∀ (hn : n < cfg7.N) (i : Fin 1024) (j : Fin 4096) (r : Fin 6144) (_ : r.val = n / 47 * 1024 + i.val),
    (outsAt7 V c n hn).2.2 (ix2 i j) = upTo (pTerm (mat (V c main_v56_2)) (mat (V c main_v49)) r j) (256 * min (n % 47 + 1) 43) +
      upTo (pTerm (mat (V c main_v56_3)) (mat (V c main_v51)) r j) (256 * min (n % 47 + 1) 43) := by
  induction n using Nat.strong_induction_on with
  | _ n ih =>
    intro hn i j r hr
    by_cases h0 : n % 47 = 0
    · refine (o7_A V c ⟨n, hn⟩ h0 (show n % 47 ≤ 42 by omega) (show ¬43 ≤ n % 47 by omega) i j).trans ((two_blk V c ⟨n, hn⟩ 0 (by omega) h0 i j r hr).trans ?_)
      rw [h0]
      simp only [Nat.zero_mul, Nat.zero_add]
      rw [← upTo_first, ← upTo_first]
      rfl
    · by_cases h1 : n % 47 ≤ 42
      · refine (o7_B V c ⟨n, hn⟩ h0 h1 (show ¬43 ≤ n % 47 by omega) i j).trans ?_
        have e1 : (n - 1) / 47 = n / 47 := by omega
        have e2 : min ((n - 1) % 47 + 1) 43 = n % 47 := by omega
        have e3 : min (n % 47 + 1) 43 = n % 47 + 1 := by omega
        have key := ih (n - 1) (by omega) (by omega) i j r (by rw [e1]; exact hr)
        rw [e2] at key
        rw [two_blk V c ⟨n, hn⟩ (n % 47) (by omega) rfl i j r hr]
        refine (congrArg (· + _) key).trans ?_
        rw [e3, upTo_block _ (n % 47) (by omega), upTo_block _ (n % 47) (by omega), add_add_add_comm]
      · refine (o7_C V c ⟨n, hn⟩ h0 h1 (show 43 ≤ n % 47 by omega) i j).trans ?_
        have e1 : (n - 1) / 47 = n / 47 := by omega
        have e2 : min ((n - 1) % 47 + 1) 43 = 43 := by omega
        have e3 : min (n % 47 + 1) 43 = 43 := by omega
        have key := ih (n - 1) (by omega) (by omega) i j r (by rw [e1]; exact hr)
        rw [e2] at key
        rw [e3]
        exact key

/-- The whole products. -/
def accM (A : Mat 6144 11008) (B : Mat 4096 11008) (A' : Mat 6144 11008) (B' : Mat 4096 11008) : Mat 6144 4096 := fun r j => mulT A B r j + mulT A' B' r j

theorem accRows_at (c : Dev nD) (t : Fin cfg7.N) (h2 : 43 ≤ t.val % 47) (i : Fin 256) (j : Fin 4096) (r : Fin 6144) (hr : r.val = (t.val / 47 * 4 + (t.val % 47 - 43)) * 256 + i.val) :
    accRows V c t h2 i j = accM (mat (V c main_v56_2)) (mat (V c main_v49)) (mat (V c main_v56_3)) (mat (V c main_v51)) r j := by
  have o := off7 t h2
  have hj : (⟨k7_off1 (grid7.coords t) 1 + j.val, off7_1 t h2 j⟩ : Fin 4096) = j := Fin.ext (by simp only; omega)
  unfold accRows
  rw [hj, acc_at V c (t.val - 1) _ _ _ r (by simp only; omega), show min ((t.val - 1) % 47 + 1) 43 = 43 by omega]
  unfold accM mulT
  exact congrArg₂ (· + ·) (upTo_all _) (upTo_all _)

/-- Only the last four points of a run over the hidden dimension write rows back. -/
theorem last7_8 : ∀ t : Fin grid7.N, (cfg7.win 8).flush t = true → 43 ≤ t.val % 47 := by
  decide +kernel

theorem last7_9 : ∀ t : Fin grid7.N, (cfg7.win 9).flush t = true → 43 ≤ t.val % 47 := by
  decide +kernel

theorem c_blk (c : Dev nD) (t : Fin cfg7.N) (h2 : 43 ≤ t.val % 47) (i : Fin 256) (r : Fin 6144) (hr : r.val = (t.val / 47 * 4 + (t.val % 47 - 43)) * 256 + i.val) :
    cM (accRows V c t h2) (mat (iblk7 V c 5 t)) (fun i => iblk7 V c 7 t (ix2 i 0)) (fun d => iblk7 V c 4 t (ix2 0 d)) i = cM (accM (mat (V c main_v56_2)) (mat (V c main_v49)) (mat (V c main_v56_3)) (mat (V c main_v51))) (mat (V c main_v0)) (fun r => V c main_v54_1 (ix2 r 0)) (fun d => V c main_v2 (ix2 0 d)) r := by
  unfold cM
  simp only [accRows_at V c t h2 i _ r hr]
  unfold mat
  simp only [blk7_5_at V c t i _ r hr, blk7_7_at V c t i _ r hr, blk7_4_at V c t]

theorem dx_blk (c : Dev nD) (t : Fin cfg7.N) (h2 : 43 ≤ t.val % 47) (i : Fin 256) (j q : Fin 4096) (r : Fin 6144) (hr : r.val = (t.val / 47 * 4 + (t.val % 47 - 43)) * 256 + i.val) (hq : q.val = j.val) :
    dxM (accRows V c t h2) (mat (iblk7 V c 5 t)) (mat (iblk7 V c 6 t)) (fun i => iblk7 V c 7 t (ix2 i 0)) (fun d => iblk7 V c 4 t (ix2 0 d)) i j = dxM (accM (mat (V c main_v56_2)) (mat (V c main_v49)) (mat (V c main_v56_3)) (mat (V c main_v51))) (mat (V c main_v0)) (mat (V c main_v1)) (fun r => V c main_v54_1 (ix2 r 0)) (fun d => V c main_v2 (ix2 0 d)) r q := by
  obtain rfl := Fin.ext hq
  unfold dxM
  rw [c_blk V c t h2 i r hr, accRows_at V c t h2 i _ r hr]
  unfold mat
  simp only [blk7_5_at V c t i _ r hr, blk7_6_at V c t i _ r hr, blk7_7_at V c t i _ r hr, blk7_4_at V c t]

theorem final7_8 (c : Dev nD) : (dat7 V c).arrAt 8 cfg7.N = arr2 (dxM (accM (mat (V c main_v56_2)) (mat (V c main_v49)) (mat (V c main_v56_3)) (mat (V c main_v51))) (mat (V c main_v0)) (mat (V c main_v1)) (fun r => V c main_v54_1 (ix2 r 0)) (fun d => V c main_v2 (ix2 0 d))) := by
  refine (dat7 V c).arrAt_eq_of_covers 8 _ (by decide +kernel) fun t hf y => ?_
  have h2 := last7_8 t hf
  blk_simp
  rw [after7_8]
  refine (congrArg _ (eq_ix2 (show S256x4096.Idx from y))).trans ((o7_dx V c t (by omega) (by omega) h2 _ _).trans ?_)
  refine dx_blk V c t h2 _ _ _ _ ?_ ?_ <;> blk_simp [idx7 t]

theorem final7_9 (c : Dev nD) : (dat7 V c).arrAt 9 cfg7.N = arr2 (fun r (_ : Fin 128) => cM (accM (mat (V c main_v56_2)) (mat (V c main_v49)) (mat (V c main_v56_3)) (mat (V c main_v51))) (mat (V c main_v0)) (fun r => V c main_v54_1 (ix2 r 0)) (fun d => V c main_v2 (ix2 0 d)) r) := by
  refine (dat7 V c).arrAt_eq_of_covers 9 _ (by decide +kernel) fun t hf y => ?_
  have h2 := last7_9 t hf
  blk_simp
  rw [after7_9]
  refine (congrArg _ (eq_ix2 (show S256x128.Idx from y))).trans ((o7_c V c t (by omega) (by omega) h2 _ _).trans ?_)
  refine c_blk V c t h2 _ _ ?_ <;> blk_simp [idx7 t]

end Cert.MlpIdeal.Region
-- ==== Proof.KV1.lean ====
module

public import proofs.«01_k».proof.Proof.Gen.MlpIdeal.Frame
public import proofs.«01_k».proof.Proof.Whole
public import proofs.«01_k».proof.Proof.KV0
public import proofs.«01_k».proof.Proof.Reg0
public import proofs.«01_k».proof.Proof.Reg1
public import proofs.«01_k».proof.Proof.Reg2
public import proofs.«01_k».proof.Proof.Reg3Array
public import proofs.«01_k».proof.Proof.Reg4
public import proofs.«01_k».proof.Proof.Reg5
public import proofs.«01_k».proof.Proof.Reg6
public import proofs.«01_k».proof.Proof.Reg7
public import Idealize.ShloMosaic.Lib.StableHlo.ReadAt
public import Idealize.ShloMosaic.Lib.Pointwise

/-! # The arrays of the two passes -/

@[expose] public section

set_option maxRecDepth 16384

noncomputable section

namespace Cert.MlpIdeal.Region

open Cert.MlpIdeal Cert.MlpIdeal.Gen Cert.MlpSpec Idealize.ShloMosaic Idealize.ShloMosaic.TcCoe Idealize.SL.Sem

variable (m : (ℓ : Loc nD τ sig) → Buf (Elt Ideal) ℓ) (ρ : Dev nD → PrngReg)

theorem a2_v49 (c : Dev nD) : V2 m ρ c main_v49 = arr2 (kargs m c).WG :=
  ((W2_arr m ρ c 3).trans (final0 (V1 m ρ) c)).trans (by
    rw [a1_v3 m ρ c, a1_v19 m ρ c, a1_v48 m ρ c]
    try simp only [mat_arr2]
    first
      | rfl)

theorem a3_v4 (c : Dev nD) : V3 m ρ c main_v4 = arr2 fun (i : Fin 256) (j : Fin 11008) => (kargs m c).qu (ix2 j i) := ((W3_of m ρ c main_v4 (by decide +kernel)).trans (W2_of m ρ c main_v4 (by decide +kernel))).trans (a1_v4 m ρ c)

theorem a3_v33 (c : Dev nD) : V3 m ρ c main_v33 = arr2 (zpM (n := 11008) (b := 16) (g := 64) (by decide) (kargs m c).zu) := ((W3_of m ρ c main_v33 (by decide +kernel)).trans (W2_of m ρ c main_v33 (by decide +kernel))).trans (a1_v33 m ρ c)

theorem a4_v51 (c : Dev nD) : V4 m ρ c main_v51 = arr2 (kargs m c).WU :=
  ((W4_arr m ρ c 3).trans (final1 (V3 m ρ) c)).trans (by
    rw [a3_v4 m ρ c, a3_v33 m ρ c, a3_v50 m ρ c]
    try simp only [mat_arr2]
    first
      | rfl)

theorem a5_v5 (c : Dev nD) : V5 m ρ c main_v5 = arr2 fun (i : Fin 688) (j : Fin 4096) => (kargs m c).qd (ix2 j i) := ((((W5_of m ρ c main_v5 (by decide +kernel)).trans (W4_of m ρ c main_v5 (by decide +kernel))).trans (W3_of m ρ c main_v5 (by decide +kernel))).trans (W2_of m ρ c main_v5 (by decide +kernel))).trans (a1_v5 m ρ c)

theorem a5_v47 (c : Dev nD) : V5 m ρ c main_v47 = arr2 (zpM (n := 4096) (b := 43) (g := 172) (by decide) (kargs m c).zd) := ((((W5_of m ρ c main_v47 (by decide +kernel)).trans (W4_of m ρ c main_v47 (by decide +kernel))).trans (W3_of m ρ c main_v47 (by decide +kernel))).trans (W2_of m ρ c main_v47 (by decide +kernel))).trans (a1_v47 m ρ c)

theorem a6_v53 (c : Dev nD) : V6 m ρ c main_v53 = arr2 (kargs m c).WD :=
  ((W6_arr m ρ c 3).trans (final2 (V5 m ρ) c)).trans (by
    rw [a5_v5 m ρ c, a5_v47 m ρ c, a5_v52 m ρ c]
    try simp only [mat_arr2]
    first
      | rfl)

theorem a6_v0 (c : Dev nD) : V6 m ρ c main_v0 = arr2 (kargs m c).X := (((((W6_of m ρ c main_v0 (by decide +kernel)).trans (W5_of m ρ c main_v0 (by decide +kernel))).trans (W4_of m ρ c main_v0 (by decide +kernel))).trans (W3_of m ρ c main_v0 (by decide +kernel))).trans (W2_of m ρ c main_v0 (by decide +kernel))).trans (a1_v0 m ρ c)

theorem a6_v2 (c : Dev nD) : V6 m ρ c main_v2 = arr2 fun (_ : Fin 1) d => (kargs m c).W d := (((((W6_of m ρ c main_v2 (by decide +kernel)).trans (W5_of m ρ c main_v2 (by decide +kernel))).trans (W4_of m ρ c main_v2 (by decide +kernel))).trans (W3_of m ρ c main_v2 (by decide +kernel))).trans (W2_of m ρ c main_v2 (by decide +kernel))).trans (a1_v2 m ρ c)

theorem a7_v54_0 (c : Dev nD) : V7 m ρ c main_v54_0 = arr2 (kargs m c).XN :=
  ((W7_arr m ρ c 3).trans (final3_3 (V6 m ρ) c)).trans (by
    rw [a6_v0 m ρ c, a6_v2 m ρ c]
    try simp only [mat_arr2]
    first
      | rfl)

theorem a7_v54_1 (c : Dev nD) : V7 m ρ c main_v54_1 = arr2 fun r (_ : Fin 128) => rS (kargs m c).X r :=
  ((W7_arr m ρ c 4).trans (final3_4 (V6 m ρ) c)).trans (by
    rw [a6_v0 m ρ c]
    simp only [mat_arr2])

theorem a7_v54_2 (c : Dev nD) : V7 m ρ c main_v54_2 = arr2 (lanemax (kargs m c).XN) :=
  ((W7_arr m ρ c 5).trans (final3_5 (V6 m ρ) c)).trans (by
    rw [a6_v0 m ρ c, a6_v2 m ρ c]
    try simp only [mat_arr2]
    first
      | rfl)

theorem a6_v1 (c : Dev nD) : V6 m ρ c main_v1 = arr2 (kargs m c).DY := (((((W6_of m ρ c main_v1 (by decide +kernel)).trans (W5_of m ρ c main_v1 (by decide +kernel))).trans (W4_of m ρ c main_v1 (by decide +kernel))).trans (W3_of m ρ c main_v1 (by decide +kernel))).trans (W2_of m ρ c main_v1 (by decide +kernel))).trans (a1_v1 m ρ c)

theorem a7_v54_3 (c : Dev nD) : V7 m ρ c main_v54_3 = arr2 (lanemax (kargs m c).DY) :=
  ((W7_arr m ρ c 6).trans (final3_6 (V6 m ρ) c)).trans (by
    rw [a6_v1 m ρ c]
    simp only [mat_arr2])

/-- The codes from the normalised tokens and the maxima by lane are the quantiser's codes. -/
theorem acM_eq (A : Args) : acM A.X (fun r (_ : Fin 128) => rS A.X r) (fun (_ : Fin 1) d => A.W d) (lanemax A.XN) = codeM A.XN := by
  funext r d
  show codeV (A.XN r d) (scaleV (fmax fun s => lanemax A.XN s d)) = codeV (A.XN r d) (scaleV (colmax A.XN d))
  rw [fmax_lanemax]

theorem a7_v0 (c : Dev nD) : V7 m ρ c main_v0 = arr2 (kargs m c).X := (W7_of m ρ c main_v0 (by decide +kernel)).trans (a6_v0 m ρ c)

theorem a7_v2 (c : Dev nD) : V7 m ρ c main_v2 = arr2 fun (_ : Fin 1) d => (kargs m c).W d := (W7_of m ρ c main_v2 (by decide +kernel)).trans (a6_v2 m ρ c)

theorem a8_v55_0 (c : Dev nD) : V8 m ρ c main_v55_0 = arr2 (codeM (kargs m c).XN) :=
  ((W8_arr m ρ c 6).trans (final4_6 (V7 m ρ) c)).trans (by
    rw [a7_v0 m ρ c, a7_v54_1 m ρ c, a7_v2 m ρ c, a7_v54_2 m ρ c]
    simp only [mat_arr2, acM_eq])

theorem a8_v55_1 (c : Dev nD) : V8 m ρ c main_v55_1 = arr2 fun (d : Fin 4096) (t : Fin 6144) => codeM (kargs m c).XN t d :=
  ((W8_arr m ρ c 7).trans (final4_7 (V7 m ρ) c)).trans (by
    rw [a7_v0 m ρ c, a7_v54_1 m ρ c, a7_v2 m ρ c, a7_v54_2 m ρ c]
    simp only [mat_arr2, acM_eq])

theorem a7_v1 (c : Dev nD) : V7 m ρ c main_v1 = arr2 (kargs m c).DY := (W7_of m ρ c main_v1 (by decide +kernel)).trans (a6_v1 m ρ c)

theorem a8_v55_2 (c : Dev nD) : V8 m ρ c main_v55_2 = arr2 (codeM (kargs m c).DY) :=
  ((W8_arr m ρ c 8).trans (final4_8 (V7 m ρ) c)).trans (by
    rw [a7_v1 m ρ c, a7_v54_3 m ρ c]
    simp only [mat_arr2, fmax_lanemax]
    first
      | rfl
      | (unfold acM; simp only [fmax_lanemax]; rfl))

theorem a8_v55_3 (c : Dev nD) : V8 m ρ c main_v55_3 = arr2 (scaleM (kargs m c).XN) :=
  ((W8_arr m ρ c 9).trans (final4_9 (V7 m ρ) c)).trans (by
    rw [a7_v54_2 m ρ c]
    simp only [mat_arr2, fmax_lanemax]
    first
      | rfl
      | (unfold acM; simp only [fmax_lanemax]; rfl))

theorem a8_v55_4 (c : Dev nD) : V8 m ρ c main_v55_4 = arr2 (scaleM (kargs m c).DY) :=
  ((W8_arr m ρ c 10).trans (final4_10 (V7 m ρ) c)).trans (by
    rw [a7_v54_3 m ρ c]
    simp only [mat_arr2, fmax_lanemax]
    first
      | rfl
      | (unfold acM; simp only [fmax_lanemax]; rfl))

theorem a8_v54_0 (c : Dev nD) : V8 m ρ c main_v54_0 = arr2 (kargs m c).XN := (W8_of m ρ c main_v54_0 (by decide +kernel)).trans (a7_v54_0 m ρ c)

theorem a8_v49 (c : Dev nD) : V8 m ρ c main_v49 = arr2 (kargs m c).WG := ((((((W8_of m ρ c main_v49 (by decide +kernel)).trans (W7_of m ρ c main_v49 (by decide +kernel))).trans (W6_of m ρ c main_v49 (by decide +kernel))).trans (W5_of m ρ c main_v49 (by decide +kernel))).trans (W4_of m ρ c main_v49 (by decide +kernel))).trans (W3_of m ρ c main_v49 (by decide +kernel))).trans (a2_v49 m ρ c)

theorem a8_v51 (c : Dev nD) : V8 m ρ c main_v51 = arr2 (kargs m c).WU := ((((W8_of m ρ c main_v51 (by decide +kernel)).trans (W7_of m ρ c main_v51 (by decide +kernel))).trans (W6_of m ρ c main_v51 (by decide +kernel))).trans (W5_of m ρ c main_v51 (by decide +kernel))).trans (a4_v51 m ρ c)

theorem a9_v56_0 (c : Dev nD) : V9 m ρ c main_v56_0 = arr2 (kargs m c).HH :=
  ((W9_arr m ρ c 5).trans (final5_5 (V8 m ρ) c)).trans (by
    rw [a8_v54_0 m ρ c, a8_v49 m ρ c, a8_v51 m ρ c]
    try simp only [mat_arr2]
    first
      | rfl)

theorem a9_v56_1 (c : Dev nD) : V9 m ρ c main_v56_1 = arr2 (kargs m c).HH :=
  ((W9_arr m ρ c 6).trans (final5_6 (V8 m ρ) c)).trans (by
    rw [a8_v54_0 m ρ c, a8_v49 m ρ c, a8_v51 m ρ c]
    try simp only [mat_arr2]
    first
      | rfl)

theorem a8_v1 (c : Dev nD) : V8 m ρ c main_v1 = arr2 (kargs m c).DY := (W8_of m ρ c main_v1 (by decide +kernel)).trans (a7_v1 m ρ c)

theorem a8_v53 (c : Dev nD) : V8 m ρ c main_v53 = arr2 (kargs m c).WD := ((W8_of m ρ c main_v53 (by decide +kernel)).trans (W7_of m ρ c main_v53 (by decide +kernel))).trans (a6_v53 m ρ c)

theorem a9_v56_2 (c : Dev nD) : V9 m ρ c main_v56_2 = arr2 (kargs m c).DG :=
  ((W9_arr m ρ c 7).trans (final5_7 (V8 m ρ) c)).trans (by
    rw [a8_v54_0 m ρ c, a8_v1 m ρ c, a8_v49 m ρ c, a8_v51 m ρ c, a8_v53 m ρ c]
    try simp only [mat_arr2]
    first
      | rfl)

theorem a9_v56_3 (c : Dev nD) : V9 m ρ c main_v56_3 = arr2 (kargs m c).DU :=
  ((W9_arr m ρ c 8).trans (final5_8 (V8 m ρ) c)).trans (by
    rw [a8_v54_0 m ρ c, a8_v1 m ρ c, a8_v49 m ρ c, a8_v53 m ρ c]
    try simp only [mat_arr2]
    first
      | rfl)

theorem a9_v56_4 (c : Dev nD) : V9 m ρ c main_v56_4 = arr3 (lanemax6 (kargs m c).HH) :=
  ((W9_arr m ρ c 9).trans (final5_9 (V8 m ρ) c)).trans (by
    rw [a8_v54_0 m ρ c, a8_v49 m ρ c, a8_v51 m ρ c]
    try simp only [mat_arr2]
    first
      | rfl)

theorem a9_v56_5 (c : Dev nD) : V9 m ρ c main_v56_5 = arr3 (lanemax6 (kargs m c).DG) :=
  ((W9_arr m ρ c 10).trans (final5_10 (V8 m ρ) c)).trans (by
    rw [a8_v54_0 m ρ c, a8_v1 m ρ c, a8_v49 m ρ c, a8_v51 m ρ c, a8_v53 m ρ c]
    try simp only [mat_arr2]
    first
      | rfl)

theorem a9_v56_6 (c : Dev nD) : V9 m ρ c main_v56_6 = arr3 (lanemax6 (kargs m c).DU) :=
  ((W9_arr m ρ c 11).trans (final5_11 (V8 m ρ) c)).trans (by
    rw [a8_v54_0 m ρ c, a8_v1 m ρ c, a8_v49 m ρ c, a8_v53 m ρ c]
    try simp only [mat_arr2]
    first
      | rfl)

theorem a9_v0 (c : Dev nD) : V9 m ρ c main_v0 = arr2 (kargs m c).X := ((W9_of m ρ c main_v0 (by decide +kernel)).trans (W8_of m ρ c main_v0 (by decide +kernel))).trans (a7_v0 m ρ c)

theorem a9_v53 (c : Dev nD) : V9 m ρ c main_v53 = arr2 (kargs m c).WD := (W9_of m ρ c main_v53 (by decide +kernel)).trans (a8_v53 m ρ c)

theorem a10_v57 (c : Dev nD) : V10 m ρ c main_v57 = arr2 (kargs m c).Y :=
  ((W10_arr m ρ c 3).trans (final6_3 (V9 m ρ) c)).trans (by
    rw [a9_v0 m ρ c, a9_v56_0 m ρ c, a9_v53 m ρ c]
    try simp only [mat_arr2]
    first
      | rfl)

theorem a10_v56_2 (c : Dev nD) : V10 m ρ c main_v56_2 = arr2 (kargs m c).DG := (W10_of m ρ c main_v56_2 (by decide +kernel)).trans (a9_v56_2 m ρ c)

theorem a10_v49 (c : Dev nD) : V10 m ρ c main_v49 = arr2 (kargs m c).WG := ((W10_of m ρ c main_v49 (by decide +kernel)).trans (W9_of m ρ c main_v49 (by decide +kernel))).trans (a8_v49 m ρ c)

theorem a10_v56_3 (c : Dev nD) : V10 m ρ c main_v56_3 = arr2 (kargs m c).DU := (W10_of m ρ c main_v56_3 (by decide +kernel)).trans (a9_v56_3 m ρ c)

theorem a10_v51 (c : Dev nD) : V10 m ρ c main_v51 = arr2 (kargs m c).WU := ((W10_of m ρ c main_v51 (by decide +kernel)).trans (W9_of m ρ c main_v51 (by decide +kernel))).trans (a8_v51 m ρ c)

theorem a10_v0 (c : Dev nD) : V10 m ρ c main_v0 = arr2 (kargs m c).X := (W10_of m ρ c main_v0 (by decide +kernel)).trans (a9_v0 m ρ c)

theorem a10_v1 (c : Dev nD) : V10 m ρ c main_v1 = arr2 (kargs m c).DY := ((W10_of m ρ c main_v1 (by decide +kernel)).trans (W9_of m ρ c main_v1 (by decide +kernel))).trans (a8_v1 m ρ c)

theorem a10_v54_1 (c : Dev nD) : V10 m ρ c main_v54_1 = arr2 fun r (_ : Fin 128) => rS (kargs m c).X r := (((W10_of m ρ c main_v54_1 (by decide +kernel)).trans (W9_of m ρ c main_v54_1 (by decide +kernel))).trans (W8_of m ρ c main_v54_1 (by decide +kernel))).trans (a7_v54_1 m ρ c)

theorem a10_v2 (c : Dev nD) : V10 m ρ c main_v2 = arr2 fun (_ : Fin 1) d => (kargs m c).W d := (((W10_of m ρ c main_v2 (by decide +kernel)).trans (W9_of m ρ c main_v2 (by decide +kernel))).trans (W8_of m ρ c main_v2 (by decide +kernel))).trans (a7_v2 m ρ c)

theorem a11_v58_0 (c : Dev nD) : V11 m ρ c main_v58_0 = arr2 (kargs m c).DX :=
  ((W11_arr m ρ c 8).trans (final7_8 (V10 m ρ) c)).trans (by
    rw [a10_v56_2 m ρ c, a10_v49 m ρ c, a10_v56_3 m ρ c, a10_v51 m ρ c, a10_v0 m ρ c, a10_v1 m ρ c, a10_v54_1 m ρ c, a10_v2 m ρ c]
    try simp only [mat_arr2]
    first
      | rfl)

theorem a11_v58_1 (c : Dev nD) : V11 m ρ c main_v58_1 = arr2 fun r (_ : Fin 128) => (kargs m c).C r :=
  ((W11_arr m ρ c 9).trans (final7_9 (V10 m ρ) c)).trans (by
    rw [a10_v56_2 m ρ c, a10_v49 m ρ c, a10_v56_3 m ρ c, a10_v51 m ρ c, a10_v0 m ρ c, a10_v54_1 m ρ c, a10_v2 m ρ c]
    try simp only [mat_arr2]
    first
      | rfl)

end Cert.MlpIdeal.Region
-- ==== Proof.GsDefs.lean ====
module

public import proofs.«01_k».proof.Proof.Spec
public import proofs.«01_k».proof.Proof.Gen.MlpIdeal.Loops
public import Idealize.ShloMosaic.Lib.Pipeline.ReadBack
public import Idealize.ShloMosaic.Lib.Pipeline.ValueKit
public import Idealize.ShloMosaic.Lib.Pointwise
public import Idealize.ShloMosaic.Lib.VecWindow

/-! # The codes of a column block at the scale of its columns -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

theorem ld_maxima (x3 : Vec Ideal S6x8x256 .f32) : View.ld x3 (Rect.unit ![0, 0, 0] ![6, 8, 256] inb_S6x8x256_S6x8x256_0_0_0) = x3 :=
  funext fun z => congrArg x3 (Rect.emb_unit_full (s := S6x8x256) inb_S6x8x256_S6x8x256_0_0_0 z)

theorem ext2 {a b : ℕ} {y z : (⟨2, ![a, b]⟩ : Shape).Idx} (h0 : (y 0).val = (z 0).val) (h1 : (y 1).val = (z 1).val) : y = z := by
  rw [eq_ix2 y, eq_ix2 z, Fin.ext h0, Fin.ext h1]

/-- The largest entry of each column of the maxima by lane. -/
def colM (x3 : Vec Ideal S6x8x256 .f32) (j : Fin 256) : EReal :=
  fmax fun x : Fin 48 => x3 (ix3 (⟨x.val / 8, by omega⟩ : Fin 6) (⟨x.val % 8, by omega⟩ : Fin 8) j)

/-- The codes of a column block. -/
def codG (x2 : Vec Ideal S6144x256 .f32) (x3 : Vec Ideal S6x8x256 .f32) : S6144x256.Idx → Elt Ideal .fp8e4m3 :=
  fun y => codeV (x2 y) (scaleV (colM x3 (y 1)))

theorem codG_eq (x2 : Vec Ideal S6144x256 .f32) (x3 : Vec Ideal S6x8x256 .f32) (y z : S6144x256.Idx) (j : Fin 256) (h : y = z) (hj : j = z 1) :
    codeV (x2 y) (scaleV (colM x3 j)) = codG x2 x3 z := by
  subst h; subst hj; rfl

/-- A column's maximum, from its 48 running maxima. -/
def colK {n : ℕ} (M : Fin 6 → Fin 8 → Fin n → EReal) (d : Fin n) : EReal :=
  fmax fun x : Fin 48 => M ⟨x.val / 8, by omega⟩ ⟨x.val % 8, by omega⟩ d

theorem colK_lanemax6 {n : ℕ} (X : Mat 6144 n) (d : Fin n) : colK (lanemax6 X) d = colmax X d :=
  fmax_lanemax6 X d _ fun _ => rfl

end Cert.MlpIdeal.Region
-- ==== Proof.Codes8.lean ====
module

public import proofs.«01_k».proof.Proof.Spec
public import proofs.«01_k».proof.Proof.GsDefs
public import proofs.«01_k».proof.Proof.Gen.MlpIdeal.Frame.Region8
public import Idealize.ShloMosaic.Lib.Pipeline.ReadBack
public import Idealize.ShloMosaic.Lib.Pipeline.ValueKit
public import Idealize.ShloMosaic.Lib.Pointwise
public import Idealize.ShloMosaic.Lib.VecWindow

/-! # Call 8: the loop over blocks of 512 rows fills the block with the codes of its columns -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

/-- The rows a trip touches. -/
theorem offs8 : ∀ k : Fin k8_t1_loop.trips, k8_off1 k = ![512 * k.val, 0] := by
  decide +kernel

section Block
variable (arg1 : Memref sig .tc .vmem S4096x6144 .fp8e4m3) (harg1 : arg1.IsWhole)
  (arg2 : Memref sig .tc .vmem S4096x128 .f32) (harg2 : arg2.IsWhole)
  (arg3 : Memref sig .tc .vmem S6144x256 .f32) (harg3 : arg3.IsWhole)
  (arg4 : Memref sig .tc .vmem S6x8x256 .f32) (harg4 : arg4.IsWhole)
  (arg5 : Memref sig .tc .vmem S256x256 .i32) (harg5 : arg5.IsWhole)
  (arg6 : Memref sig .tc .vmem S64x256 .f32) (harg6 : arg6.IsWhole)
  (arg7 : Memref sig .tc .vmem S256x64 .f32) (harg7 : arg7.IsWhole)
  (arg8 : Memref sig .tc .vmem S256x64 .f32) (harg8 : arg8.IsWhole)
  (arg9 : Memref sig .tc .vmem S256x64 .f32) (harg9 : arg9.IsWhole)
  (arg10 : Memref sig .tc .smem S4 .f32) (harg10 : arg10.IsWhole)
  (arg11 : Memref sig .tc .vmem S6144x256 .fp8e4m3) (harg11 : arg11.IsWhole)
  (arg12 : Memref sig .tc .vmem S1x256 .f32) (harg12 : arg12.IsWhole)
  (arg13 : Memref sig .tc .vmem S256x64 .f32) (harg13 : arg13.IsWhole)
  (arg14 : Memref sig .tc .vmem S256x64 .f32) (harg14 : arg14.IsWhole)
  (arg15 : Memref sig .tc .vmem S256x64 .f32) (harg15 : arg15.IsWhole)
  (arg16 : Memref sig .tc .vmem S256x64 .f32) (harg16 : arg16.IsWhole)
  (arg17 : Memref sig .tc .vmem S256x64 .f32) (harg17 : arg17.IsWhole)
  (x2 : Vec Ideal S6144x256 .f32) (x3 : Vec Ideal S6x8x256 .f32) (c : Dev nD) (i : grid8.Coords)

/-- A trip stores rows of the codes. -/
theorem trip8 (k : Fin k8_t1_loop.trips) :
    View.PiecesOf (codG x2 x3) (tripL_k8_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 (harg3.unread x2) k) := by
  unfold tripL_k8_t1 trip_k8_t1
  refine ⟨fun x => ?_, trivial⟩
  dsimp only
  try unfold trip_k8_t1.sl.r_3
  try unfold trip_k8_t1.sl.r_2
  try unfold trip_k8_t1.sl.r_1
  try unfold trip_k8_t1.sl.r
  simp only [View.readAt_eq_ld, Memref.IsWhole.read_unread]
  unfold_payloads
  idx_vars x
  pointwise
  refine codG_eq x2 x3 _ _ _ ?_ ?_
  · refine ext2 ?_ ?_
    · refine Eq.trans ?_ (ValueKit.rect_emb_unit_val _ _ _ _ 0).symm
      rfl
    · refine Eq.trans ?_ (ValueKit.rect_emb_unit_val _ _ _ _ 1).symm
      rfl
  · refine Fin.ext ?_
    refine Eq.trans ?_ (ValueKit.rect_emb_unit_val _ _ _ _ 1).symm
    show x1.val = k8_off1 k 1 + x1.val
    rw [congrFun (offs8 k) 1]
    show x1.val = 0 + x1.val
    omega

/-- So do all the trips before `n`. -/
theorem trips8 (n : ℕ) (hn : n ≤ k8_t1_loop.trips) :
    ∀ p ∈ pb_k8_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 (harg3.unread x2) n,
      ∀ x, p.2 x = codG x2 x3 (p.1.emb x) := by
  induction n with
  | zero =>
    intro p hp
    unfold pb_k8_t1 at hp
    cases hp
  | succ n ih =>
    intro p hp
    rw [pb_k8_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ ⟨n, hn⟩, List.mem_append] at hp
    rcases hp with hp | hp
    · exact (trip8 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 c i ⟨n, hn⟩).mem p hp
    · exact ih (by omega) p hp

end Block

variable (V : (c : Dev nD) → (b : Ref sig .tc) → Buf (Elt Ideal) ((c : Thread nD τ).loc b))

/-- What the trips together store. -/
theorem codes8 (c : Dev nD) (t : Fin cfg8.N) :
    View.canon (pb_k8_t1 (F := Ideal) Variants.none c none (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) (ms8_13 t) (hs8_13 t) (ms8_14 t) (hs8_14 t) (ms8_15 t) (hs8_15 t) (ms8_16 t) (hs8_16 t) (iblk8 V c 3 t) ((hs8_2 t).unread (iblk8 V c 2 t))
      (Scf.trips 0#32 (Scalar.addi 0#32 12#32) 1#32)) = codG (iblk8 V c 2 t) (iblk8 V c 3 t) := by
  funext y
  have hc := cover8_A_10 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) (ms8_13 t) (hs8_13 t) (ms8_14 t) (hs8_14 t) (ms8_15 t) (hs8_15 t) (ms8_16 t) (hs8_16 t) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) y
  unfold kernelRun8_A at hc
  dsimp only at hc
  rw [← List.append_nil (pb_k8_t1 (F := Ideal) _ _ _ _ _ _ _ _ _ _ _ _ _ _ _ _ _ _ _ _ _ _ _ _ _ _ _ _ _ _ _ _ _ _ _ _ _ _ _ _ _)]
  refine View.canon_append_of_pieces _ _ _ (trips8 _ _ _ _ _ _ _ _ _ _ _ _ _ _ _ _ _ _ _ _ _ _ _ _ _ _ _ _ _ _ _ _ _ _ _ _ _ _ _ (by decide +kernel)) y ?_
  simp only [View.readAt_eq_ld, Memref.IsWhole.read_unread, ld_maxima] at hc
  exact hc

/-- The codes as a later load finds them. -/
theorem readCodes8 (c : Dev nD) (t : Fin cfg8.N) (v : View sig .tc .vmem S6144x256 .fp8e4m3) :
    v.readCov (pb_k8_t1 (F := Ideal) Variants.none c none (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) (ms8_9 t) (hs8_9 t) (ms8_10 t) (hs8_10 t) (ms8_11 t) (hs8_11 t) (ms8_12 t) (hs8_12 t) (ms8_13 t) (hs8_13 t) (ms8_14 t) (hs8_14 t) (ms8_15 t) (hs8_15 t) (ms8_16 t) (hs8_16 t) (iblk8 V c 3 t) ((hs8_2 t).unread (iblk8 V c 2 t))
      (Scf.trips 0#32 (Scalar.addi 0#32 12#32) 1#32)) (Rect.unit ![0, 0] ![6144, 256] inb_S6144x256_S6144x256_0_0).toLoadRect = codG (iblk8 V c 2 t) (iblk8 V c 3 t) := by
  rw [View.readCov_eq_canon', codes8]
  funext j
  exact congrArg _ (Rect.emb_unit_full (s := S6144x256) inb_S6144x256_S6144x256_0_0 j)

/-- What the block of codes holds after the body. -/
theorem outsAt8_codes (c : Dev nD) (t : Fin cfg8.N) : (outsAt8 V c t).1 = codG (iblk8 V c 2 t) (iblk8 V c 3 t) := by
  rw [← codes8 V c t]
  unfold outsAt8 out8_A_10
  rw [View.read_writes_junk_eq_canon]
  unfold kernelRun8_A
  dsimp only
  simp only [View.readAt_eq_ld, Memref.IsWhole.read_unread, ld_maxima]

/-- What the block of scales holds after the body. -/
theorem outsAt8_scale (c : Dev nD) (t : Fin cfg8.N) (y : S1x256.Idx) : (outsAt8 V c t).2.1 y = scaleV (colM (iblk8 V c 3 t) (y 1)) := by
  idx_vars y
  unfold outsAt8
  frame_out
  unfold_payloads
  pointwise
  first
    | rfl

end Cert.MlpIdeal.Region
-- ==== Proof.CArr8.lean ====
module

public import proofs.«01_k».proof.Proof.Spec
public import proofs.«01_k».proof.Proof.Codes8
public import proofs.«01_k».proof.Proof.Gen.MlpIdeal.Frame.Region8
public import Idealize.ShloMosaic.Lib.Pipeline.ReadBack
public import Idealize.ShloMosaic.Lib.Pipeline.ValueKit
public import Idealize.ShloMosaic.Lib.Pointwise
public import Idealize.ShloMosaic.Lib.VecWindow

/-! # Call 8: the arrays of codes and scales -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

variable (V : (c : Dev nD) → (b : Ref sig .tc) → Buf (Elt Ideal) ((c : Thread nD τ).loc b))

theorem idxC8 : ∀ t : Fin grid8.N, win8_2.index t = ![0, t.val] ∧ win8_3.index t = ![0, 0, t.val] ∧ win8_10.index t = ![0, t.val] ∧
    win8_11.index t = ![0, t.val] := by
  decide +kernel

theorem blk8_2_at (c : Dev nD) (t : Fin cfg8.N) (i i' : Fin 6144) (j : Fin 256) (d : Fin 11008) (hi : i'.val = i.val) (hd : d.val = t.val * 256 + j.val) :
    iblk8 V c 2 t (ix2 i j) = V c main_v56_2 (ix2 i' d) := by
  blk_ext [iblk8, idxC8 t]

theorem blk8_3_at (c : Dev nD) (t : Fin cfg8.N) (p : Fin 6) (s : Fin 8) (j : Fin 256) (d : Fin 11008) (hd : d.val = t.val * 256 + j.val) :
    iblk8 V c 3 t (ix3 p s j) = V c main_v56_5 (ix3 p s d) := by
  blk_ext [iblk8, idxC8 t]

theorem colM8_blk (c : Dev nD) (t : Fin cfg8.N) (j : Fin 256) (d : Fin 11008) (hd : d.val = t.val * 256 + j.val) :
    colM (iblk8 V c 3 t) j = colK (mat3 (V c main_v56_5)) d := by
  unfold colM colK mat3
  exact congrArg fmax (funext fun x => blk8_3_at V c t _ _ j d hd)

theorem codG8_blk (c : Dev nD) (t : Fin cfg8.N) (i i' : Fin 6144) (j : Fin 256) (d : Fin 11008) (hi : i'.val = i.val) (hd : d.val = t.val * 256 + j.val) :
    codG (iblk8 V c 2 t) (iblk8 V c 3 t) (ix2 i j) = codeV (mat (V c main_v56_2) i' d) (scaleV (colK (mat3 (V c main_v56_5)) d)) := by
  unfold codG
  rw [blk8_2_at V c t i i' j d hi hd]
  exact congrArg (fun e => codeV _ (scaleV e)) (colM8_blk V c t j d hd)

/-- The codes. -/
theorem final8_10 (c : Dev nD) : (dat8 V c).arrAt 10 cfg8.N =
    arr2 (fun r d => codeV (mat (V c main_v56_2) r d) (scaleV (colK (mat3 (V c main_v56_5)) d))) := by
  refine (dat8 V c).arrAt_eq_of_covers 10 _ (by decide +kernel) fun t hf y => ?_
  blk_simp
  rw [after8_10, outsAt8_codes]
  refine (congrArg _ (eq_ix2 (show S6144x256.Idx from y))).trans ?_
  refine codG8_blk V c t _ _ _ _ ?_ ?_ <;> blk_simp [idxC8 t]

/-- The scales. -/
theorem final8_11 (c : Dev nD) : (dat8 V c).arrAt 11 cfg8.N =
    arr2 (fun (_ : Fin 1) d => scaleV (colK (mat3 (V c main_v56_5)) d)) := by
  refine (dat8 V c).arrAt_eq_of_covers 11 _ (by decide +kernel) fun t hf y => ?_
  blk_simp
  rw [after8_11, outsAt8_scale]
  refine congrArg scaleV (colM8_blk V c t _ _ ?_)
  blk_simp [idxC8 t]

end Cert.MlpIdeal.Region
-- ==== Proof.Codes9.lean ====
module

public import proofs.«01_k».proof.Proof.Spec
public import proofs.«01_k».proof.Proof.GsDefs
public import proofs.«01_k».proof.Proof.Gen.MlpIdeal.Frame.Region9
public import Idealize.ShloMosaic.Lib.Pipeline.ReadBack
public import Idealize.ShloMosaic.Lib.Pipeline.ValueKit
public import Idealize.ShloMosaic.Lib.Pointwise
public import Idealize.ShloMosaic.Lib.VecWindow

/-! # Call 9: the loop over blocks of 512 rows fills the block with the codes of its columns -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

/-- The rows a trip touches. -/
theorem offs9 : ∀ k : Fin k9_t1_loop.trips, k9_off1 k = ![512 * k.val, 0] := by
  decide +kernel

section Block
variable (arg1 : Memref sig .tc .vmem S4096x6144 .fp8e4m3) (harg1 : arg1.IsWhole)
  (arg2 : Memref sig .tc .vmem S4096x128 .f32) (harg2 : arg2.IsWhole)
  (arg3 : Memref sig .tc .vmem S6144x256 .f32) (harg3 : arg3.IsWhole)
  (arg4 : Memref sig .tc .vmem S6x8x256 .f32) (harg4 : arg4.IsWhole)
  (arg5 : Memref sig .tc .vmem S256x256 .i32) (harg5 : arg5.IsWhole)
  (arg6 : Memref sig .tc .vmem S64x256 .f32) (harg6 : arg6.IsWhole)
  (arg7 : Memref sig .tc .vmem S256x64 .f32) (harg7 : arg7.IsWhole)
  (arg8 : Memref sig .tc .vmem S256x64 .f32) (harg8 : arg8.IsWhole)
  (arg9 : Memref sig .tc .vmem S256x64 .f32) (harg9 : arg9.IsWhole)
  (arg10 : Memref sig .tc .smem S4 .f32) (harg10 : arg10.IsWhole)
  (arg11 : Memref sig .tc .vmem S6144x256 .fp8e4m3) (harg11 : arg11.IsWhole)
  (arg12 : Memref sig .tc .vmem S1x256 .f32) (harg12 : arg12.IsWhole)
  (arg13 : Memref sig .tc .vmem S256x64 .f32) (harg13 : arg13.IsWhole)
  (arg14 : Memref sig .tc .vmem S256x64 .f32) (harg14 : arg14.IsWhole)
  (arg15 : Memref sig .tc .vmem S256x64 .f32) (harg15 : arg15.IsWhole)
  (arg16 : Memref sig .tc .vmem S256x64 .f32) (harg16 : arg16.IsWhole)
  (arg17 : Memref sig .tc .vmem S256x64 .f32) (harg17 : arg17.IsWhole)
  (x2 : Vec Ideal S6144x256 .f32) (x3 : Vec Ideal S6x8x256 .f32) (c : Dev nD) (i : grid9.Coords)

/-- A trip stores rows of the codes. -/
theorem trip9 (k : Fin k9_t1_loop.trips) :
    View.PiecesOf (codG x2 x3) (tripL_k9_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 (harg3.unread x2) k) := by
  unfold tripL_k9_t1 trip_k9_t1
  refine ⟨fun x => ?_, trivial⟩
  dsimp only
  try unfold trip_k9_t1.sl.r_3
  try unfold trip_k9_t1.sl.r_2
  try unfold trip_k9_t1.sl.r_1
  try unfold trip_k9_t1.sl.r
  simp only [View.readAt_eq_ld, Memref.IsWhole.read_unread]
  unfold_payloads
  idx_vars x
  pointwise
  refine codG_eq x2 x3 _ _ _ ?_ ?_
  · refine ext2 ?_ ?_
    · refine Eq.trans ?_ (ValueKit.rect_emb_unit_val _ _ _ _ 0).symm
      rfl
    · refine Eq.trans ?_ (ValueKit.rect_emb_unit_val _ _ _ _ 1).symm
      rfl
  · refine Fin.ext ?_
    refine Eq.trans ?_ (ValueKit.rect_emb_unit_val _ _ _ _ 1).symm
    show x1.val = k9_off1 k 1 + x1.val
    rw [congrFun (offs9 k) 1]
    show x1.val = 0 + x1.val
    omega

/-- So do all the trips before `n`. -/
theorem trips9 (n : ℕ) (hn : n ≤ k9_t1_loop.trips) :
    ∀ p ∈ pb_k9_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x3 (harg3.unread x2) n,
      ∀ x, p.2 x = codG x2 x3 (p.1.emb x) := by
  induction n with
  | zero =>
    intro p hp
    unfold pb_k9_t1 at hp
    cases hp
  | succ n ih =>
    intro p hp
    rw [pb_k9_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ ⟨n, hn⟩, List.mem_append] at hp
    rcases hp with hp | hp
    · exact (trip9 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x2 x3 c i ⟨n, hn⟩).mem p hp
    · exact ih (by omega) p hp

end Block

variable (V : (c : Dev nD) → (b : Ref sig .tc) → Buf (Elt Ideal) ((c : Thread nD τ).loc b))

/-- What the trips together store. -/
theorem codes9 (c : Dev nD) (t : Fin cfg9.N) :
    View.canon (pb_k9_t1 (F := Ideal) Variants.none c none (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (ms9_9 t) (hs9_9 t) (ms9_10 t) (hs9_10 t) (ms9_11 t) (hs9_11 t) (ms9_12 t) (hs9_12 t) (ms9_13 t) (hs9_13 t) (ms9_14 t) (hs9_14 t) (ms9_15 t) (hs9_15 t) (ms9_16 t) (hs9_16 t) (iblk9 V c 3 t) ((hs9_2 t).unread (iblk9 V c 2 t))
      (Scf.trips 0#32 (Scalar.addi 0#32 12#32) 1#32)) = codG (iblk9 V c 2 t) (iblk9 V c 3 t) := by
  funext y
  have hc := cover9_A_10 c (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (ms9_9 t) (hs9_9 t) (ms9_10 t) (hs9_10 t) (ms9_11 t) (hs9_11 t) (ms9_12 t) (hs9_12 t) (ms9_13 t) (hs9_13 t) (ms9_14 t) (hs9_14 t) (ms9_15 t) (hs9_15 t) (ms9_16 t) (hs9_16 t) (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) y
  unfold kernelRun9_A at hc
  dsimp only at hc
  rw [← List.append_nil (pb_k9_t1 (F := Ideal) _ _ _ _ _ _ _ _ _ _ _ _ _ _ _ _ _ _ _ _ _ _ _ _ _ _ _ _ _ _ _ _ _ _ _ _ _ _ _ _ _)]
  refine View.canon_append_of_pieces _ _ _ (trips9 _ _ _ _ _ _ _ _ _ _ _ _ _ _ _ _ _ _ _ _ _ _ _ _ _ _ _ _ _ _ _ _ _ _ _ _ _ _ _ (by decide +kernel)) y ?_
  simp only [View.readAt_eq_ld, Memref.IsWhole.read_unread, ld_maxima] at hc
  exact hc

/-- The codes as a later load finds them. -/
theorem readCodes9 (c : Dev nD) (t : Fin cfg9.N) (v : View sig .tc .vmem S6144x256 .fp8e4m3) :
    v.readCov (pb_k9_t1 (F := Ideal) Variants.none c none (grid9.coords t) (ms9_0 t) (hs9_0 t) (ms9_1 t) (hs9_1 t) (ms9_2 t) (hs9_2 t) (ms9_3 t) (hs9_3 t) (ms9_4 t) (hs9_4 t) (ms9_5 t) (hs9_5 t) (ms9_6 t) (hs9_6 t) (ms9_7 t) (hs9_7 t) (ms9_8 t) (hs9_8 t) (ms9_9 t) (hs9_9 t) (ms9_10 t) (hs9_10 t) (ms9_11 t) (hs9_11 t) (ms9_12 t) (hs9_12 t) (ms9_13 t) (hs9_13 t) (ms9_14 t) (hs9_14 t) (ms9_15 t) (hs9_15 t) (ms9_16 t) (hs9_16 t) (iblk9 V c 3 t) ((hs9_2 t).unread (iblk9 V c 2 t))
      (Scf.trips 0#32 (Scalar.addi 0#32 12#32) 1#32)) (Rect.unit ![0, 0] ![6144, 256] inb_S6144x256_S6144x256_0_0).toLoadRect = codG (iblk9 V c 2 t) (iblk9 V c 3 t) := by
  rw [View.readCov_eq_canon', codes9]
  funext j
  exact congrArg _ (Rect.emb_unit_full (s := S6144x256) inb_S6144x256_S6144x256_0_0 j)

/-- What the block of codes holds after the body. -/
theorem outsAt9_codes (c : Dev nD) (t : Fin cfg9.N) : (outsAt9 V c t).1 = codG (iblk9 V c 2 t) (iblk9 V c 3 t) := by
  rw [← codes9 V c t]
  unfold outsAt9 out9_A_10
  rw [View.read_writes_junk_eq_canon]
  unfold kernelRun9_A
  dsimp only
  simp only [View.readAt_eq_ld, Memref.IsWhole.read_unread, ld_maxima]

/-- What the block of scales holds after the body. -/
theorem outsAt9_scale (c : Dev nD) (t : Fin cfg9.N) (y : S1x256.Idx) : (outsAt9 V c t).2.1 y = scaleV (colM (iblk9 V c 3 t) (y 1)) := by
  idx_vars y
  unfold outsAt9
  frame_out
  unfold_payloads
  pointwise
  first
    | rfl

end Cert.MlpIdeal.Region
-- ==== Proof.CArr9.lean ====
module

public import proofs.«01_k».proof.Proof.Spec
public import proofs.«01_k».proof.Proof.Codes9
public import proofs.«01_k».proof.Proof.Gen.MlpIdeal.Frame.Region9
public import Idealize.ShloMosaic.Lib.Pipeline.ReadBack
public import Idealize.ShloMosaic.Lib.Pipeline.ValueKit
public import Idealize.ShloMosaic.Lib.Pointwise
public import Idealize.ShloMosaic.Lib.VecWindow

/-! # Call 9: the arrays of codes and scales -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

variable (V : (c : Dev nD) → (b : Ref sig .tc) → Buf (Elt Ideal) ((c : Thread nD τ).loc b))

theorem idxC9 : ∀ t : Fin grid9.N, win9_2.index t = ![0, t.val] ∧ win9_3.index t = ![0, 0, t.val] ∧ win9_10.index t = ![0, t.val] ∧
    win9_11.index t = ![0, t.val] := by
  decide +kernel

theorem blk9_2_at (c : Dev nD) (t : Fin cfg9.N) (i i' : Fin 6144) (j : Fin 256) (d : Fin 11008) (hi : i'.val = i.val) (hd : d.val = t.val * 256 + j.val) :
    iblk9 V c 2 t (ix2 i j) = V c main_v56_3 (ix2 i' d) := by
  blk_ext [iblk9, idxC9 t]

theorem blk9_3_at (c : Dev nD) (t : Fin cfg9.N) (p : Fin 6) (s : Fin 8) (j : Fin 256) (d : Fin 11008) (hd : d.val = t.val * 256 + j.val) :
    iblk9 V c 3 t (ix3 p s j) = V c main_v56_6 (ix3 p s d) := by
  blk_ext [iblk9, idxC9 t]

theorem colM9_blk (c : Dev nD) (t : Fin cfg9.N) (j : Fin 256) (d : Fin 11008) (hd : d.val = t.val * 256 + j.val) :
    colM (iblk9 V c 3 t) j = colK (mat3 (V c main_v56_6)) d := by
  unfold colM colK mat3
  exact congrArg fmax (funext fun x => blk9_3_at V c t _ _ j d hd)

theorem codG9_blk (c : Dev nD) (t : Fin cfg9.N) (i i' : Fin 6144) (j : Fin 256) (d : Fin 11008) (hi : i'.val = i.val) (hd : d.val = t.val * 256 + j.val) :
    codG (iblk9 V c 2 t) (iblk9 V c 3 t) (ix2 i j) = codeV (mat (V c main_v56_3) i' d) (scaleV (colK (mat3 (V c main_v56_6)) d)) := by
  unfold codG
  rw [blk9_2_at V c t i i' j d hi hd]
  exact congrArg (fun e => codeV _ (scaleV e)) (colM9_blk V c t j d hd)

/-- The codes. -/
theorem final9_10 (c : Dev nD) : (dat9 V c).arrAt 10 cfg9.N =
    arr2 (fun r d => codeV (mat (V c main_v56_3) r d) (scaleV (colK (mat3 (V c main_v56_6)) d))) := by
  refine (dat9 V c).arrAt_eq_of_covers 10 _ (by decide +kernel) fun t hf y => ?_
  blk_simp
  rw [after9_10, outsAt9_codes]
  refine (congrArg _ (eq_ix2 (show S6144x256.Idx from y))).trans ?_
  refine codG9_blk V c t _ _ _ _ ?_ ?_ <;> blk_simp [idxC9 t]

/-- The scales. -/
theorem final9_11 (c : Dev nD) : (dat9 V c).arrAt 11 cfg9.N =
    arr2 (fun (_ : Fin 1) d => scaleV (colK (mat3 (V c main_v56_6)) d)) := by
  refine (dat9 V c).arrAt_eq_of_covers 11 _ (by decide +kernel) fun t hf y => ?_
  blk_simp
  rw [after9_11, outsAt9_scale]
  refine congrArg scaleV (colM9_blk V c t _ _ ?_)
  blk_simp [idxC9 t]

end Cert.MlpIdeal.Region
-- ==== Proof.Codes10.lean ====
module

public import proofs.«01_k».proof.Proof.Spec
public import proofs.«01_k».proof.Proof.GsDefs
public import proofs.«01_k».proof.Proof.Gen.MlpIdeal.Frame.Region10
public import Idealize.ShloMosaic.Lib.Pipeline.ReadBack
public import Idealize.ShloMosaic.Lib.Pipeline.ValueKit
public import Idealize.ShloMosaic.Lib.Pointwise
public import Idealize.ShloMosaic.Lib.VecWindow

/-! # Call 10: the loop over blocks of 512 rows fills the block with the codes of its columns -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

/-- The rows a trip touches. -/
theorem offs10 : ∀ k : Fin k10_t1_loop.trips, k10_off1 k = ![512 * k.val, 0] := by
  decide +kernel

section Block
variable (arg1 : Memref sig .tc .vmem S6144x4096 .fp8e4m3) (harg1 : arg1.IsWhole)
  (arg2 : Memref sig .tc .vmem S1x4096 .f32) (harg2 : arg2.IsWhole)
  (arg3 : Memref sig .tc .vmem S6144x256 .f32) (harg3 : arg3.IsWhole)
  (arg4 : Memref sig .tc .vmem S6x8x256 .f32) (harg4 : arg4.IsWhole)
  (arg5 : Memref sig .tc .vmem S16x4096 .i32) (harg5 : arg5.IsWhole)
  (arg6 : Memref sig .tc .vmem S1x4x4096 .f32) (harg6 : arg6.IsWhole)
  (arg7 : Memref sig .tc .vmem S6144x256 .fp8e4m3) (harg7 : arg7.IsWhole)
  (arg8 : Memref sig .tc .vmem S1x256 .f32) (harg8 : arg8.IsWhole)
  (arg9 : Memref sig .tc .vmem S1x4x4096 .f32) (harg9 : arg9.IsWhole)
  (x2 : Vec Ideal S6144x256 .f32) (x3 : Vec Ideal S6x8x256 .f32) (c : Dev nD) (i : grid10.Coords)

/-- A trip stores rows of the codes. -/
theorem trip10 (k : Fin k10_t1_loop.trips) :
    View.PiecesOf (codG x2 x3) (tripL_k10_t1 (F := Ideal) Variants.none c none i arg1 harg1 arg2 harg2 arg3 harg3 arg4 harg4 arg5 harg5 arg6 harg6 arg7 harg7 arg8 harg8 arg9 harg9 x3 (harg3.unread x2) k) := by
  unfold tripL_k10_t1 trip_k10_t1
  refine ⟨fun x => ?_, trivial⟩
  dsimp only
  try unfold trip_k10_t1.sl.r_3
  try unfold trip_k10_t1.sl.r_2
  try unfold trip_k10_t1.sl.r_1
  try unfold trip_k10_t1.sl.r
  simp only [View.readAt_eq_ld, Memref.IsWhole.read_unread]
  unfold_payloads
  idx_vars x
  pointwise
  refine codG_eq x2 x3 _ _ _ ?_ ?_
  · refine ext2 ?_ ?_
    · refine Eq.trans ?_ (ValueKit.rect_emb_unit_val _ _ _ _ 0).symm
      rfl
    · refine Eq.trans ?_ (ValueKit.rect_emb_unit_val _ _ _ _ 1).symm
      rfl
  · refine Fin.ext ?_
    refine Eq.trans ?_ (ValueKit.rect_emb_unit_val _ _ _ _ 1).symm
    show x1.val = k10_off1 k 1 + x1.val
    rw [congrFun (offs10 k) 1]
    show x1.val = 0 + x1.val
    omega

/-- So do all the trips before `n`. -/
theorem trips10 (n : ℕ) (hn : n ≤ k10_t1_loop.trips) :
    ∀ p ∈ pb_k10_t1 (F := Ideal) Variants.none c none i arg1 harg1 arg2 harg2 arg3 harg3 arg4 harg4 arg5 harg5 arg6 harg6 arg7 harg7 arg8 harg8 arg9 harg9 x3 (harg3.unread x2) n,
      ∀ x, p.2 x = codG x2 x3 (p.1.emb x) := by
  induction n with
  | zero =>
    intro p hp
    unfold pb_k10_t1 at hp
    cases hp
  | succ n ih =>
    intro p hp
    rw [pb_k10_t1_succ Variants.none c none i arg1 harg1 arg2 harg2 arg3 harg3 arg4 harg4 arg5 harg5 arg6 harg6 arg7 harg7 arg8 harg8 arg9 harg9 _ _ ⟨n, hn⟩, List.mem_append] at hp
    rcases hp with hp | hp
    · exact (trip10 arg1 harg1 arg2 harg2 arg3 harg3 arg4 harg4 arg5 harg5 arg6 harg6 arg7 harg7 arg8 harg8 arg9 harg9 x2 x3 c i ⟨n, hn⟩).mem p hp
    · exact ih (by omega) p hp

end Block

variable (V : (c : Dev nD) → (b : Ref sig .tc) → Buf (Elt Ideal) ((c : Thread nD τ).loc b))

/-- What the trips together store. -/
theorem codes10 (c : Dev nD) (t : Fin cfg10.N) :
    View.canon (pb_k10_t1 (F := Ideal) Variants.none c none (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (iblk10 V c 3 t) ((hs10_2 t).unread (iblk10 V c 2 t))
      (Scf.trips 0#32 (Scalar.addi 0#32 12#32) 1#32)) = codG (iblk10 V c 2 t) (iblk10 V c 3 t) := by
  funext y
  have hc := cover10_A_6 c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (iblk10 V c 0 t) (iblk10 V c 1 t) (iblk10 V c 2 t) (iblk10 V c 3 t) (iblk10 V c 4 t) (iblk10 V c 5 t) y
  unfold kernelRun10_A at hc
  dsimp only at hc
  rw [← List.append_nil (pb_k10_t1 (F := Ideal) _ _ _ _ _ _ _ _ _ _ _ _ _ _ _ _ _ _ _ _ _ _ _ _ _)]
  refine View.canon_append_of_pieces _ _ _ (trips10 _ _ _ _ _ _ _ _ _ _ _ _ _ _ _ _ _ _ _ _ _ _ _ (by decide +kernel)) y ?_
  simp only [View.readAt_eq_ld, Memref.IsWhole.read_unread, ld_maxima] at hc
  exact hc

/-- The codes as a later load finds them. -/
theorem readCodes10 (c : Dev nD) (t : Fin cfg10.N) (v : View sig .tc .vmem S6144x256 .fp8e4m3) :
    v.readCov (pb_k10_t1 (F := Ideal) Variants.none c none (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (iblk10 V c 3 t) ((hs10_2 t).unread (iblk10 V c 2 t))
      (Scf.trips 0#32 (Scalar.addi 0#32 12#32) 1#32)) (Rect.unit ![0, 0] ![6144, 256] inb_S6144x256_S6144x256_0_0).toLoadRect = codG (iblk10 V c 2 t) (iblk10 V c 3 t) := by
  rw [View.readCov_eq_canon', codes10]
  funext j
  exact congrArg _ (Rect.emb_unit_full (s := S6144x256) inb_S6144x256_S6144x256_0_0 j)

/-- What the block of codes holds after the body. -/
theorem outsAt10_codes (c : Dev nD) (t : Fin cfg10.N) : (outsAt10 V c t).1 = codG (iblk10 V c 2 t) (iblk10 V c 3 t) := by
  rw [← codes10 V c t]
  unfold outsAt10 out10_A_6
  rw [View.read_writes_junk_eq_canon]
  unfold kernelRun10_A
  dsimp only
  simp only [View.readAt_eq_ld, Memref.IsWhole.read_unread, ld_maxima]

/-- What the block of scales holds after the body. -/
theorem outsAt10_scale (c : Dev nD) (t : Fin cfg10.N) (y : S1x256.Idx) : (outsAt10 V c t).2.1 y = scaleV (colM (iblk10 V c 3 t) (y 1)) := by
  idx_vars y
  unfold outsAt10
  frame_out
  unfold_payloads
  pointwise
  first
    | rfl

end Cert.MlpIdeal.Region
-- ==== Proof.CArr10.lean ====
module

public import proofs.«01_k».proof.Proof.Spec
public import proofs.«01_k».proof.Proof.Codes10
public import proofs.«01_k».proof.Proof.Gen.MlpIdeal.Frame.Region10
public import Idealize.ShloMosaic.Lib.Pipeline.ReadBack
public import Idealize.ShloMosaic.Lib.Pipeline.ValueKit
public import Idealize.ShloMosaic.Lib.Pointwise
public import Idealize.ShloMosaic.Lib.VecWindow

/-! # Call 10: the arrays of codes and scales -/

@[expose] public section

set_option maxRecDepth 16384

noncomputable section

namespace Cert.MlpIdeal.Region

open Cert.MlpIdeal Cert.MlpIdeal.Gen Idealize.ShloMosaic Idealize.ShloMosaic.TcCoe Idealize.SL.Sem
open Idealize.ShloMosaic.Pipeline (Dat)
open Cert.MlpSpec

variable (V : (c : Dev nD) → (b : Ref sig .tc) → Buf (Elt Ideal) ((c : Thread nD τ).loc b))

theorem idxC10 : ∀ t : Fin grid10.N, win10_2.index t = ![0, t.val] ∧ win10_3.index t = ![0, 0, t.val] ∧ win10_6.index t = ![0, t.val] ∧
    win10_7.index t = ![0, t.val] := by
  decide +kernel

theorem blk10_2_at (c : Dev nD) (t : Fin cfg10.N) (i i' : Fin 6144) (j : Fin 256) (d : Fin 11008) (hi : i'.val = i.val) (hd : d.val = t.val * 256 + j.val) :
    iblk10 V c 2 t (ix2 i j) = V c main_v56_1 (ix2 i' d) := by
  blk_ext [iblk10, idxC10 t]

theorem blk10_3_at (c : Dev nD) (t : Fin cfg10.N) (p : Fin 6) (s : Fin 8) (j : Fin 256) (d : Fin 11008) (hd : d.val = t.val * 256 + j.val) :
    iblk10 V c 3 t (ix3 p s j) = V c main_v56_4 (ix3 p s d) := by
  blk_ext [iblk10, idxC10 t]

theorem colM10_blk (c : Dev nD) (t : Fin cfg10.N) (j : Fin 256) (d : Fin 11008) (hd : d.val = t.val * 256 + j.val) :
    colM (iblk10 V c 3 t) j = colK (mat3 (V c main_v56_4)) d := by
  unfold colM colK mat3
  exact congrArg fmax (funext fun x => blk10_3_at V c t _ _ j d hd)

theorem codG10_blk (c : Dev nD) (t : Fin cfg10.N) (i i' : Fin 6144) (j : Fin 256) (d : Fin 11008) (hi : i'.val = i.val) (hd : d.val = t.val * 256 + j.val) :
    codG (iblk10 V c 2 t) (iblk10 V c 3 t) (ix2 i j) = codeV (mat (V c main_v56_1) i' d) (scaleV (colK (mat3 (V c main_v56_4)) d)) := by
  unfold codG
  rw [blk10_2_at V c t i i' j d hi hd]
  exact congrArg (fun e => codeV _ (scaleV e)) (colM10_blk V c t j d hd)

/-- The codes. -/
theorem final10_6 (c : Dev nD) : (dat10 V c).arrAt 6 cfg10.N =
    arr2 (fun r d => codeV (mat (V c main_v56_1) r d) (scaleV (colK (mat3 (V c main_v56_4)) d))) := by
  refine (dat10 V c).arrAt_eq_of_covers 6 _ (by decide +kernel) fun t hf y => ?_
  blk_simp
  rw [after10_6, outsAt10_codes]
  refine (congrArg _ (eq_ix2 (show S6144x256.Idx from y))).trans ?_
  refine codG10_blk V c t _ _ _ _ ?_ ?_ <;> blk_simp [idxC10 t]

/-- The scales. -/
theorem final10_7 (c : Dev nD) : (dat10 V c).arrAt 7 cfg10.N =
    arr2 (fun (_ : Fin 1) d => scaleV (colK (mat3 (V c main_v56_4)) d)) := by
  refine (dat10 V c).arrAt_eq_of_covers 7 _ (by decide +kernel) fun t hf y => ?_
  blk_simp
  rw [after10_7, outsAt10_scale]
  refine congrArg scaleV (colM10_blk V c t _ _ ?_)
  blk_simp [idxC10 t]

end Cert.MlpIdeal.Region
-- ==== Proof.KV2.lean ====
module

public import proofs.«01_k».proof.Proof.Gen.MlpIdeal.Frame
public import proofs.«01_k».proof.Proof.Whole
public import proofs.«01_k».proof.Proof.KV1
public import proofs.«01_k».proof.Proof.CArr8
public import proofs.«01_k».proof.Proof.CArr9
public import proofs.«01_k».proof.Proof.CArr10
public import Idealize.ShloMosaic.Lib.StableHlo.ReadAt
public import Idealize.ShloMosaic.Lib.Pointwise

/-! # The results -/

@[expose] public section

set_option maxRecDepth 16384

noncomputable section

namespace Cert.MlpIdeal.Region

open Cert.MlpIdeal Cert.MlpIdeal.Gen Cert.MlpSpec Idealize.ShloMosaic Idealize.ShloMosaic.TcCoe Idealize.SL.Sem

variable (m : (ℓ : Loc nD τ sig) → Buf (Elt Ideal) ℓ) (ρ : Dev nD → PrngReg)

theorem a12_v56_2 (c : Dev nD) : V12 m ρ c main_v56_2 = arr2 (kargs m c).DG := ((W12_of m ρ c main_v56_2 (by decide +kernel)).trans (W11_of m ρ c main_v56_2 (by decide +kernel))).trans (a10_v56_2 m ρ c)

theorem a12_v56_5 (c : Dev nD) : V12 m ρ c main_v56_5 = arr3 (lanemax6 (kargs m c).DG) := (((W12_of m ρ c main_v56_5 (by decide +kernel)).trans (W11_of m ρ c main_v56_5 (by decide +kernel))).trans (W10_of m ρ c main_v56_5 (by decide +kernel))).trans (a9_v56_5 m ρ c)

theorem a13_v88_0 (c : Dev nD) : V13 m ρ c main_v88_0 = arr2 (codeM (kargs m c).DG) :=
  ((W13_arr m ρ c 10).trans (final8_10 (V12 m ρ) c)).trans (by
    rw [a12_v56_2 m ρ c, a12_v56_5 m ρ c]
    simp only [mat_arr2, mat3_arr3, colK_lanemax6]
    first
      | rfl)

theorem a13_v88_1 (c : Dev nD) : V13 m ρ c main_v88_1 = arr2 (scaleM (kargs m c).DG) :=
  ((W13_arr m ρ c 11).trans (final8_11 (V12 m ρ) c)).trans (by
    rw [a12_v56_5 m ρ c]
    simp only [mat_arr2, mat3_arr3, colK_lanemax6]
    first
      | rfl)

theorem a13_v56_3 (c : Dev nD) : V13 m ρ c main_v56_3 = arr2 (kargs m c).DU := (((W13_of m ρ c main_v56_3 (by decide +kernel)).trans (W12_of m ρ c main_v56_3 (by decide +kernel))).trans (W11_of m ρ c main_v56_3 (by decide +kernel))).trans (a10_v56_3 m ρ c)

theorem a13_v56_6 (c : Dev nD) : V13 m ρ c main_v56_6 = arr3 (lanemax6 (kargs m c).DU) := ((((W13_of m ρ c main_v56_6 (by decide +kernel)).trans (W12_of m ρ c main_v56_6 (by decide +kernel))).trans (W11_of m ρ c main_v56_6 (by decide +kernel))).trans (W10_of m ρ c main_v56_6 (by decide +kernel))).trans (a9_v56_6 m ρ c)

theorem a14_v89_0 (c : Dev nD) : V14 m ρ c main_v89_0 = arr2 (codeM (kargs m c).DU) :=
  ((W14_arr m ρ c 10).trans (final9_10 (V13 m ρ) c)).trans (by
    rw [a13_v56_3 m ρ c, a13_v56_6 m ρ c]
    simp only [mat_arr2, mat3_arr3, colK_lanemax6]
    first
      | rfl)

theorem a14_v89_1 (c : Dev nD) : V14 m ρ c main_v89_1 = arr2 (scaleM (kargs m c).DU) :=
  ((W14_arr m ρ c 11).trans (final9_11 (V13 m ρ) c)).trans (by
    rw [a13_v56_6 m ρ c]
    simp only [mat_arr2, mat3_arr3, colK_lanemax6]
    first
      | rfl)

theorem a15_v56_1 (c : Dev nD) : V15 m ρ c main_v56_1 = arr2 (kargs m c).HH := ((((((W15_of m ρ c main_v56_1 (by decide +kernel)).trans (W14_of m ρ c main_v56_1 (by decide +kernel))).trans (W13_of m ρ c main_v56_1 (by decide +kernel))).trans (W12_of m ρ c main_v56_1 (by decide +kernel))).trans (W11_of m ρ c main_v56_1 (by decide +kernel))).trans (W10_of m ρ c main_v56_1 (by decide +kernel))).trans (a9_v56_1 m ρ c)

theorem a15_v56_4 (c : Dev nD) : V15 m ρ c main_v56_4 = arr3 (lanemax6 (kargs m c).HH) := ((((((W15_of m ρ c main_v56_4 (by decide +kernel)).trans (W14_of m ρ c main_v56_4 (by decide +kernel))).trans (W13_of m ρ c main_v56_4 (by decide +kernel))).trans (W12_of m ρ c main_v56_4 (by decide +kernel))).trans (W11_of m ρ c main_v56_4 (by decide +kernel))).trans (W10_of m ρ c main_v56_4 (by decide +kernel))).trans (a9_v56_4 m ρ c)

theorem a16_v91_0 (c : Dev nD) : V16 m ρ c main_v91_0 = arr2 (codeM (kargs m c).HH) :=
  ((W16_arr m ρ c 6).trans (final10_6 (V15 m ρ) c)).trans (by
    rw [a15_v56_1 m ρ c, a15_v56_4 m ρ c]
    simp only [mat_arr2, mat3_arr3, colK_lanemax6]
    first
      | rfl)

theorem a16_v91_1 (c : Dev nD) : V16 m ρ c main_v91_1 = arr2 (scaleM (kargs m c).HH) :=
  ((W16_arr m ρ c 7).trans (final10_7 (V15 m ρ) c)).trans (by
    rw [a15_v56_4 m ρ c]
    simp only [mat_arr2, mat3_arr3, colK_lanemax6]
    first
      | rfl)

theorem a18_v58_1 (c : Dev nD) : V18 m ρ c main_v58_1 = arr2 fun r (_ : Fin 128) => (kargs m c).C r := (((((((W18_of m ρ c main_v58_1 (by decide +kernel)).trans (W17_of m ρ c main_v58_1 (by decide +kernel))).trans (W16_of m ρ c main_v58_1 (by decide +kernel))).trans (W15_of m ρ c main_v58_1 (by decide +kernel))).trans (W14_of m ρ c main_v58_1 (by decide +kernel))).trans (W13_of m ρ c main_v58_1 (by decide +kernel))).trans (W12_of m ρ c main_v58_1 (by decide +kernel))).trans (a11_v58_1 m ρ c)

theorem a19_v95 (c : Dev nD) : W19 m ρ c (Proc.devRef .tc main_v95) = fun y => (kargs m c).C (y 0) := by
  funext y
  refine (congrArg _ (eq_ix1 (show S6144.Idx from y))).trans ?_
  show StableHlo.after (hostOps12 (F := Ideal)) (W18 m ρ c) (Proc.devRef .tc main_v95) (ix1 (y 0)) = _
  after_reads_at
  exact congrFun (a18_v58_1 m ρ c) _

theorem a19_v57 (c : Dev nD) : W19 m ρ c (Proc.devRef .tc main_v57) = arr2 (kargs m c).Y := (((((((((W19_of m ρ c main_v57 (by decide +kernel)).trans (W18_of m ρ c main_v57 (by decide +kernel))).trans (W17_of m ρ c main_v57 (by decide +kernel))).trans (W16_of m ρ c main_v57 (by decide +kernel))).trans (W15_of m ρ c main_v57 (by decide +kernel))).trans (W14_of m ρ c main_v57 (by decide +kernel))).trans (W13_of m ρ c main_v57 (by decide +kernel))).trans (W12_of m ρ c main_v57 (by decide +kernel))).trans (W11_of m ρ c main_v57 (by decide +kernel))).trans (a10_v57 m ρ c)

theorem a19_v58_0 (c : Dev nD) : W19 m ρ c (Proc.devRef .tc main_v58_0) = arr2 (kargs m c).DX := ((((((((W19_of m ρ c main_v58_0 (by decide +kernel)).trans (W18_of m ρ c main_v58_0 (by decide +kernel))).trans (W17_of m ρ c main_v58_0 (by decide +kernel))).trans (W16_of m ρ c main_v58_0 (by decide +kernel))).trans (W15_of m ρ c main_v58_0 (by decide +kernel))).trans (W14_of m ρ c main_v58_0 (by decide +kernel))).trans (W13_of m ρ c main_v58_0 (by decide +kernel))).trans (W12_of m ρ c main_v58_0 (by decide +kernel))).trans (a11_v58_0 m ρ c)

theorem a19_v56_0 (c : Dev nD) : W19 m ρ c (Proc.devRef .tc main_v56_0) = arr2 (kargs m c).HH := ((((((((((W19_of m ρ c main_v56_0 (by decide +kernel)).trans (W18_of m ρ c main_v56_0 (by decide +kernel))).trans (W17_of m ρ c main_v56_0 (by decide +kernel))).trans (W16_of m ρ c main_v56_0 (by decide +kernel))).trans (W15_of m ρ c main_v56_0 (by decide +kernel))).trans (W14_of m ρ c main_v56_0 (by decide +kernel))).trans (W13_of m ρ c main_v56_0 (by decide +kernel))).trans (W12_of m ρ c main_v56_0 (by decide +kernel))).trans (W11_of m ρ c main_v56_0 (by decide +kernel))).trans (W10_of m ρ c main_v56_0 (by decide +kernel))).trans (a9_v56_0 m ρ c)

theorem a19_v55_0 (c : Dev nD) : W19 m ρ c (Proc.devRef .tc main_v55_0) = arr2 (codeM (kargs m c).XN) := (((((((((((W19_of m ρ c main_v55_0 (by decide +kernel)).trans (W18_of m ρ c main_v55_0 (by decide +kernel))).trans (W17_of m ρ c main_v55_0 (by decide +kernel))).trans (W16_of m ρ c main_v55_0 (by decide +kernel))).trans (W15_of m ρ c main_v55_0 (by decide +kernel))).trans (W14_of m ρ c main_v55_0 (by decide +kernel))).trans (W13_of m ρ c main_v55_0 (by decide +kernel))).trans (W12_of m ρ c main_v55_0 (by decide +kernel))).trans (W11_of m ρ c main_v55_0 (by decide +kernel))).trans (W10_of m ρ c main_v55_0 (by decide +kernel))).trans (W9_of m ρ c main_v55_0 (by decide +kernel))).trans (a8_v55_0 m ρ c)

theorem a19_v55_3 (c : Dev nD) : W19 m ρ c (Proc.devRef .tc main_v55_3) = arr2 (scaleM (kargs m c).XN) := (((((((((((W19_of m ρ c main_v55_3 (by decide +kernel)).trans (W18_of m ρ c main_v55_3 (by decide +kernel))).trans (W17_of m ρ c main_v55_3 (by decide +kernel))).trans (W16_of m ρ c main_v55_3 (by decide +kernel))).trans (W15_of m ρ c main_v55_3 (by decide +kernel))).trans (W14_of m ρ c main_v55_3 (by decide +kernel))).trans (W13_of m ρ c main_v55_3 (by decide +kernel))).trans (W12_of m ρ c main_v55_3 (by decide +kernel))).trans (W11_of m ρ c main_v55_3 (by decide +kernel))).trans (W10_of m ρ c main_v55_3 (by decide +kernel))).trans (W9_of m ρ c main_v55_3 (by decide +kernel))).trans (a8_v55_3 m ρ c)

theorem a19_v55_2 (c : Dev nD) : W19 m ρ c (Proc.devRef .tc main_v55_2) = arr2 (codeM (kargs m c).DY) := (((((((((((W19_of m ρ c main_v55_2 (by decide +kernel)).trans (W18_of m ρ c main_v55_2 (by decide +kernel))).trans (W17_of m ρ c main_v55_2 (by decide +kernel))).trans (W16_of m ρ c main_v55_2 (by decide +kernel))).trans (W15_of m ρ c main_v55_2 (by decide +kernel))).trans (W14_of m ρ c main_v55_2 (by decide +kernel))).trans (W13_of m ρ c main_v55_2 (by decide +kernel))).trans (W12_of m ρ c main_v55_2 (by decide +kernel))).trans (W11_of m ρ c main_v55_2 (by decide +kernel))).trans (W10_of m ρ c main_v55_2 (by decide +kernel))).trans (W9_of m ρ c main_v55_2 (by decide +kernel))).trans (a8_v55_2 m ρ c)

theorem a19_v55_4 (c : Dev nD) : W19 m ρ c (Proc.devRef .tc main_v55_4) = arr2 (scaleM (kargs m c).DY) := (((((((((((W19_of m ρ c main_v55_4 (by decide +kernel)).trans (W18_of m ρ c main_v55_4 (by decide +kernel))).trans (W17_of m ρ c main_v55_4 (by decide +kernel))).trans (W16_of m ρ c main_v55_4 (by decide +kernel))).trans (W15_of m ρ c main_v55_4 (by decide +kernel))).trans (W14_of m ρ c main_v55_4 (by decide +kernel))).trans (W13_of m ρ c main_v55_4 (by decide +kernel))).trans (W12_of m ρ c main_v55_4 (by decide +kernel))).trans (W11_of m ρ c main_v55_4 (by decide +kernel))).trans (W10_of m ρ c main_v55_4 (by decide +kernel))).trans (W9_of m ρ c main_v55_4 (by decide +kernel))).trans (a8_v55_4 m ρ c)

theorem a19_v91_0 (c : Dev nD) : W19 m ρ c (Proc.devRef .tc main_v91_0) = arr2 (codeM (kargs m c).HH) := (((W19_of m ρ c main_v91_0 (by decide +kernel)).trans (W18_of m ρ c main_v91_0 (by decide +kernel))).trans (W17_of m ρ c main_v91_0 (by decide +kernel))).trans (a16_v91_0 m ρ c)

theorem a19_v91_1 (c : Dev nD) : W19 m ρ c (Proc.devRef .tc main_v91_1) = arr2 (scaleM (kargs m c).HH) := (((W19_of m ρ c main_v91_1 (by decide +kernel)).trans (W18_of m ρ c main_v91_1 (by decide +kernel))).trans (W17_of m ρ c main_v91_1 (by decide +kernel))).trans (a16_v91_1 m ρ c)

theorem a19_v88_0 (c : Dev nD) : W19 m ρ c (Proc.devRef .tc main_v88_0) = arr2 (codeM (kargs m c).DG) := ((((((W19_of m ρ c main_v88_0 (by decide +kernel)).trans (W18_of m ρ c main_v88_0 (by decide +kernel))).trans (W17_of m ρ c main_v88_0 (by decide +kernel))).trans (W16_of m ρ c main_v88_0 (by decide +kernel))).trans (W15_of m ρ c main_v88_0 (by decide +kernel))).trans (W14_of m ρ c main_v88_0 (by decide +kernel))).trans (a13_v88_0 m ρ c)

theorem a19_v88_1 (c : Dev nD) : W19 m ρ c (Proc.devRef .tc main_v88_1) = arr2 (scaleM (kargs m c).DG) := ((((((W19_of m ρ c main_v88_1 (by decide +kernel)).trans (W18_of m ρ c main_v88_1 (by decide +kernel))).trans (W17_of m ρ c main_v88_1 (by decide +kernel))).trans (W16_of m ρ c main_v88_1 (by decide +kernel))).trans (W15_of m ρ c main_v88_1 (by decide +kernel))).trans (W14_of m ρ c main_v88_1 (by decide +kernel))).trans (a13_v88_1 m ρ c)

theorem a19_v89_0 (c : Dev nD) : W19 m ρ c (Proc.devRef .tc main_v89_0) = arr2 (codeM (kargs m c).DU) := (((((W19_of m ρ c main_v89_0 (by decide +kernel)).trans (W18_of m ρ c main_v89_0 (by decide +kernel))).trans (W17_of m ρ c main_v89_0 (by decide +kernel))).trans (W16_of m ρ c main_v89_0 (by decide +kernel))).trans (W15_of m ρ c main_v89_0 (by decide +kernel))).trans (a14_v89_0 m ρ c)

theorem a19_v89_1 (c : Dev nD) : W19 m ρ c (Proc.devRef .tc main_v89_1) = arr2 (scaleM (kargs m c).DU) := (((((W19_of m ρ c main_v89_1 (by decide +kernel)).trans (W18_of m ρ c main_v89_1 (by decide +kernel))).trans (W17_of m ρ c main_v89_1 (by decide +kernel))).trans (W16_of m ρ c main_v89_1 (by decide +kernel))).trans (W15_of m ρ c main_v89_1 (by decide +kernel))).trans (a14_v89_1 m ρ c)

end Cert.MlpIdeal.Region
-- ==== Proof.KRun.lean ====
module

public import proofs.«01_k».proof.Proof.Gen.MlpIdeal.Frame.Record0
public import proofs.«01_k».proof.Proof.Gen.MlpIdeal.Frame.Record1
public import proofs.«01_k».proof.Proof.Gen.MlpIdeal.Frame.Record2
public import proofs.«01_k».proof.Proof.Gen.MlpIdeal.Frame.Record3
public import proofs.«01_k».proof.Proof.Gen.MlpIdeal.Frame.Record4
public import proofs.«01_k».proof.Proof.Gen.MlpIdeal.Frame.Record5
public import proofs.«01_k».proof.Proof.Gen.MlpIdeal.Frame.Record6
public import proofs.«01_k».proof.Proof.Gen.MlpIdeal.Frame.Record7
public import proofs.«01_k».proof.Proof.Gen.MlpIdeal.Frame.Record8
public import proofs.«01_k».proof.Proof.Gen.MlpIdeal.Frame.Record9
public import proofs.«01_k».proof.Proof.Gen.MlpIdeal.Frame.Record10
public import proofs.«01_k».proof.Proof.Gen.MlpIdeal.Frame.Record11
public import proofs.«01_k».proof.Proof.Gen.MlpIdeal.Frame
public import proofs.«01_k».proof.Proof.KV2

/-! # The run of the kernel -/

@[expose] public section

set_option maxRecDepth 16384

noncomputable section

namespace Cert.MlpIdeal.Region

open Cert.MlpIdeal Cert.MlpIdeal.Gen Cert.MlpSpec Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair run of the kernel ends with each core's arrays as the last boundary of the twelve calls has them. -/
theorem run_last : θ_run defs (onTc (τ := τ) (main (F := Ideal))) ⟨m, fun _ => 0, ρ⟩ (fun r => ∀ c : Dev nD, ∀ b ∈ Pipeline.ucRefs τ sig,
      r.2.mem (((c : Thread nD τ)).1, b) = W19 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h _ => h)

/-- What every run of the kernel leaves: the fourteen results, and the arguments as they were. -/
theorem kernelRun : θ_run defs (onTc (τ := τ) (main (F := Ideal))) ⟨m, fun _ => 0, ρ⟩ (fun r => ∀ c : Dev nD,
      r.2.mem ((c.tc : Thread nD τ).loc main_v57) = arr2 (kargs m c).Y
      ∧ r.2.mem ((c.tc : Thread nD τ).loc main_v58_0) = arr2 (kargs m c).DX
      ∧ r.2.mem ((c.tc : Thread nD τ).loc main_v95) = (fun y => (kargs m c).C (y 0))
      ∧ r.2.mem ((c.tc : Thread nD τ).loc main_v56_0) = arr2 (kargs m c).HH
      ∧ r.2.mem ((c.tc : Thread nD τ).loc main_v55_0) = arr2 (codeM (kargs m c).XN)
      ∧ r.2.mem ((c.tc : Thread nD τ).loc main_v55_3) = arr2 (scaleM (kargs m c).XN)
      ∧ r.2.mem ((c.tc : Thread nD τ).loc main_v91_0) = arr2 (codeM (kargs m c).HH)
      ∧ r.2.mem ((c.tc : Thread nD τ).loc main_v91_1) = arr2 (scaleM (kargs m c).HH)
      ∧ r.2.mem ((c.tc : Thread nD τ).loc main_v55_2) = arr2 (codeM (kargs m c).DY)
      ∧ r.2.mem ((c.tc : Thread nD τ).loc main_v55_4) = arr2 (scaleM (kargs m c).DY)
      ∧ r.2.mem ((c.tc : Thread nD τ).loc main_v88_0) = arr2 (codeM (kargs m c).DG)
      ∧ r.2.mem ((c.tc : Thread nD τ).loc main_v88_1) = arr2 (scaleM (kargs m c).DG)
      ∧ r.2.mem ((c.tc : Thread nD τ).loc main_v89_0) = arr2 (codeM (kargs m c).DU)
      ∧ r.2.mem ((c.tc : Thread nD τ).loc main_v89_1) = arr2 (scaleM (kargs m c).DU)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨
    (h c _ (mem_uc main_v57 (by decide))).trans (a19_v57 m ρ c),
    (h c _ (mem_uc main_v58_0 (by decide))).trans (a19_v58_0 m ρ c),
    (h c _ (mem_uc main_v95 (by decide))).trans (a19_v95 m ρ c),
    (h c _ (mem_uc main_v56_0 (by decide))).trans (a19_v56_0 m ρ c),
    (h c _ (mem_uc main_v55_0 (by decide))).trans (a19_v55_0 m ρ c),
    (h c _ (mem_uc main_v55_3 (by decide))).trans (a19_v55_3 m ρ c),
    (h c _ (mem_uc main_v91_0 (by decide))).trans (a19_v91_0 m ρ c),
    (h c _ (mem_uc main_v91_1 (by decide))).trans (a19_v91_1 m ρ c),
    (h c _ (mem_uc main_v55_2 (by decide))).trans (a19_v55_2 m ρ c),
    (h c _ (mem_uc main_v55_4 (by decide))).trans (a19_v55_4 m ρ c),
    (h c _ (mem_uc main_v88_0 (by decide))).trans (a19_v88_0 m ρ c),
    (h c _ (mem_uc main_v88_1 (by decide))).trans (a19_v88_1 m ρ c),
    (h c _ (mem_uc main_v89_0 (by decide))).trans (a19_v89_0 m ρ c),
    (h c _ (mem_uc main_v89_1 (by decide))).trans (a19_v89_1 m ρ c),
    (h c _ (mem_uc main_arg0 (by decide))).trans (W19_main_arg0 m ρ c),
    (h c _ (mem_uc main_arg1 (by decide))).trans (W19_main_arg1 m ρ c),
    (h c _ (mem_uc main_arg2 (by decide))).trans (W19_main_arg2 m ρ c),
    (h c _ (mem_uc main_arg3 (by decide))).trans (W19_main_arg3 m ρ c),
    (h c _ (mem_uc main_arg4 (by decide))).trans (W19_main_arg4 m ρ c),
    (h c _ (mem_uc main_arg5 (by decide))).trans (W19_main_arg5 m ρ c),
    (h c _ (mem_uc main_arg6 (by decide))).trans (W19_main_arg6 m ρ c),
    (h c _ (mem_uc main_arg7 (by decide))).trans (W19_main_arg7 m ρ c),
    (h c _ (mem_uc main_arg8 (by decide))).trans (W19_main_arg8 m ρ c),
    (h c _ (mem_uc main_arg9 (by decide))).trans (W19_main_arg9 m ρ c),
    (h c _ (mem_uc main_arg10 (by decide))).trans (W19_main_arg10 m ρ c),
    (h c _ (mem_uc main_arg11 (by decide))).trans (W19_main_arg11 m ρ c),
    (h c _ (mem_uc main_arg12 (by decide))).trans (W19_main_arg12 m ρ c),
    (h c _ (mem_uc main_arg13 (by decide))).trans (W19_main_arg13 m ρ c),
    (h c _ (mem_uc main_arg14 (by decide))).trans (W19_main_arg14 m ρ c),
    (h c _ (mem_uc main_arg15 (by decide))).trans (W19_main_arg15 m ρ c),
    (h c _ (mem_uc main_arg16 (by decide))).trans (W19_main_arg16 m ρ c),
    (h c _ (mem_uc main_arg17 (by decide))).trans (W19_main_arg17 m ρ c),
    (h c _ (mem_uc main_arg18 (by decide))).trans (W19_main_arg18 m ρ c),
    (h c _ (mem_uc main_arg19 (by decide))).trans (W19_main_arg19 m ρ c),
    (h c _ (mem_uc main_arg20 (by decide))).trans (W19_main_arg20 m ρ c),
    (h c _ (mem_uc main_arg21 (by decide))).trans (W19_main_arg21 m ρ c)⟩) (run_last m ρ)

end Cert.MlpIdeal.Region
-- ==== Proof.RC.lean ====
module

public import proofs.«01_k».proof.Proof.Spec
public import proofs.«01_k».proof.Proof.Gen.MlpRefIdeal.Frame
public import proofs.«01_k».proof.Proof.Whole
public import Idealize.ShloMosaic.Lib.Pipeline.ValueKit
public import Idealize.ShloMosaic.Lib.Pointwise
public import Idealize.ShloMosaic.Lib.StableHlo.ReadAt

/-! # The codes and scales of the reference -/

@[expose] public section

set_option maxRecDepth 16384

noncomputable section

namespace Cert.MlpRefIdeal.RefValue

open Cert.MlpRefIdeal Cert.MlpRefIdeal.Gen Idealize.ShloMosaic Idealize.ShloMosaic.TcCoe Idealize.SL.Sem
open Cert.MlpSpec

variable (m : (ℓ : Loc nD τ sig) → Buf (Elt Ideal) ℓ)

/-- A maximum over the rows, at a column. -/
theorem colfold {n k : ℕ} (h : Shape.Reduces (⟨2, ![n, k]⟩ : Shape) [0] ⟨1, ![k]⟩) (src : FVec Ideal (⟨2, ![n, k]⟩ : Shape) .f32) (h1) (h2) (d : Fin k) :
    multiReduction .maximumf [0] (⟨1, ![k]⟩ : Shape) src 0xFF800000#32 h h1 h2 (ix1 d) = fmax fun x => src (ix2 x d) := by
  pointwise
  first
    | rfl

/-- The maximum of the magnitudes over the rows, at a column. -/
theorem colabs {n k : ℕ} (h : Shape.Reduces (⟨2, ![n, k]⟩ : Shape) [0] ⟨1, ![k]⟩) (h1) (h2) (v w : FVec Ideal (⟨2, ![n, k]⟩ : Shape) .f32) (d : Fin k) (hw : w = v) :
    multiReduction (F := Ideal) .maximumf [0] (⟨1, ![k]⟩ : Shape) (absf w) 0xFF800000#32 h h1 h2 (ix1 d) = colmax (mat v) d := by
  subst hw
  exact (colfold h (absf w) h1 h2 d).trans rfl

theorem cast3 (x : Vec Ideal S6144x4096 .f32) : k0_pay3 (F := Ideal) x = x := by
  funext y
  unfold k0_pay3
  idx_vars y
  pointwise

theorem cast4 (x : Vec Ideal S6144x11008 .f32) : k0_pay4 (F := Ideal) x = x := by
  funext y
  unfold k0_pay4
  idx_vars y
  pointwise

theorem code_vec {s : Shape} (v L : FVec Ideal s .f32) (i : s.Idx) :
    truncf .fp8e4m3 (minimumf (broadcast s (Scalar.ofBits .f32 0x43E00000#32)) (maximumf (broadcast s (Scalar.ofBits .f32 0xC3E00000#32)) (divf v L))) bitsLt_fp8e4m3_f32 i =
      codeV (v i) (L i) := rfl

theorem scale_vec {n : ℕ} (M : FVec Ideal (⟨2, ![1, n]⟩ : Shape) .f32) (i : (⟨2, ![1, n]⟩ : Shape).Idx) :
    select (cmpf .ogt M (broadcast (⟨2, ![1, n]⟩ : Shape) (Scalar.ofBits .f32 0x00000000#32))) (divf M (broadcast (⟨2, ![1, n]⟩ : Shape) (Scalar.ofBits .f32 0x43E00000#32)))
      (broadcast (⟨2, ![1, n]⟩ : Shape) (Scalar.ofBits .f32 0x3F800000#32)) i = scaleV (M i) := by
  pointwise
  rfl

theorem rows4096 (q : Fin 6144) (r : Fin 4096) (M : FVec Ideal S1x4096 .f32) : broadcastTo S6144x4096 M broadcasts_S1x4096_S6144x4096 (ix2 q r) = M (ix2 (0 : Fin 1) r) := by
  pointwise

theorem row4096 (q : Fin 1) (r : Fin 4096) (M : FVec Ideal S4096 .f32) : shapeCast S1x4096 M shapeCasts_S4096_S1x4096 (ix2 q r) = M (ix1 r) := by
  pointwise

theorem rows11008 (q : Fin 6144) (r : Fin 11008) (M : FVec Ideal S1x11008 .f32) : broadcastTo S6144x11008 M broadcasts_S1x11008_S6144x11008 (ix2 q r) = M (ix2 (0 : Fin 1) r) := by
  pointwise

theorem row11008 (q : Fin 1) (r : Fin 11008) (M : FVec Ideal S11008 .f32) : shapeCast S1x11008 M shapeCasts_S11008_S1x11008 (ix2 q r) = M (ix1 r) := by
  pointwise

theorem pay8_eq (v : Vec Ideal S6144x4096 .f32) (q : Fin 1) (r : Fin 4096) : k0_pay8 (F := Ideal) v (ix2 q r) = scaleM (mat v) q r := by
  unfold k0_pay8
  refine (scale_vec _ _).trans (congrArg scaleV ?_)
  exact (row4096 q r _).trans (colabs reduces_S6144x4096_S4096 (.inl rfl) rfl v (k0_pay3 v) r (cast3 v))

theorem pay9_eq (v : Vec Ideal S6144x4096 .f32) (q : Fin 6144) (r : Fin 4096) : k0_pay9 (F := Ideal) v (ix2 q r) = codeM (mat v) q r := by
  unfold k0_pay9
  rw [cast3]
  refine (code_vec v _ (ix2 q r)).trans ?_
  rw [rows4096, pay8_eq]
  rfl

theorem pay10_eq (v : Vec Ideal S6144x11008 .f32) (q : Fin 1) (r : Fin 11008) : k0_pay10 (F := Ideal) v (ix2 q r) = scaleM (mat v) q r := by
  unfold k0_pay10
  refine (scale_vec _ _).trans (congrArg scaleV ?_)
  exact (row11008 q r _).trans (colabs reduces_S6144x11008_S11008 (.inl rfl) rfl v (k0_pay4 v) r (cast4 v))

theorem pay13_eq (v : Vec Ideal S6144x11008 .f32) (q : Fin 6144) (r : Fin 11008) : k0_pay13 (F := Ideal) (k0_pay11 v) (Scalar.ofBits .f32 0x43E00000#32) (k0_pay12 (F := Ideal)) (ix2 q r) = codeM (mat v) q r := by
  unfold k0_pay13 k0_pay11 k0_pay12
  rw [cast4]
  refine (code_vec v _ (ix2 q r)).trans ?_
  rw [rows11008, pay10_eq]
  rfl

theorem pay14_eq (v : Vec Ideal S6144x4096 .f32) (q : Fin 1) (r : Fin 4096) : k0_pay14 (F := Ideal) v (ix2 q r) = scaleM (mat v) q r := by
  unfold k0_pay14
  refine (scale_vec _ _).trans (congrArg scaleV ?_)
  exact (row4096 q r _).trans (colabs reduces_S6144x4096_S4096 (.inl rfl) rfl v v r rfl)

theorem pay15_eq (v : Vec Ideal S6144x4096 .f32) (q : Fin 6144) (r : Fin 4096) : k0_pay15 (F := Ideal) v (ix2 q r) = codeM (mat v) q r := by
  unfold k0_pay15
  refine (code_vec v _ (ix2 q r)).trans ?_
  rw [rows4096, pay14_eq]
  rfl

theorem pay16_eq (v : Vec Ideal S6144x11008 .f32) (q : Fin 1) (r : Fin 11008) : k0_pay16 (F := Ideal) v (ix2 q r) = scaleM (mat v) q r := by
  unfold k0_pay16
  refine (scale_vec _ _).trans (congrArg scaleV ?_)
  exact (row11008 q r _).trans (colabs reduces_S6144x11008_S11008 (.inl rfl) rfl v v r rfl)

theorem pay17_eq (v : Vec Ideal S6144x11008 .f32) (q : Fin 6144) (r : Fin 11008) : k0_pay17 (F := Ideal) v (ix2 q r) = codeM (mat v) q r := by
  unfold k0_pay17
  refine (code_vec v _ (ix2 q r)).trans ?_
  rw [rows11008, pay16_eq]
  rfl

theorem pay1_eq (v : Vec Ideal S6144x11008 .f32) (q : Fin 1) (r : Fin 11008) : k0_pay1 (F := Ideal) (k0_pay19 (F := Ideal) v) (k0_pay20 (F := Ideal) v) (k0_pay21 (F := Ideal)) (ix2 q r) = scaleM (mat v) q r := by
  unfold k0_pay1 k0_pay19 k0_pay20 k0_pay21 k0_pay18
  refine (scale_vec _ _).trans (congrArg scaleV ?_)
  exact (row11008 q r _).trans (colabs reduces_S6144x11008_S11008 (.inl rfl) rfl v v r rfl)

theorem pay2_eq (v : Vec Ideal S6144x11008 .f32) (q : Fin 6144) (r : Fin 11008) : k0_pay2 (F := Ideal) v (k0_pay19 (F := Ideal) v) (k0_pay20 (F := Ideal) v) (k0_pay21 (F := Ideal)) (ix2 q r) = codeM (mat v) q r := by
  unfold k0_pay2
  refine (code_vec v _ (ix2 q r)).trans ?_
  rw [rows11008, pay1_eq]
  rfl

end Cert.MlpRefIdeal.RefValue
-- ==== Proof.RV0.lean ====
module

public import proofs.«01_k».proof.Proof.Spec
public import proofs.«01_k».proof.Proof.Gen.MlpRefIdeal.Frame
public import proofs.«01_k».proof.Proof.Whole
public import Idealize.ShloMosaic.Lib.Pipeline.ValueKit
public import Idealize.ShloMosaic.Lib.Pointwise
public import Idealize.ShloMosaic.Lib.StableHlo.ReadAt

/-! # What the host of the reference computes: tokens and weights -/

@[expose] public section

set_option maxRecDepth 16384

noncomputable section

namespace Cert.MlpRefIdeal.RefValue

open Cert.MlpRefIdeal Cert.MlpRefIdeal.Gen Idealize.ShloMosaic Idealize.ShloMosaic.TcCoe Idealize.SL.Sem
open Cert.MlpSpec

variable (m : (ℓ : Loc nD τ sig) → Buf (Elt Ideal) ℓ)

theorem after_app (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

/-- The contents after the host's lines, as those after its later lines. -/
theorem V0_split (k : ℕ) (c : Dev nD) :
    StableHlo.after (hostOps0 (F := Ideal)) (fun b => m (c, b)) = StableHlo.after (List.drop k hostOps0) (StableHlo.after (List.take k hostOps0) (fun b => m (c, b))) := by
  rw [← after_app, List.take_append_drop]

/-- The arguments. -/
def rargs (c : Dev nD) : Args :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21)⟩

/-- The entries of a buffer of the host. -/
def b103 (c : Dev nD) : Mat 6144 4096 := mat (V m c main_v103)
/-- The entries of a buffer of the host. -/
def b104 (c : Dev nD) : Mat 6144 4096 := mat (V m c main_v104)
/-- The entries of a buffer of the host. -/
def b114 (c : Dev nD) : Mat 6144 1 := mat (V m c main_v114)
/-- The entries of a buffer of the host. -/
def b119 (c : Dev nD) : Mat 6144 4096 := mat (V m c main_v119)
/-- The entries of a buffer of the host. -/
def b120 (c : Dev nD) : Mat 6144 4096 := mat (V m c main_v120)
/-- The entries of a buffer of the host. -/
def b33 (c : Dev nD) : Mat 11008 4096 := mat (V m c main_v33)
/-- The entries of a buffer of the host. -/
def b67 (c : Dev nD) : Mat 11008 4096 := mat (V m c main_v67)
/-- The entries of a buffer of the host. -/
def b101 (c : Dev nD) : Mat 4096 11008 := mat (V m c main_v101)
/-- The entries of a buffer of the host. -/
def b32 (c : Dev nD) : Mat 11008 4096 := mat (V m c main_v32)
/-- The entries of a buffer of the host. -/
def b66 (c : Dev nD) : Mat 11008 4096 := mat (V m c main_v66)
/-- The entries of a buffer of the host. -/
def b100 (c : Dev nD) : Mat 4096 11008 := mat (V m c main_v100)
/-- The entries of a buffer of the host. -/
def b121 (c : Dev nD) : Mat 6144 11008 := mat (V m c main_v121)
/-- The entries of a buffer of the host. -/
def b122 (c : Dev nD) : Mat 6144 11008 := mat (V m c main_v122)
/-- The entries of a buffer of the host. -/
def b130 (c : Dev nD) : Mat 6144 11008 := mat (V m c main_v130)
/-- The entries of a buffer of the host. -/
def b131 (c : Dev nD) : Mat 6144 11008 := mat (V m c main_v131)
/-- The entries of a buffer of the host. -/
def b134 (c : Dev nD) : Mat 6144 4096 := mat (V m c main_v134)
/-- The entries of a buffer of the host. -/
def b135 (c : Dev nD) : Mat 6144 11008 := mat (V m c main_v135)
/-- The entries of a buffer of the host. -/
def b149 (c : Dev nD) : Mat 6144 11008 := mat (V m c main_v149)
/-- The entries of a buffer of the host. -/
def b151 (c : Dev nD) : Mat 6144 11008 := mat (V m c main_v151)
/-- The entries of a buffer of the host. -/
def b159 (c : Dev nD) : Mat 6144 4096 := mat (V m c main_v159)
/-- The entries of a buffer of the host. -/
def b165 (c : Dev nD) : Mat 6144 1 := mat (V m c main_v165)
/-- The entries of a buffer of the host. -/
def b175 (c : Dev nD) : Mat 6144 4096 := mat (V m c main_v175)
/-- The entries of a buffer of the host. -/
def b177 (c : Dev nD) : Mat 6144 4096 := mat (V m c main_v177)

theorem b103_eq (c : Dev nD) : b103 m c = (rargs m c).X := by
  funext q r
  show StableHlo.after (List.flatten [hostOps0]) (fun b => m (c, b)) (Proc.devRef .tc main_v103) (ix2 q r) = _
  after_reads_at
  first
    | rfl

theorem b104_eq (c : Dev nD) : b104 m c = (rargs m c).DY := by
  funext q r
  show StableHlo.after (List.flatten [hostOps0]) (fun b => m (c, b)) (Proc.devRef .tc main_v104) (ix2 q r) = _
  after_reads_at
  first
    | rfl

theorem b177_eq (c : Dev nD) : b177 m c = (rargs m c).DY := by
  funext q r
  show StableHlo.after (List.flatten [hostOps0]) (fun b => m (c, b)) (Proc.devRef .tc main_v177) (ix2 q r) = _
  after_reads_at
  first
    | rfl

theorem b114_eq (c : Dev nD) : b114 m c = (fun q _ => rS (rargs m c).X q) := by
  funext q r
  show StableHlo.after (List.flatten [hostOps0]) (fun b => m (c, b)) (Proc.devRef .tc main_v114) (ix2 q r) = _
  after_reads_at
  first
    | rfl

theorem b119_eq (c : Dev nD) : b119 m c = (rargs m c).XN := by
  funext q r
  show StableHlo.after (List.flatten [hostOps0]) (fun b => m (c, b)) (Proc.devRef .tc main_v119) (ix2 q r) = _
  after_reads_at
  first
    | rfl

theorem b120_eq (c : Dev nD) : b120 m c = (rargs m c).XN := by
  funext q r
  show StableHlo.after (List.flatten [hostOps0]) (fun b => m (c, b)) (Proc.devRef .tc main_v120) (ix2 q r) = _
  after_reads_at
  first
    | rfl

theorem b33_eq (c : Dev nD) : b33 m c = (fun q r => (rargs m c).WG r q) := by
  funext q r
  show StableHlo.after (List.flatten [hostOps0]) (fun b => m (c, b)) (Proc.devRef .tc main_v33) (ix2 q r) = _
  after_reads_at
  first
    | exact wH_eq (a := 256) (b := 16) (g := 64) (by decide) (by decide) (by decide) (rargs m c).qg (rargs m c).zg (rargs m c).sg r q _ _ _ _ _ (show _ / 64 * 4 + _ % 64 / 16 = _ / 16 by omega) (show _ % 64 % 16 = _ % 16 by omega) rfl rfl rfl

theorem b67_eq (c : Dev nD) : b67 m c = (fun q r => (rargs m c).WU r q) := by
  funext q r
  show StableHlo.after (List.flatten [hostOps0]) (fun b => m (c, b)) (Proc.devRef .tc main_v67) (ix2 q r) = _
  after_reads_at
  first
    | exact wH_eq (a := 256) (b := 16) (g := 64) (by decide) (by decide) (by decide) (rargs m c).qu (rargs m c).zu (rargs m c).su r q _ _ _ _ _ (show _ / 64 * 4 + _ % 64 / 16 = _ / 16 by omega) (show _ % 64 % 16 = _ % 16 by omega) rfl rfl rfl

theorem b101_eq (c : Dev nD) : b101 m c = (fun q r => (rargs m c).WD r q) := by
  funext q r
  show StableHlo.after (List.flatten [hostOps0]) (fun b => m (c, b)) (Proc.devRef .tc main_v101) (ix2 q r) = _
  after_reads_at
  first
    | exact wH_eq (a := 688) (b := 43) (g := 172) (by decide) (by decide) (by decide) (rargs m c).qd (rargs m c).zd (rargs m c).sd r q _ _ _ _ _ (show _ / 64 * 4 + _ % 64 / 16 = _ / 16 by omega) (show _ % 64 % 16 = _ % 16 by omega) rfl rfl rfl

theorem b32_eq (c : Dev nD) : b32 m c = (fun q r => (rargs m c).FG r q) := by
  funext q r
  show StableHlo.after (List.flatten [hostOps0]) (fun b => m (c, b)) (Proc.devRef .tc main_v32) (ix2 q r) = _
  after_reads_at
  first
    | exact dfH_eq (a := 256) (b := 16) (g := 64) (by decide) (by decide) (by decide) (rargs m c).qg (rargs m c).zg r q _ _ _ _ (show _ / 64 * 4 + _ % 64 / 16 = _ / 16 by omega) (show _ % 64 % 16 = _ % 16 by omega) rfl rfl

theorem b66_eq (c : Dev nD) : b66 m c = (fun q r => (rargs m c).FU r q) := by
  funext q r
  show StableHlo.after (List.flatten [hostOps0]) (fun b => m (c, b)) (Proc.devRef .tc main_v66) (ix2 q r) = _
  after_reads_at
  first
    | exact dfH_eq (a := 256) (b := 16) (g := 64) (by decide) (by decide) (by decide) (rargs m c).qu (rargs m c).zu r q _ _ _ _ (show _ / 64 * 4 + _ % 64 / 16 = _ / 16 by omega) (show _ % 64 % 16 = _ % 16 by omega) rfl rfl

theorem b100_eq (c : Dev nD) : b100 m c = (fun q r => (rargs m c).FD r q) := by
  funext q r
  show StableHlo.after (List.flatten [hostOps0]) (fun b => m (c, b)) (Proc.devRef .tc main_v100) (ix2 q r) = _
  after_reads_at
  first
    | exact dfH_eq (a := 688) (b := 43) (g := 172) (by decide) (by decide) (by decide) (rargs m c).qd (rargs m c).zd r q _ _ _ _ (show _ / 64 * 4 + _ % 64 / 16 = _ / 16 by omega) (show _ % 64 % 16 = _ % 16 by omega) rfl rfl

end Cert.MlpRefIdeal.RefValue
-- ==== Proof.RV1.lean ====
module

public import proofs.«01_k».proof.Proof.Spec
public import proofs.«01_k».proof.Proof.Gen.MlpRefIdeal.Frame
public import proofs.«01_k».proof.Proof.RV0
public import Idealize.ShloMosaic.Lib.Pipeline.ValueKit
public import Idealize.ShloMosaic.Lib.Pointwise
public import Idealize.ShloMosaic.Lib.StableHlo.ReadAt

/-! # What the host of the reference computes: the two passes -/

@[expose] public section

set_option maxRecDepth 16384

noncomputable section

namespace Cert.MlpRefIdeal.RefValue

open Cert.MlpRefIdeal Cert.MlpRefIdeal.Gen Idealize.ShloMosaic Idealize.ShloMosaic.TcCoe Idealize.SL.Sem
open Cert.MlpSpec

variable (m : (ℓ : Loc nD τ sig) → Buf (Elt Ideal) ℓ)

theorem b121_eq (c : Dev nD) : b121 m c = fun q r => mulT (b120 m c) (b33 m c) q r := by
  funext q r
  simp only [b121, b120, b33, mat, V]
  rw [V0_split m 137 c]
  generalize StableHlo.after (List.take _ _) _ = W
  after_reads_at
  all_goals first
    | rfl
    | (simp only [mulT, mulN, mat, hS, dgS, duS, Ideal.logistic_def]; done)
    | (simp only [mulT, mulN, mat, hS, dgS, duS, Ideal.logistic_def]; rfl)

theorem b122_eq (c : Dev nD) : b122 m c = fun q r => mulT (b120 m c) (b67 m c) q r := by
  funext q r
  simp only [b122, b120, b67, mat, V]
  rw [V0_split m 137 c]
  generalize StableHlo.after (List.take _ _) _ = W
  after_reads_at
  all_goals first
    | rfl
    | (simp only [mulT, mulN, mat, hS, dgS, duS, Ideal.logistic_def]; done)
    | (simp only [mulT, mulN, mat, hS, dgS, duS, Ideal.logistic_def]; rfl)

theorem b130_eq (c : Dev nD) : b130 m c = fun q r => hS (b121 m c q r) (b122 m c q r) := by
  funext q r
  simp only [b130, b121, b122, mat, V]
  rw [V0_split m 139 c]
  generalize StableHlo.after (List.take _ _) _ = W
  after_reads_at
  all_goals first
    | rfl
    | (simp only [mulT, mulN, mat, hS, dgS, duS, Ideal.logistic_def]; done)
    | (simp only [mulT, mulN, mat, hS, dgS, duS, Ideal.logistic_def]; rfl)

theorem b131_eq (c : Dev nD) : b131 m c = fun q r => hS (b121 m c q r) (b122 m c q r) := by
  funext q r
  simp only [b131, b121, b122, mat, V]
  rw [V0_split m 139 c]
  generalize StableHlo.after (List.take _ _) _ = W
  after_reads_at
  all_goals first
    | rfl
    | (simp only [mulT, mulN, mat, hS, dgS, duS, Ideal.logistic_def]; done)
    | (simp only [mulT, mulN, mat, hS, dgS, duS, Ideal.logistic_def]; rfl)

theorem b134_eq (c : Dev nD) : b134 m c = fun q r => b103 m c q r + mulT (b131 m c) (b101 m c) q r := by
  funext q r
  simp only [b134, b103, b131, b101, mat, V]
  rw [V0_split m 150 c]
  generalize StableHlo.after (List.take _ _) _ = W
  after_reads_at
  all_goals first
    | rfl
    | (simp only [mulT, mulN, mat, hS, dgS, duS, Ideal.logistic_def]; done)
    | (simp only [mulT, mulN, mat, hS, dgS, duS, Ideal.logistic_def]; rfl)

theorem b135_eq (c : Dev nD) : b135 m c = fun q r => mulN (b104 m c) (b101 m c) q r := by
  funext q r
  simp only [b135, b104, b101, mat, V]
  rw [V0_split m 153 c]
  generalize StableHlo.after (List.take _ _) _ = W
  after_reads_at
  all_goals first
    | rfl
    | (simp only [mulT, mulN, mat, hS, dgS, duS, Ideal.logistic_def]; done)
    | (simp only [mulT, mulN, mat, hS, dgS, duS, Ideal.logistic_def]; rfl)

theorem b149_eq (c : Dev nD) : b149 m c = fun q r => dgS (b121 m c q r) (b122 m c q r) (b135 m c q r) := by
  funext q r
  simp only [b149, b121, b122, b135, mat, V]
  rw [V0_split m 154 c]
  generalize StableHlo.after (List.take _ _) _ = W
  after_reads_at
  all_goals first
    | rfl
    | (simp only [mulT, mulN, mat, hS, dgS, duS, Ideal.logistic_def]; done)
    | (simp only [mulT, mulN, mat, hS, dgS, duS, Ideal.logistic_def]; rfl)

theorem b151_eq (c : Dev nD) : b151 m c = fun q r => duS (b121 m c q r) (b135 m c q r) := by
  funext q r
  simp only [b151, b121, b135, mat, V]
  rw [V0_split m 154 c]
  generalize StableHlo.after (List.take _ _) _ = W
  after_reads_at
  all_goals first
    | rfl
    | (simp only [mulT, mulN, mat, hS, dgS, duS, Ideal.logistic_def]; done)
    | (simp only [mulT, mulN, mat, hS, dgS, duS, Ideal.logistic_def]; rfl)

theorem b159_eq (c : Dev nD) : b159 m c = fun q r => (mulN (b149 m c) (b33 m c) q r + mulN (b151 m c) (b67 m c) q r) * (rargs m c).W r := by
  funext q r
  simp only [b159, b149, b151, b33, b67, mat, V]
  rw [show (rargs m c).W r = StableHlo.after (hostOps0 (F := Ideal)) (fun b => m (c, b)) (Proc.devRef .tc main_arg2) (ix1 r) from (congrFun (V_main_arg2 m c) (ix1 r)).symm]
  rw [V0_split m 174 c]
  generalize StableHlo.after (List.take _ _) _ = W
  after_reads_at
  all_goals first
    | rfl
    | (simp only [mulT, mulN, mat, hS, dgS, duS, Ideal.logistic_def]; done)
    | (simp only [mulT, mulN, mat, hS, dgS, duS, Ideal.logistic_def]; rfl)

theorem b165_eq (c : Dev nD) : b165 m c = fun q r => b114 m c q r * Ideal.div (∑ x : Fin 4096, b159 m c q x * b103 m c q x) k4096 := by
  funext q r
  simp only [b165, b114, b159, b103, mat, V]
  rw [V0_split m 182 c]
  generalize StableHlo.after (List.take _ _) _ = W
  after_reads_at
  all_goals first
    | rfl
    | (obtain rfl : r = 0 := Subsingleton.elim _ _)
    | (simp only [mulT, mulN, mat, hS, dgS, duS, Ideal.logistic_def]; done)
    | (simp only [mulT, mulN, mat, hS, dgS, duS, Ideal.logistic_def]; rfl)

theorem b175_eq (c : Dev nD) : b175 m c = fun q r => b104 m c q r + b114 m c q 0 * (b159 m c q r - b103 m c q r * b114 m c q 0 * b165 m c q 0) := by
  funext q r
  simp only [b175, b104, b114, b159, b103, b165, mat, V]
  rw [V0_split m 190 c]
  generalize StableHlo.after (List.take _ _) _ = W
  after_reads_at
  all_goals first
    | rfl
    | (simp only [mulT, mulN, mat, hS, dgS, duS, Ideal.logistic_def]; done)
    | (simp only [mulT, mulN, mat, hS, dgS, duS, Ideal.logistic_def]; rfl)

theorem v176_eq (c : Dev nD) (q : Fin 6144) : V m c main_v176 (ix1 q) = b165 m c q 0 := by
  simp only [b165, mat, V]
  rw [V0_split m 190 c]
  generalize StableHlo.after (List.take _ _) _ = W
  after_reads_at

end Cert.MlpRefIdeal.RefValue
-- ==== Proof.RV2.lean ====
module

public import proofs.«01_k».proof.Proof.Spec
public import proofs.«01_k».proof.Proof.Gen.MlpRefIdeal.Frame
public import proofs.«01_k».proof.Proof.RV1
public import Idealize.ShloMosaic.Lib.Pipeline.ValueKit
public import Idealize.ShloMosaic.Lib.Pointwise
public import Idealize.ShloMosaic.Lib.StableHlo.ReadAt

/-! # The values the host of the reference computes -/

@[expose] public section

set_option maxRecDepth 16384

noncomputable section

namespace Cert.MlpRefIdeal.RefValue

open Cert.MlpRefIdeal Cert.MlpRefIdeal.Gen Idealize.ShloMosaic Idealize.ShloMosaic.TcCoe Idealize.SL.Sem
open Cert.MlpSpec

variable (m : (ℓ : Loc nD τ sig) → Buf (Elt Ideal) ℓ)

theorem b121_val (c : Dev nD) : b121 m c = mulN (rargs m c).XN (rargs m c).WG := by
  rw [b121_eq, b120_eq, b33_eq]
  first
    | rfl

theorem b122_val (c : Dev nD) : b122 m c = mulN (rargs m c).XN (rargs m c).WU := by
  rw [b122_eq, b120_eq, b67_eq]
  first
    | rfl

theorem b130_val (c : Dev nD) : b130 m c = (rargs m c).HH := by
  rw [b130_eq, b121_val, b122_val]
  first
    | rfl

theorem b131_val (c : Dev nD) : b131 m c = (rargs m c).HH := by
  rw [b131_eq, b121_val, b122_val]
  first
    | rfl

theorem b134_val (c : Dev nD) : b134 m c = (rargs m c).Y := by
  rw [b134_eq, b103_eq, b131_val, b101_eq]
  first
    | rfl

theorem b135_val (c : Dev nD) : b135 m c = mulT (rargs m c).DY (rargs m c).WD := by
  rw [b135_eq, b104_eq, b101_eq]
  first
    | rfl

theorem b149_val (c : Dev nD) : b149 m c = (rargs m c).DG := by
  rw [b149_eq, b121_val, b122_val, b135_val]
  first
    | rfl

theorem b151_val (c : Dev nD) : b151 m c = (rargs m c).DU := by
  rw [b151_eq, b121_val, b135_val]
  first
    | rfl

theorem b159_val (c : Dev nD) : b159 m c = (fun q r => (rargs m c).A q r * (rargs m c).W r) := by
  rw [b159_eq, b149_val, b151_val, b33_eq, b67_eq]
  first
    | rfl

theorem b165_val (c : Dev nD) : b165 m c = (fun q _ => (rargs m c).C q) := by
  rw [b165_eq, b114_eq, b159_val, b103_eq]
  first
    | rfl

theorem b175_val (c : Dev nD) : b175 m c = (rargs m c).DX := by
  rw [b175_eq, b104_eq, b114_eq, b159_val, b103_eq, b165_val]
  first
    | rfl

end Cert.MlpRefIdeal.RefValue
-- ==== Proof.RO.lean ====
module

public import proofs.«01_k».proof.Proof.Spec
public import proofs.«01_k».proof.Proof.Gen.MlpRefIdeal.Frame
public import proofs.«01_k».proof.Proof.RC
public import Idealize.ShloMosaic.Lib.VecWindow
public import proofs.«01_k».proof.Proof.RV2
public import Idealize.ShloMosaic.Lib.Pipeline.ValueKit
public import Idealize.ShloMosaic.Lib.Pointwise
public import Idealize.ShloMosaic.Lib.StableHlo.ReadAt

/-! # What the region of the reference leaves, from its blocks -/

@[expose] public section

set_option maxRecDepth 16384

noncomputable section

namespace Cert.MlpRefIdeal.RefValue

open Cert.MlpRefIdeal Cert.MlpRefIdeal.Gen Idealize.ShloMosaic Idealize.ShloMosaic.TcCoe Idealize.SL.Sem
open Cert.MlpSpec

variable (m : (ℓ : Loc nD τ sig) → Buf (Elt Ideal) ℓ)

theorem ld0 (x : Vec Ideal S6144x4096 .f32) : View.ld x r0_0 = x := funext fun z => congrArg x (Rect.emb_unit_full (s := S6144x4096) inb_S6144x4096_S6144x4096_0_0 z)

theorem ld1 (x : Vec Ideal S6144x11008 .f32) : View.ld x r0_1 = x := funext fun z => congrArg x (Rect.emb_unit_full (s := S6144x11008) inb_S6144x11008_S6144x11008_0_0 z)

theorem cast5 (x : Vec Ideal S6144x4096 .f32) : k0_pay5 (F := Ideal) x = x := by
  funext y
  unfold k0_pay5
  idx_vars y
  pointwise

theorem cast6 (x : Vec Ideal S6144x11008 .f32) : k0_pay6 (F := Ideal) x = x := by
  funext y
  unfold k0_pay6
  idx_vars y
  pointwise

theorem cast7 (x : Vec Ideal S6144x11008 .f32) : k0_pay7 (F := Ideal) x = x := by
  funext y
  unfold k0_pay7
  idx_vars y
  pointwise

theorem off0 : (![0, 0] : Fin 2 → ℕ) = fun _ => 0 := by
  funext a
  fin_cases a <;> rfl

theorem arr2_at {a b : ℕ} (M : Mat a b) (y z : (⟨2, ![a, b]⟩ : Shape).Idx) (h0 : (z 0).val = (y 0).val) (h1 : (z 1).val = (y 1).val) : arr2 M y = arr2 M z := by
  unfold arr2
  exact congr (congrArg M (Fin.ext h0.symm)) (Fin.ext h1.symm)

theorem o5 (x0 : Vec Ideal S6144x4096 .f32) (x1 : Vec Ideal S6144x11008 .f32) (x2 : Vec Ideal S6144x4096 .f32) (x3 x4 : Vec Ideal S6144x11008 .f32) : out0_5 x0 x1 x2 x3 x4 = arr2 (codeM (mat x0)) := by
  unfold out0_5
  rw [View.canon_unit_zero off0]
  rw [ld0]
  exact arr2_ext fun q r => pay9_eq _ q r

theorem o6 (x0 : Vec Ideal S6144x4096 .f32) (x1 : Vec Ideal S6144x11008 .f32) (x2 : Vec Ideal S6144x4096 .f32) (x3 x4 : Vec Ideal S6144x11008 .f32) : out0_6 x0 x1 x2 x3 x4 = arr2 (scaleM (mat x0)) := by
  unfold out0_6
  rw [View.canon_unit_zero off0]
  rw [ld0]
  exact arr2_ext fun q r => pay8_eq _ q r

theorem o7 (x0 : Vec Ideal S6144x4096 .f32) (x1 : Vec Ideal S6144x11008 .f32) (x2 : Vec Ideal S6144x4096 .f32) (x3 x4 : Vec Ideal S6144x11008 .f32) : out0_7 x0 x1 x2 x3 x4 = arr2 (codeM (mat x1)) := by
  unfold out0_7
  rw [View.canon_unit_zero off0]
  rw [ld1]
  exact arr2_ext fun q r => pay13_eq _ q r

theorem o8 (x0 : Vec Ideal S6144x4096 .f32) (x1 : Vec Ideal S6144x11008 .f32) (x2 : Vec Ideal S6144x4096 .f32) (x3 x4 : Vec Ideal S6144x11008 .f32) : out0_8 x0 x1 x2 x3 x4 = arr2 (scaleM (mat x1)) := by
  unfold out0_8
  rw [View.canon_unit_zero off0]
  rw [ld1]
  exact arr2_ext fun q r => pay10_eq _ q r

theorem o9 (x0 : Vec Ideal S6144x4096 .f32) (x1 : Vec Ideal S6144x11008 .f32) (x2 : Vec Ideal S6144x4096 .f32) (x3 x4 : Vec Ideal S6144x11008 .f32) : out0_9 x0 x1 x2 x3 x4 = arr2 (codeM (mat x2)) := by
  unfold out0_9
  rw [View.canon_unit_zero off0]
  unfold k0_pay22
  rw [ld0, cast5]
  exact arr2_ext fun q r => pay15_eq _ q r

theorem o10 (x0 : Vec Ideal S6144x4096 .f32) (x1 : Vec Ideal S6144x11008 .f32) (x2 : Vec Ideal S6144x4096 .f32) (x3 x4 : Vec Ideal S6144x11008 .f32) : out0_10 x0 x1 x2 x3 x4 = arr2 (scaleM (mat x2)) := by
  unfold out0_10
  rw [View.canon_unit_zero off0]
  unfold k0_pay22
  rw [ld0, cast5]
  exact arr2_ext fun q r => pay14_eq _ q r

theorem o11 (x0 : Vec Ideal S6144x4096 .f32) (x1 : Vec Ideal S6144x11008 .f32) (x2 : Vec Ideal S6144x4096 .f32) (x3 x4 : Vec Ideal S6144x11008 .f32) : out0_11 x0 x1 x2 x3 x4 = arr2 (codeM (mat x3)) := by
  unfold out0_11
  rw [View.canon_unit_zero off0]
  unfold k0_pay23
  rw [ld1, cast6]
  exact arr2_ext fun q r => pay17_eq _ q r

theorem o12 (x0 : Vec Ideal S6144x4096 .f32) (x1 : Vec Ideal S6144x11008 .f32) (x2 : Vec Ideal S6144x4096 .f32) (x3 x4 : Vec Ideal S6144x11008 .f32) : out0_12 x0 x1 x2 x3 x4 = arr2 (scaleM (mat x3)) := by
  unfold out0_12
  rw [View.canon_unit_zero off0]
  unfold k0_pay23
  rw [ld1, cast6]
  exact arr2_ext fun q r => pay16_eq _ q r

theorem o13 (x0 : Vec Ideal S6144x4096 .f32) (x1 : Vec Ideal S6144x11008 .f32) (x2 : Vec Ideal S6144x4096 .f32) (x3 x4 : Vec Ideal S6144x11008 .f32) : out0_13 x0 x1 x2 x3 x4 = arr2 (codeM (mat x4)) := by
  unfold out0_13
  rw [View.canon_unit_zero off0]
  unfold k0_pay25 k0_pay26 k0_pay27 k0_pay24
  rw [ld1, cast7]
  exact arr2_ext fun q r => pay2_eq _ q r

theorem o14 (x0 : Vec Ideal S6144x4096 .f32) (x1 : Vec Ideal S6144x11008 .f32) (x2 : Vec Ideal S6144x4096 .f32) (x3 x4 : Vec Ideal S6144x11008 .f32) : out0_14 x0 x1 x2 x3 x4 = arr2 (scaleM (mat x4)) := by
  unfold out0_14
  rw [View.canon_unit_zero off0]
  unfold k0_pay25 k0_pay26 k0_pay27 k0_pay24
  rw [ld1, cast7]
  exact arr2_ext fun q r => pay1_eq _ q r

end Cert.MlpRefIdeal.RefValue
-- ==== Proof.RF.lean ====
module

public import proofs.«01_k».proof.Proof.Spec
public import proofs.«01_k».proof.Proof.Gen.MlpRefIdeal.Frame
public import proofs.«01_k».proof.Proof.RO
public import Idealize.ShloMosaic.Lib.Pipeline.ValueKit
public import Idealize.ShloMosaic.Lib.Pointwise
public import Idealize.ShloMosaic.Lib.StableHlo.ReadAt

/-! # The arrays the region of the reference leaves -/

@[expose] public section

set_option maxRecDepth 16384

noncomputable section

namespace Cert.MlpRefIdeal.RefValue

open Cert.MlpRefIdeal Cert.MlpRefIdeal.Gen Idealize.ShloMosaic Idealize.ShloMosaic.TcCoe Idealize.SL.Sem
open Cert.MlpSpec

variable (m : (ℓ : Loc nD τ sig) → Buf (Elt Ideal) ℓ)

theorem idxs : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] := by
  decide +kernel

theorem whole0 (c : Dev nD) (t : Fin cfg0.N) : mat (a := 6144) (b := 4096) (iblk m c 0 t) = b119 m c := by
  funext q r
  show iblk m c 0 t (ix2 q r) = V m c main_v119 (ix2 q r)
  blk_ext [iblk, idxs t]

theorem whole1 (c : Dev nD) (t : Fin cfg0.N) : mat (a := 6144) (b := 11008) (iblk m c 1 t) = b130 m c := by
  funext q r
  show iblk m c 1 t (ix2 q r) = V m c main_v130 (ix2 q r)
  blk_ext [iblk, idxs t]

theorem whole2 (c : Dev nD) (t : Fin cfg0.N) : mat (a := 6144) (b := 4096) (iblk m c 2 t) = b177 m c := by
  funext q r
  show iblk m c 2 t (ix2 q r) = V m c main_v177 (ix2 q r)
  blk_ext [iblk, idxs t]

theorem whole3 (c : Dev nD) (t : Fin cfg0.N) : mat (a := 6144) (b := 11008) (iblk m c 3 t) = b149 m c := by
  funext q r
  show iblk m c 3 t (ix2 q r) = V m c main_v149 (ix2 q r)
  blk_ext [iblk, idxs t]

theorem whole4 (c : Dev nD) (t : Fin cfg0.N) : mat (a := 6144) (b := 11008) (iblk m c 4 t) = b151 m c := by
  funext q r
  show iblk m c 4 t (ix2 q r) = V m c main_v151 (ix2 q r)
  blk_ext [iblk, idxs t]

theorem final5 (c : Dev nD) : (dats m 0 c).arrAt 5 cfg0.N = arr2 (codeM (rargs m c).XN) := by
  refine (dats m 0 c).arrAt_eq_of_covers 5 _ (by decide +kernel) fun t hf y => ?_
  blk_simp
  rw [after0_5, o5, whole0, b119_eq]
  refine arr2_at _ _ _ ?_ ?_ <;> blk_simp [idxs t]

theorem final6 (c : Dev nD) : (dats m 0 c).arrAt 6 cfg0.N = arr2 (scaleM (rargs m c).XN) := by
  refine (dats m 0 c).arrAt_eq_of_covers 6 _ (by decide +kernel) fun t hf y => ?_
  blk_simp
  rw [after0_6, o6, whole0, b119_eq]
  refine arr2_at _ _ _ ?_ ?_ <;> blk_simp [idxs t]

theorem final7 (c : Dev nD) : (dats m 0 c).arrAt 7 cfg0.N = arr2 (codeM (rargs m c).HH) := by
  refine (dats m 0 c).arrAt_eq_of_covers 7 _ (by decide +kernel) fun t hf y => ?_
  blk_simp
  rw [after0_7, o7, whole1, b130_val]
  refine arr2_at _ _ _ ?_ ?_ <;> blk_simp [idxs t]

theorem final8 (c : Dev nD) : (dats m 0 c).arrAt 8 cfg0.N = arr2 (scaleM (rargs m c).HH) := by
  refine (dats m 0 c).arrAt_eq_of_covers 8 _ (by decide +kernel) fun t hf y => ?_
  blk_simp
  rw [after0_8, o8, whole1, b130_val]
  refine arr2_at _ _ _ ?_ ?_ <;> blk_simp [idxs t]

theorem final9 (c : Dev nD) : (dats m 0 c).arrAt 9 cfg0.N = arr2 (codeM (rargs m c).DY) := by
  refine (dats m 0 c).arrAt_eq_of_covers 9 _ (by decide +kernel) fun t hf y => ?_
  blk_simp
  rw [after0_9, o9, whole2, b177_eq]
  refine arr2_at _ _ _ ?_ ?_ <;> blk_simp [idxs t]

theorem final10 (c : Dev nD) : (dats m 0 c).arrAt 10 cfg0.N = arr2 (scaleM (rargs m c).DY) := by
  refine (dats m 0 c).arrAt_eq_of_covers 10 _ (by decide +kernel) fun t hf y => ?_
  blk_simp
  rw [after0_10, o10, whole2, b177_eq]
  refine arr2_at _ _ _ ?_ ?_ <;> blk_simp [idxs t]

theorem final11 (c : Dev nD) : (dats m 0 c).arrAt 11 cfg0.N = arr2 (codeM (rargs m c).DG) := by
  refine (dats m 0 c).arrAt_eq_of_covers 11 _ (by decide +kernel) fun t hf y => ?_
  blk_simp
  rw [after0_11, o11, whole3, b149_val]
  refine arr2_at _ _ _ ?_ ?_ <;> blk_simp [idxs t]

theorem final12 (c : Dev nD) : (dats m 0 c).arrAt 12 cfg0.N = arr2 (scaleM (rargs m c).DG) := by
  refine (dats m 0 c).arrAt_eq_of_covers 12 _ (by decide +kernel) fun t hf y => ?_
  blk_simp
  rw [after0_12, o12, whole3, b149_val]
  refine arr2_at _ _ _ ?_ ?_ <;> blk_simp [idxs t]

theorem final13 (c : Dev nD) : (dats m 0 c).arrAt 13 cfg0.N = arr2 (codeM (rargs m c).DU) := by
  refine (dats m 0 c).arrAt_eq_of_covers 13 _ (by decide +kernel) fun t hf y => ?_
  blk_simp
  rw [after0_13, o13, whole4, b151_val]
  refine arr2_at _ _ _ ?_ ?_ <;> blk_simp [idxs t]

theorem final14 (c : Dev nD) : (dats m 0 c).arrAt 14 cfg0.N = arr2 (scaleM (rargs m c).DU) := by
  refine (dats m 0 c).arrAt_eq_of_covers 14 _ (by decide +kernel) fun t hf y => ?_
  blk_simp
  rw [after0_14, o14, whole4, b151_val]
  refine arr2_at _ _ _ ?_ ?_ <;> blk_simp [idxs t]

end Cert.MlpRefIdeal.RefValue
-- ==== Proof.RRun.lean ====
module

public import proofs.«01_k».proof.Proof.Spec
public import proofs.«01_k».proof.Proof.Gen.MlpRefIdeal.Frame
public import proofs.«01_k».proof.Proof.RF
public import Idealize.ShloMosaic.Lib.Pipeline.ValueKit
public import Idealize.ShloMosaic.Lib.Pointwise
public import Idealize.ShloMosaic.Lib.StableHlo.ReadAt

/-! # The run of the reference -/

@[expose] public section

set_option maxRecDepth 16384

noncomputable section

namespace Cert.MlpRefIdeal.RefValue

open Cert.MlpRefIdeal Cert.MlpRefIdeal.Gen Idealize.ShloMosaic Idealize.ShloMosaic.TcCoe Idealize.SL.Sem
open Cert.MlpSpec

variable (m : (ℓ : Loc nD τ sig) → Buf (Elt Ideal) ℓ) (ρ : Dev nD → PrngReg)

theorem v134_arr (c : Dev nD) : V m c main_v134 = arr2 (rargs m c).Y :=
  arr2_ext (a := 6144) (b := 4096) fun q r => congrFun (congrFun (b134_val m c) q) r

theorem v175_arr (c : Dev nD) : V m c main_v175 = arr2 (rargs m c).DX :=
  arr2_ext (a := 6144) (b := 4096) fun q r => congrFun (congrFun (b175_val m c) q) r

theorem v131_arr (c : Dev nD) : V m c main_v131 = arr2 (rargs m c).HH :=
  arr2_ext (a := 6144) (b := 11008) fun q r => congrFun (congrFun (b131_val m c) q) r

theorem v176_arr (c : Dev nD) : V m c main_v176 = fun y => (rargs m c).C (y 0) := by
  funext y
  refine (congrArg (V m c main_v176) (eq_ix1 (show S6144.Idx from y))).trans ?_
  refine (v176_eq m c (y 0)).trans ?_
  rw [b165_val]

variable {m} {ρ}

theorem end_y {r : PUnit × MemSt nD τ sig (Elt Ideal)} (h : Pipeline.FramePost cfgs (dats m) 0 (V m) r) (c : Dev nD) : r.2.mem ((c.tc : Thread nD τ).loc main_v134) = arr2 (rargs m c).Y :=
  ((h c).2 main_v134 (Pipeline.mem_restRefs_of main_v134 (by decide) (by decide))).trans (v134_arr m c)

theorem end_dx {r : PUnit × MemSt nD τ sig (Elt Ideal)} (h : Pipeline.FramePost cfgs (dats m) 0 (V m) r) (c : Dev nD) : r.2.mem ((c.tc : Thread nD τ).loc main_v175) = arr2 (rargs m c).DX :=
  ((h c).2 main_v175 (Pipeline.mem_restRefs_of main_v175 (by decide) (by decide))).trans (v175_arr m c)

theorem end_c {r : PUnit × MemSt nD τ sig (Elt Ideal)} (h : Pipeline.FramePost cfgs (dats m) 0 (V m) r) (c : Dev nD) : r.2.mem ((c.tc : Thread nD τ).loc main_v176) = (fun y => (rargs m c).C (y 0)) :=
  ((h c).2 main_v176 (Pipeline.mem_restRefs_of main_v176 (by decide) (by decide))).trans (v176_arr m c)

theorem end_hb {r : PUnit × MemSt nD τ sig (Elt Ideal)} (h : Pipeline.FramePost cfgs (dats m) 0 (V m) r) (c : Dev nD) : r.2.mem ((c.tc : Thread nD τ).loc main_v131) = arr2 (rargs m c).HH :=
  ((h c).2 main_v131 (Pipeline.mem_restRefs_of main_v131 (by decide) (by decide))).trans (v131_arr m c)

theorem end_w5 {r : PUnit × MemSt nD τ sig (Elt Ideal)} (h : Pipeline.FramePost cfgs (dats m) 0 (V m) r) (c : Dev nD) : r.2.mem ((c.tc : Thread nD τ).loc main_v178_0) = arr2 (codeM (rargs m c).XN) :=
  ((h c).1 5).trans (final5 m c)

theorem end_w6 {r : PUnit × MemSt nD τ sig (Elt Ideal)} (h : Pipeline.FramePost cfgs (dats m) 0 (V m) r) (c : Dev nD) : r.2.mem ((c.tc : Thread nD τ).loc main_v178_1) = arr2 (scaleM (rargs m c).XN) :=
  ((h c).1 6).trans (final6 m c)

theorem end_w7 {r : PUnit × MemSt nD τ sig (Elt Ideal)} (h : Pipeline.FramePost cfgs (dats m) 0 (V m) r) (c : Dev nD) : r.2.mem ((c.tc : Thread nD τ).loc main_v178_2) = arr2 (codeM (rargs m c).HH) :=
  ((h c).1 7).trans (final7 m c)

theorem end_w8 {r : PUnit × MemSt nD τ sig (Elt Ideal)} (h : Pipeline.FramePost cfgs (dats m) 0 (V m) r) (c : Dev nD) : r.2.mem ((c.tc : Thread nD τ).loc main_v178_3) = arr2 (scaleM (rargs m c).HH) :=
  ((h c).1 8).trans (final8 m c)

theorem end_w9 {r : PUnit × MemSt nD τ sig (Elt Ideal)} (h : Pipeline.FramePost cfgs (dats m) 0 (V m) r) (c : Dev nD) : r.2.mem ((c.tc : Thread nD τ).loc main_v178_4) = arr2 (codeM (rargs m c).DY) :=
  ((h c).1 9).trans (final9 m c)

theorem end_w10 {r : PUnit × MemSt nD τ sig (Elt Ideal)} (h : Pipeline.FramePost cfgs (dats m) 0 (V m) r) (c : Dev nD) : r.2.mem ((c.tc : Thread nD τ).loc main_v178_5) = arr2 (scaleM (rargs m c).DY) :=
  ((h c).1 10).trans (final10 m c)

theorem end_w11 {r : PUnit × MemSt nD τ sig (Elt Ideal)} (h : Pipeline.FramePost cfgs (dats m) 0 (V m) r) (c : Dev nD) : r.2.mem ((c.tc : Thread nD τ).loc main_v178_6) = arr2 (codeM (rargs m c).DG) :=
  ((h c).1 11).trans (final11 m c)

theorem end_w12 {r : PUnit × MemSt nD τ sig (Elt Ideal)} (h : Pipeline.FramePost cfgs (dats m) 0 (V m) r) (c : Dev nD) : r.2.mem ((c.tc : Thread nD τ).loc main_v178_7) = arr2 (scaleM (rargs m c).DG) :=
  ((h c).1 12).trans (final12 m c)

theorem end_w13 {r : PUnit × MemSt nD τ sig (Elt Ideal)} (h : Pipeline.FramePost cfgs (dats m) 0 (V m) r) (c : Dev nD) : r.2.mem ((c.tc : Thread nD τ).loc main_v178_8) = arr2 (codeM (rargs m c).DU) :=
  ((h c).1 13).trans (final13 m c)

theorem end_w14 {r : PUnit × MemSt nD τ sig (Elt Ideal)} (h : Pipeline.FramePost cfgs (dats m) 0 (V m) r) (c : Dev nD) : r.2.mem ((c.tc : Thread nD τ).loc main_v178_9) = arr2 (scaleM (rargs m c).DU) :=
  ((h c).1 14).trans (final14 m c)

theorem end_a0 {r : PUnit × MemSt nD τ sig (Elt Ideal)} (h : Pipeline.FramePost cfgs (dats m) 0 (V m) r) (c : Dev nD) : r.2.mem ((c.tc : Thread nD τ).loc main_arg0) = m ((c.tc : Thread nD τ).loc main_arg0) :=
  ((h c).2 main_arg0 (Pipeline.mem_restRefs_of main_arg0 (by decide) (by decide))).trans (V_main_arg0 m c)

theorem end_a1 {r : PUnit × MemSt nD τ sig (Elt Ideal)} (h : Pipeline.FramePost cfgs (dats m) 0 (V m) r) (c : Dev nD) : r.2.mem ((c.tc : Thread nD τ).loc main_arg1) = m ((c.tc : Thread nD τ).loc main_arg1) :=
  ((h c).2 main_arg1 (Pipeline.mem_restRefs_of main_arg1 (by decide) (by decide))).trans (V_main_arg1 m c)

theorem end_a2 {r : PUnit × MemSt nD τ sig (Elt Ideal)} (h : Pipeline.FramePost cfgs (dats m) 0 (V m) r) (c : Dev nD) : r.2.mem ((c.tc : Thread nD τ).loc main_arg2) = m ((c.tc : Thread nD τ).loc main_arg2) :=
  ((h c).2 main_arg2 (Pipeline.mem_restRefs_of main_arg2 (by decide) (by decide))).trans (V_main_arg2 m c)

theorem end_a3 {r : PUnit × MemSt nD τ sig (Elt Ideal)} (h : Pipeline.FramePost cfgs (dats m) 0 (V m) r) (c : Dev nD) : r.2.mem ((c.tc : Thread nD τ).loc main_arg3) = m ((c.tc : Thread nD τ).loc main_arg3) :=
  ((h c).2 main_arg3 (Pipeline.mem_restRefs_of main_arg3 (by decide) (by decide))).trans (V_main_arg3 m c)

theorem end_a4 {r : PUnit × MemSt nD τ sig (Elt Ideal)} (h : Pipeline.FramePost cfgs (dats m) 0 (V m) r) (c : Dev nD) : r.2.mem ((c.tc : Thread nD τ).loc main_arg4) = m ((c.tc : Thread nD τ).loc main_arg4) :=
  ((h c).2 main_arg4 (Pipeline.mem_restRefs_of main_arg4 (by decide) (by decide))).trans (V_main_arg4 m c)

theorem end_a5 {r : PUnit × MemSt nD τ sig (Elt Ideal)} (h : Pipeline.FramePost cfgs (dats m) 0 (V m) r) (c : Dev nD) : r.2.mem ((c.tc : Thread nD τ).loc main_arg5) = m ((c.tc : Thread nD τ).loc main_arg5) :=
  ((h c).2 main_arg5 (Pipeline.mem_restRefs_of main_arg5 (by decide) (by decide))).trans (V_main_arg5 m c)

theorem end_a6 {r : PUnit × MemSt nD τ sig (Elt Ideal)} (h : Pipeline.FramePost cfgs (dats m) 0 (V m) r) (c : Dev nD) : r.2.mem ((c.tc : Thread nD τ).loc main_arg6) = m ((c.tc : Thread nD τ).loc main_arg6) :=
  ((h c).2 main_arg6 (Pipeline.mem_restRefs_of main_arg6 (by decide) (by decide))).trans (V_main_arg6 m c)

theorem end_a7 {r : PUnit × MemSt nD τ sig (Elt Ideal)} (h : Pipeline.FramePost cfgs (dats m) 0 (V m) r) (c : Dev nD) : r.2.mem ((c.tc : Thread nD τ).loc main_arg7) = m ((c.tc : Thread nD τ).loc main_arg7) :=
  ((h c).2 main_arg7 (Pipeline.mem_restRefs_of main_arg7 (by decide) (by decide))).trans (V_main_arg7 m c)

theorem end_a8 {r : PUnit × MemSt nD τ sig (Elt Ideal)} (h : Pipeline.FramePost cfgs (dats m) 0 (V m) r) (c : Dev nD) : r.2.mem ((c.tc : Thread nD τ).loc main_arg8) = m ((c.tc : Thread nD τ).loc main_arg8) :=
  ((h c).2 main_arg8 (Pipeline.mem_restRefs_of main_arg8 (by decide) (by decide))).trans (V_main_arg8 m c)

theorem end_a9 {r : PUnit × MemSt nD τ sig (Elt Ideal)} (h : Pipeline.FramePost cfgs (dats m) 0 (V m) r) (c : Dev nD) : r.2.mem ((c.tc : Thread nD τ).loc main_arg9) = m ((c.tc : Thread nD τ).loc main_arg9) :=
  ((h c).2 main_arg9 (Pipeline.mem_restRefs_of main_arg9 (by decide) (by decide))).trans (V_main_arg9 m c)

theorem end_a10 {r : PUnit × MemSt nD τ sig (Elt Ideal)} (h : Pipeline.FramePost cfgs (dats m) 0 (V m) r) (c : Dev nD) : r.2.mem ((c.tc : Thread nD τ).loc main_arg10) = m ((c.tc : Thread nD τ).loc main_arg10) :=
  ((h c).2 main_arg10 (Pipeline.mem_restRefs_of main_arg10 (by decide) (by decide))).trans (V_main_arg10 m c)

theorem end_a11 {r : PUnit × MemSt nD τ sig (Elt Ideal)} (h : Pipeline.FramePost cfgs (dats m) 0 (V m) r) (c : Dev nD) : r.2.mem ((c.tc : Thread nD τ).loc main_arg11) = m ((c.tc : Thread nD τ).loc main_arg11) :=
  ((h c).2 main_arg11 (Pipeline.mem_restRefs_of main_arg11 (by decide) (by decide))).trans (V_main_arg11 m c)

theorem end_a12 {r : PUnit × MemSt nD τ sig (Elt Ideal)} (h : Pipeline.FramePost cfgs (dats m) 0 (V m) r) (c : Dev nD) : r.2.mem ((c.tc : Thread nD τ).loc main_arg12) = m ((c.tc : Thread nD τ).loc main_arg12) :=
  ((h c).2 main_arg12 (Pipeline.mem_restRefs_of main_arg12 (by decide) (by decide))).trans (V_main_arg12 m c)

theorem end_a13 {r : PUnit × MemSt nD τ sig (Elt Ideal)} (h : Pipeline.FramePost cfgs (dats m) 0 (V m) r) (c : Dev nD) : r.2.mem ((c.tc : Thread nD τ).loc main_arg13) = m ((c.tc : Thread nD τ).loc main_arg13) :=
  ((h c).2 main_arg13 (Pipeline.mem_restRefs_of main_arg13 (by decide) (by decide))).trans (V_main_arg13 m c)

theorem end_a14 {r : PUnit × MemSt nD τ sig (Elt Ideal)} (h : Pipeline.FramePost cfgs (dats m) 0 (V m) r) (c : Dev nD) : r.2.mem ((c.tc : Thread nD τ).loc main_arg14) = m ((c.tc : Thread nD τ).loc main_arg14) :=
  ((h c).2 main_arg14 (Pipeline.mem_restRefs_of main_arg14 (by decide) (by decide))).trans (V_main_arg14 m c)

theorem end_a15 {r : PUnit × MemSt nD τ sig (Elt Ideal)} (h : Pipeline.FramePost cfgs (dats m) 0 (V m) r) (c : Dev nD) : r.2.mem ((c.tc : Thread nD τ).loc main_arg15) = m ((c.tc : Thread nD τ).loc main_arg15) :=
  ((h c).2 main_arg15 (Pipeline.mem_restRefs_of main_arg15 (by decide) (by decide))).trans (V_main_arg15 m c)

theorem end_a16 {r : PUnit × MemSt nD τ sig (Elt Ideal)} (h : Pipeline.FramePost cfgs (dats m) 0 (V m) r) (c : Dev nD) : r.2.mem ((c.tc : Thread nD τ).loc main_arg16) = m ((c.tc : Thread nD τ).loc main_arg16) :=
  ((h c).2 main_arg16 (Pipeline.mem_restRefs_of main_arg16 (by decide) (by decide))).trans (V_main_arg16 m c)

theorem end_a17 {r : PUnit × MemSt nD τ sig (Elt Ideal)} (h : Pipeline.FramePost cfgs (dats m) 0 (V m) r) (c : Dev nD) : r.2.mem ((c.tc : Thread nD τ).loc main_arg17) = m ((c.tc : Thread nD τ).loc main_arg17) :=
  ((h c).2 main_arg17 (Pipeline.mem_restRefs_of main_arg17 (by decide) (by decide))).trans (V_main_arg17 m c)

theorem end_a18 {r : PUnit × MemSt nD τ sig (Elt Ideal)} (h : Pipeline.FramePost cfgs (dats m) 0 (V m) r) (c : Dev nD) : r.2.mem ((c.tc : Thread nD τ).loc main_arg18) = m ((c.tc : Thread nD τ).loc main_arg18) :=
  ((h c).2 main_arg18 (Pipeline.mem_restRefs_of main_arg18 (by decide) (by decide))).trans (V_main_arg18 m c)

theorem end_a19 {r : PUnit × MemSt nD τ sig (Elt Ideal)} (h : Pipeline.FramePost cfgs (dats m) 0 (V m) r) (c : Dev nD) : r.2.mem ((c.tc : Thread nD τ).loc main_arg19) = m ((c.tc : Thread nD τ).loc main_arg19) :=
  ((h c).2 main_arg19 (Pipeline.mem_restRefs_of main_arg19 (by decide) (by decide))).trans (V_main_arg19 m c)

theorem end_a20 {r : PUnit × MemSt nD τ sig (Elt Ideal)} (h : Pipeline.FramePost cfgs (dats m) 0 (V m) r) (c : Dev nD) : r.2.mem ((c.tc : Thread nD τ).loc main_arg20) = m ((c.tc : Thread nD τ).loc main_arg20) :=
  ((h c).2 main_arg20 (Pipeline.mem_restRefs_of main_arg20 (by decide) (by decide))).trans (V_main_arg20 m c)

theorem end_a21 {r : PUnit × MemSt nD τ sig (Elt Ideal)} (h : Pipeline.FramePost cfgs (dats m) 0 (V m) r) (c : Dev nD) : r.2.mem ((c.tc : Thread nD τ).loc main_arg21) = m ((c.tc : Thread nD τ).loc main_arg21) :=
  ((h c).2 main_arg21 (Pipeline.mem_restRefs_of main_arg21 (by decide) (by decide))).trans (V_main_arg21 m c)

variable (m) (ρ)

/-- What every run of the reference leaves: the fourteen results, and the arguments as they were. -/
theorem refRun : θ_run defs (onTc (τ := τ) (main (F := Ideal))) ⟨m, fun _ => 0, ρ⟩ (fun r => ∀ c : Dev nD,
      r.2.mem ((c.tc : Thread nD τ).loc main_v134) = arr2 (rargs m c).Y
      ∧ r.2.mem ((c.tc : Thread nD τ).loc main_v175) = arr2 (rargs m c).DX
      ∧ r.2.mem ((c.tc : Thread nD τ).loc main_v176) = (fun y => (rargs m c).C (y 0))
      ∧ r.2.mem ((c.tc : Thread nD τ).loc main_v131) = arr2 (rargs m c).HH
      ∧ r.2.mem ((c.tc : Thread nD τ).loc main_v178_0) = arr2 (codeM (rargs m c).XN)
      ∧ r.2.mem ((c.tc : Thread nD τ).loc main_v178_1) = arr2 (scaleM (rargs m c).XN)
      ∧ r.2.mem ((c.tc : Thread nD τ).loc main_v178_2) = arr2 (codeM (rargs m c).HH)
      ∧ r.2.mem ((c.tc : Thread nD τ).loc main_v178_3) = arr2 (scaleM (rargs m c).HH)
      ∧ r.2.mem ((c.tc : Thread nD τ).loc main_v178_4) = arr2 (codeM (rargs m c).DY)
      ∧ r.2.mem ((c.tc : Thread nD τ).loc main_v178_5) = arr2 (scaleM (rargs m c).DY)
      ∧ r.2.mem ((c.tc : Thread nD τ).loc main_v178_6) = arr2 (codeM (rargs m c).DG)
      ∧ r.2.mem ((c.tc : Thread nD τ).loc main_v178_7) = arr2 (scaleM (rargs m c).DG)
      ∧ r.2.mem ((c.tc : Thread nD τ).loc main_v178_8) = arr2 (codeM (rargs m c).DU)
      ∧ r.2.mem ((c.tc : Thread nD τ).loc main_v178_9) = arr2 (scaleM (rargs m c).DU)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨end_y h c, end_dx h c, end_c h c, end_hb h c, end_w5 h c, end_w6 h c, end_w7 h c, end_w8 h c, end_w9 h c, end_w10 h c, end_w11 h c, end_w12 h c, end_w13 h c, end_w14 h c, end_a0 h c, end_a1 h c, end_a2 h c, end_a3 h c, end_a4 h c, end_a5 h c, end_a6 h c, end_a7 h c, end_a8 h c, end_a9 h c, end_a10 h c, end_a11 h c, end_a12 h c, end_a13 h c, end_a14 h c, end_a15 h c, end_a16 h c, end_a17 h c, end_a18 h c, end_a19 h c, end_a20 h c, end_a21 h c⟩) (Cert.MlpRefIdeal.Gen.run_main m ρ)

end Cert.MlpRefIdeal.RefValue
-- ==== Proof.MlpClaims.lean ====
module

public import proofs.«01_k».proof.Defs
public import proofs.«01_k».proof.Proof.KernelFrames
public import proofs.«01_k».proof.Proof.KRun
public import proofs.«01_k».proof.Proof.RRun
public import Idealize.ShloMosaic.Lib.Quiescent

/-! # The claims that compare the kernel and the reference -/

@[expose] public section

set_option maxRecDepth 16384

noncomputable section

namespace Cert.Proof.MlpClaims

open Idealize.ShloMosaic Idealize.ShloMosaic.TcCoe Idealize.SL.Sem
open Cert.MlpIdeal.Region (kargs kernelRun)
open Cert.MlpRefIdeal.RefValue (rargs refRun)

/-- The reference declares no semaphore and leaves its arguments as they were. -/
theorem frame_ri : Cert.quiescent_MlpRefIdeal := fun m ρ _ => Cert.MlpRefIdeal.Gen.frame m ρ

theorem preserves : Cert.preserves_Mlp_MlpIdeal := trivial

/-- Both runs leave the same fourteen arrays: the same functions of arguments that agree. -/
theorem algebraic : Cert.algebraic_MlpIdeal_MlpRefIdeal := by
  intro m ρ m' ρ' _ hagree
  refine ⟨_, _, _, _, _, _, _, _, _, _, _, _, _, _, kernelRun m ρ, ?_⟩
  refine (θ_run Cert.MlpRefIdeal.defs _ _).mono (fun r h => ?_) (refRun m' ρ')
  intro c
  have ha : rargs m' c = kargs m c := by
    obtain ⟨e0, e1, e2, e3, e4, e5, e6, e7, e8, e9, e10, e11, e12, e13, e14, e15, e16, e17, e18, e19, e20, e21⟩ := hagree c
    unfold rargs kargs
    rw [e0, e1, e2, e3, e4, e5, e6, e7, e8, e9, e10, e11, e12, e13, e14, e15, e16, e17, e18, e19, e20, e21]
  rw [← ha]
  exact h c

end Cert.Proof.MlpClaims
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.MlpClaims
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpRefIdeal.Gen.facts,
  Cert.Proof.KernelFrames.frame_k, Cert.Proof.KernelFrames.frame_ki, MlpClaims.frame_ri, MlpClaims.preserves, MlpClaims.algebraic⟩

end Cert.Proof

end
